-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_format [hPre_in_format : Cert.Pre_in_format.Facts] (m : (ℓ : Loc Cert.KernelIdeal.nD Cert.KernelIdeal.τ Cert.KernelIdeal.sig) → Buf (Elt Ideal) ℓ) : Prop :=
  ∀ c : Dev Cert.KernelIdeal.nD,
    (Cert.Pre_in_format.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_format [hPre_in_format : Cert.Pre_in_format.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_format.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_in_format [hKernelIdeal : Cert.KernelIdeal.Facts] [hPre_in_format : Cert.Pre_in_format.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_format m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_format [hReferenceIdeal : Cert.ReferenceIdeal.Facts] [hPre_in_format : Cert.Pre_in_format.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_format m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.bf16_pair.BufferStatement Cert.KernelIdeal.S128x2x4096 Cert.KernelIdeal.S128x1x4096
  ∧ IdealRules.bf16_pair.BufferStatement Cert.KernelIdeal.S3x128x2x512 Cert.KernelIdeal.S3x128x1x512
  ∧ IdealRules.bf16_pair.BufferStatement Cert.KernelIdeal.S2048x2x512 Cert.KernelIdeal.S2048x1x512
  ∧ IdealRules.bf16_pair.Statement Cert.KernelIdeal.S256x4096 Cert.KernelIdeal.S128x4096
  ∧ IdealRules.bf16_pair.Statement Cert.KernelIdeal.S128x2x4096 Cert.KernelIdeal.S128x1x4096
  ∧ IdealRules.bf16_pair.PackStatement Cert.KernelIdeal.S8x128
  ∧ IdealRules.bf16_pair.Statement Cert.KernelIdeal.S1x8x2x128 Cert.KernelIdeal.S1x8x1x128
  ∧ IdealRules.bf16_pair.Statement Cert.KernelIdeal.S1x1x2x128 Cert.KernelIdeal.S1x1x1x128
  ∧ IdealRules.bf16_pair.Statement Cert.KernelIdeal.S2x128 Cert.KernelIdeal.S1x128
  ∧ IdealRules.bf16_pair.Statement Cert.KernelIdeal.S32x128 Cert.KernelIdeal.S16x128
  ∧ IdealRules.bf16_pair.Statement Cert.KernelIdeal.S16x2x128 Cert.KernelIdeal.S16x1x128
  ∧ IdealRules.bf16_pair.Statement Cert.KernelIdeal.S2048x2x512 Cert.KernelIdeal.S2048x1x512
  ∧ IdealRules.bf16_pair.Statement Cert.KernelIdeal.S4096x512 Cert.KernelIdeal.S2048x512

def algebraic_KernelIdeal_ReferenceIdeal_pre_in_format [hKernelIdeal : Cert.KernelIdeal.Facts] [hReferenceIdeal : Cert.ReferenceIdeal.Facts] [hPre_in_format : Cert.Pre_in_format.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_format m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v230) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_format : Cert.Pre_in_format.Facts),
    quiescent_Kernel (hKernel := hKernel)
    ∧ quiescent_KernelIdeal (hKernelIdeal := hKernelIdeal)
    ∧ quiescent_KernelIdeal_pre_in_format (hKernelIdeal := hKernelIdeal) (hPre_in_format := hPre_in_format)
    ∧ quiescent_ReferenceIdeal (hReferenceIdeal := hReferenceIdeal)
    ∧ quiescent_ReferenceIdeal_pre_in_format (hReferenceIdeal := hReferenceIdeal) (hPre_in_format := hPre_in_format)
    ∧ preserves_Kernel_KernelIdeal
    ∧ algebraic_KernelIdeal_ReferenceIdeal_pre_in_format (hKernelIdeal := hKernelIdeal) (hReferenceIdeal := hReferenceIdeal) (hPre_in_format := hPre_in_format)
-- ==== Pre_in_format.lean ====
abbrev S1x256x4096 : Shape := ⟨3, ![1, 256, 4096]⟩
abbrev S128x14336x2 : Shape := ⟨3, ![128, 14336, 2]⟩
abbrev S16x14336 : Shape := ⟨2, ![16, 14336]⟩
abbrev S256x8 : Shape := ⟨2, ![256, 8]⟩
abbrev S_ : Shape := ⟨0, ![]⟩

class Facts : Prop where
  natLt_8_32 : 8 < 32
  bcast_S_S256x8 : S_.BroadcastsInDim S256x8 (![] : Fin 0 → Fin S256x8.rank)
  natLt_16_32 : 16 < 32
  bcast_S_S16x14336 : S_.BroadcastsInDim S16x14336 (![] : Fin 0 → Fin S16x14336.rank)
  reducesTo_S256x8_S_d0_1 : S256x8.ReducesTo [0, 1] S_
  h_S_ : 0 < S_.numel
  reducesTo_S16x14336_S_d0_1 : S16x14336.ReducesTo [0, 1] S_

variable [Facts]

def fn {F : FTy → Type} [FloatOps F] (main_arg0 : FVec F S1x256x4096 .bf16) (main_arg1 : IVec S128x14336x2 32) (main_arg2 : IVec S16x14336 16) (main_arg3 : IVec S256x8 8) : IVec S_ 1 :=
  let main_v0 : IVec S256x8 32 := (extui 32 · natLt_8_32) main_arg3
  let main_c : IVec S_ 32 := constantI S_ 32 8#32
  let main_v1 : IVec S256x8 32 := broadcastInDim S256x8 ![] bcast_S_S256x8 main_c
  let main_v2 : IVec S256x8 1 := cmpi .eq main_v0 main_v1
  let main_c_0 : IVec S_ 32 := constantI S_ 32 25#32
  let main_v3 : IVec S256x8 32 := broadcastInDim S256x8 ![] bcast_S_S256x8 main_c_0
  let main_v4 : IVec S256x8 1 := cmpi .eq main_v0 main_v3
  let main_v5 : IVec S256x8 1 := ori main_v2 main_v4
  let main_c_1 : IVec S_ 32 := constantI S_ 32 43#32
  let main_v6 : IVec S256x8 32 := broadcastInDim S256x8 ![] bcast_S_S256x8 main_c_1
  let main_v7 : IVec S256x8 1 := cmpi .eq main_v0 main_v6
  let main_v8 : IVec S256x8 1 := ori main_v5 main_v7
  let main_v9 : IVec S16x14336 32 := (extsi 32 · natLt_16_32) main_arg2
  let main_c_2 : IVec S_ 32 := constantI S_ 32 31744#32
  let main_v10 : IVec S16x14336 32 := broadcastInDim S16x14336 ![] bcast_S_S16x14336 main_c_2
  let main_v11 : IVec S16x14336 32 := andi main_v9 main_v10
  let main_c_3 : IVec S_ 32 := constantI S_ 32 31744#32
  let main_v12 : IVec S16x14336 32 := broadcastInDim S16x14336 ![] bcast_S_S16x14336 main_c_3
  let main_v13 : IVec S16x14336 1 := cmpi .ne main_v11 main_v12
  let main_c_4 : IVec S_ 1 := constantI S_ 1 1#1
  let main_v14 : IVec S_ 1 := (fun x v => Host.reduce IntOp.andi x v reducesTo_S256x8_S_d0_1 h_S_) main_v8 main_c_4
  let main_c_5 : IVec S_ 1 := constantI S_ 1 1#1
  let main_v15 : IVec S_ 1 := (fun x v => Host.reduce IntOp.andi x v reducesTo_S16x14336_S_d0_1 h_S_) main_v13 main_c_5
  let main_v16 : IVec S_ 1 := andi main_v14 main_v15
  main_v16
-- ==== Kernel.lean ====
abbrev S1x256x4096 : Shape := ⟨3, ![1, 256, 4096]⟩
abbrev S128x14336x2 : Shape := ⟨3, ![128, 14336, 2]⟩
abbrev S16x14336 : Shape := ⟨2, ![16, 14336]⟩
abbrev S256x8 : Shape := ⟨2, ![256, 8]⟩
abbrev S128x112x128x2 : Shape := ⟨4, ![128, 112, 128, 2]⟩
abbrev S128x112x2x128 : Shape := ⟨4, ![128, 112, 2, 128]⟩
abbrev S128x224x128 : Shape := ⟨3, ![128, 224, 128]⟩
abbrev S256x4096 : Shape := ⟨2, ![256, 4096]⟩
abbrev S8x256 : Shape := ⟨2, ![8, 256]⟩
abbrev S256x14336 : Shape := ⟨2, ![256, 14336]⟩
abbrev S128x8x128 : Shape := ⟨3, ![128, 8, 128]⟩
abbrev S16x512 : Shape := ⟨2, ![16, 512]⟩
abbrev S256x512 : Shape := ⟨2, ![256, 512]⟩
abbrev S2x8x128 : Shape := ⟨3, ![2, 8, 128]⟩
abbrev S128x4096 : Shape := ⟨2, ![128, 4096]⟩
abbrev S3x128x512 : Shape := ⟨3, ![3, 128, 512]⟩
abbrev S2048x512 : Shape := ⟨2, ![2048, 512]⟩
abbrev S8x128 : Shape := ⟨2, ![8, 128]⟩
abbrev S128 : Shape := ⟨1, ![128]⟩
abbrev S1x128 : Shape := ⟨2, ![1, 128]⟩
abbrev S1x8x128 : Shape := ⟨3, ![1, 8, 128]⟩
abbrev S1024x128 : Shape := ⟨2, ![1024, 128]⟩
abbrev S32x128 : Shape := ⟨2, ![32, 128]⟩
abbrev S8x128x1 : Shape := ⟨3, ![8, 128, 1]⟩
abbrev S8x1x128 : Shape := ⟨3, ![8, 1, 128]⟩
abbrev S8x8x128 : Shape := ⟨3, ![8, 8, 128]⟩
abbrev S64x128 : Shape := ⟨2, ![64, 128]⟩
abbrev S1x1x128 : Shape := ⟨3, ![1, 1, 128]⟩
abbrev S2x128 : Shape := ⟨2, ![2, 128]⟩
abbrev S16x128 : Shape := ⟨2, ![16, 128]⟩
abbrev S4096x512 : Shape := ⟨2, ![4096, 512]⟩

abbrev nBuf : Space → Nat
  | .hbm => 11
  | .vmem => 12
  | .smem => 0
  | _ => 0

abbrev bufTy : (tb : Table) → Fin (tcTables nBuf tb) → BufTy
  | .hbm, ⟨0, _⟩ => ⟨S1x256x4096, .bf16⟩
  | .hbm, ⟨1, _⟩ => ⟨S128x14336x2, .i32⟩
  | .hbm, ⟨2, _⟩ => ⟨S16x14336, .i16⟩
  | .hbm, ⟨3, _⟩ => ⟨S256x8, .i8⟩
  | .hbm, ⟨4, _⟩ => ⟨S128x112x128x2, .i32⟩
  | .hbm, ⟨5, _⟩ => ⟨S128x112x2x128, .i32⟩
  | .hbm, ⟨6, _⟩ => ⟨S128x224x128, .i32⟩
  | .hbm, ⟨7, _⟩ => ⟨S128x224x128, .i32⟩
  | .hbm, ⟨8, _⟩ => ⟨S256x4096, .bf16⟩
  | .hbm, ⟨9, _⟩ => ⟨S8x256, .i8⟩
  | .hbm, ⟨10, _⟩ => ⟨S256x14336, .bf16⟩
  | .local _ .vmem, ⟨0, _⟩ => ⟨S256x4096, .bf16⟩
  | .local _ .vmem, ⟨1, _⟩ => ⟨S8x256, .i8⟩
  | .local _ .vmem, ⟨2, _⟩ => ⟨S128x8x128, .i32⟩
  | .local _ .vmem, ⟨3, _⟩ => ⟨S128x8x128, .i32⟩
  | .local _ .vmem, ⟨4, _⟩ => ⟨S16x512, .i16⟩
  | .local _ .vmem, ⟨5, _⟩ => ⟨S16x512, .i16⟩
  | .local _ .vmem, ⟨6, _⟩ => ⟨S256x512, .bf16⟩
  | .local _ .vmem, ⟨7, _⟩ => ⟨S256x512, .bf16⟩
  | .local _ .vmem, ⟨8, _⟩ => ⟨S2x8x128, .i32⟩
  | .local _ .vmem, ⟨9, _⟩ => ⟨S128x4096, .i32⟩
  | .local _ .vmem, ⟨10, _⟩ => ⟨S3x128x512, .i32⟩
  | .local _ .vmem, ⟨11, _⟩ => ⟨S2048x512, .i32⟩
  | _, _ => ⟨S1x256x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [BitOps F]

abbrev grid0 : Pipeline.Grid := ⟨1, ![29], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_33 : BitVec 32 := 0#32
  let c16_i32 : BitVec 32 := 16#32
  let v84 : BitVec 32 := Scalar.addi c0_i32_33 c16_i32
  let c1_i32_34 : BitVec 32 := 1#32
  ⟨c0_i32_33, v84, c1_i32_34⟩
@[reducible] def k0_t2_loop : Scf.Loop 32 :=
  let c0_i32_38 : BitVec 32 := 0#32
  let c4_i32_39 : BitVec 32 := 4#32
  let v87 : BitVec 32 := Scalar.addi c0_i32_38 c4_i32_39
  let c1_i32_40 : BitVec 32 := 1#32
  ⟨c0_i32_38, v87, c1_i32_40⟩
def k0_mult1 (k0_t2 : Fin k0_t2_loop.trips) : BitVec 32 :=
  let c0_i32_43 : BitVec 32 := 0#32
  let c0_i32_38 : BitVec 32 := 0#32
  let c1_i32_40 : BitVec 32 := 1#32
  let arg11 : BitVec 32 := Scf.iv c0_i32_38 c1_i32_40 k0_t2
  let c1_i32_42 : BitVec 32 := 1#32
  let v88 : BitVec 32 := Scalar.muli arg11 c1_i32_42
  let v89 : BitVec 32 := Scalar.addi c0_i32_43 v88
  let c128_i32 : BitVec 32 := 128#32
  let v90 : BitVec 32 := Scalar.muli v89 c128_i32
  v90
def k0_off1 (k0_t1 : Fin k0_t1_loop.trips) (k0_t2 : Fin k0_t2_loop.trips) : Fin 2 → Nat :=
  let c0_i32_37 : BitVec 32 := 0#32
  let c0_i32_33 : BitVec 32 := 0#32
  let c1_i32_34 : BitVec 32 := 1#32
  let arg10 : BitVec 32 := Scf.iv c0_i32_33 c1_i32_34 k0_t1
  let c1_i32_36 : BitVec 32 := 1#32
  let v85 : BitVec 32 := Scalar.muli arg10 c1_i32_36
  let v86 : BitVec 32 := Scalar.addi c0_i32_37 v85
  let v92 : Index := Scalar.indexCast v86
  let c0_i32_43 : BitVec 32 := 0#32
  let c0_i32_38 : BitVec 32 := 0#32
  let c1_i32_40 : BitVec 32 := 1#32
  let arg11 : BitVec 32 := Scf.iv c0_i32_38 c1_i32_40 k0_t2
  let c1_i32_42 : BitVec 32 := 1#32
  let v88 : BitVec 32 := Scalar.muli arg11 c1_i32_42
  let v89 : BitVec 32 := Scalar.addi c0_i32_43 v88
  let c128_i32 : BitVec 32 := 128#32
  let v90 : BitVec 32 := Scalar.muli v89 c128_i32
  let v91 : BitVec 32 := v90
  let v93 : Index := Scalar.indexCast v91
  ![v92.toNat, v93.toNat]
def k0_off2 (k0_t1 : Fin k0_t1_loop.trips) (k0_t2 : Fin k0_t2_loop.trips) : Fin 2 → Nat :=
  let c0_i32_37 : BitVec 32 := 0#32
  let c0_i32_33 : BitVec 32 := 0#32
  let c1_i32_34 : BitVec 32 := 1#32
  let arg10 : BitVec 32 := Scf.iv c0_i32_33 c1_i32_34 k0_t1
  let c1_i32_36 : BitVec 32 := 1#32
  let v85 : BitVec 32 := Scalar.muli arg10 c1_i32_36
  let v86 : BitVec 32 := Scalar.addi c0_i32_37 v85
  let c8_i32_47 : BitVec 32 := 8#32
  let v114 : BitVec 32 := Scalar.muli v86 c8_i32_47
  let c2_i32_48 : BitVec 32 := 2#32
  let v115 : BitVec 32 := Scalar.muli v114 c2_i32_48
  let c4_i32_49 : BitVec 32 := 4#32
  let v116 : BitVec 32 := Scalar.muli v115 c4_i32_49
  let c2_i32_50 : BitVec 32 := 2#32
  let c0_i32_43 : BitVec 32 := 0#32
  let c0_i32_38 : BitVec 32 := 0#32
  let c1_i32_40 : BitVec 32 := 1#32
  let arg11 : BitVec 32 := Scf.iv c0_i32_38 c1_i32_40 k0_t2
  let c1_i32_42 : BitVec 32 := 1#32
  let v88 : BitVec 32 := Scalar.muli arg11 c1_i32_42
  let v89 : BitVec 32 := Scalar.addi c0_i32_43 v88
  let v117 : BitVec 32 := Scalar.muli c2_i32_50 v89
  let v118 : BitVec 32 := Scalar.addi v116 v117
  let v120 : Index := Scalar.indexCast v118
  let c0_51 : Index := 0#32
  ![v120.toNat, 0]
def k0_off3 (k0_t1 : Fin k0_t1_loop.trips) (k0_t2 : Fin k0_t2_loop.trips) : Fin 2 → Nat :=
  let c0_i32_37 : BitVec 32 := 0#32
  let c0_i32_33 : BitVec 32 := 0#32
  let c1_i32_34 : BitVec 32 := 1#32
  let arg10 : BitVec 32 := Scf.iv c0_i32_33 c1_i32_34 k0_t1
  let c1_i32_36 : BitVec 32 := 1#32
  let v85 : BitVec 32 := Scalar.muli arg10 c1_i32_36
  let v86 : BitVec 32 := Scalar.addi c0_i32_37 v85
  let c8_i32_47 : BitVec 32 := 8#32
  let v114 : BitVec 32 := Scalar.muli v86 c8_i32_47
  let c2_i32_48 : BitVec 32 := 2#32
  let v115 : BitVec 32 := Scalar.muli v114 c2_i32_48
  let c4_i32_49 : BitVec 32 := 4#32
  let v116 : BitVec 32 := Scalar.muli v115 c4_i32_49
  let c2_i32_50 : BitVec 32 := 2#32
  let c0_i32_43 : BitVec 32 := 0#32
  let c0_i32_38 : BitVec 32 := 0#32
  let c1_i32_40 : BitVec 32 := 1#32
  let arg11 : BitVec 32 := Scf.iv c0_i32_38 c1_i32_40 k0_t2
  let c1_i32_42 : BitVec 32 := 1#32
  let v88 : BitVec 32 := Scalar.muli arg11 c1_i32_42
  let v89 : BitVec 32 := Scalar.addi c0_i32_43 v88
  let v117 : BitVec 32 := Scalar.muli c2_i32_50 v89
  let v118 : BitVec 32 := Scalar.addi v116 v117
  let c1_i32_52 : BitVec 32 := 1#32
  let v123 : BitVec 32 := Scalar.addi v118 c1_i32_52
  let v125 : Index := Scalar.indexCast v123
  let c0_53 : Index := 0#32
  ![v125.toNat, 0]
def k0_off4 (k0_t1 : Fin k0_t1_loop.trips) (k0_t2 : Fin k0_t2_loop.trips) : Fin 3 → Nat :=
  let c0_58 : Index := 0#32
  let c0_i32_37 : BitVec 32 := 0#32
  let c0_i32_33 : BitVec 32 := 0#32
  let c1_i32_34 : BitVec 32 := 1#32
  let arg10 : BitVec 32 := Scf.iv c0_i32_33 c1_i32_34 k0_t1
  let c1_i32_36 : BitVec 32 := 1#32
  let v85 : BitVec 32 := Scalar.muli arg10 c1_i32_36
  let v86 : BitVec 32 := Scalar.addi c0_i32_37 v85
  let c8_i32_57 : BitVec 32 := 8#32
  let v138 : BitVec 32 := Scalar.muli v86 c8_i32_57
  let v139 : Index := Scalar.indexCast v138
  let c0_i32_43 : BitVec 32 := 0#32
  let c0_i32_38 : BitVec 32 := 0#32
  let c1_i32_40 : BitVec 32 := 1#32
  let arg11 : BitVec 32 := Scf.iv c0_i32_38 c1_i32_40 k0_t2
  let c1_i32_42 : BitVec 32 := 1#32
  let v88 : BitVec 32 := Scalar.muli arg11 c1_i32_42
  let v89 : BitVec 32 := Scalar.addi c0_i32_43 v88
  let c128_i32 : BitVec 32 := 128#32
  let v90 : BitVec 32 := Scalar.muli v89 c128_i32
  let v91 : BitVec 32 := v90
  let v140 : Index := Scalar.indexCast v91
  ![0, v139.toNat, v140.toNat]
def k0_off5 (k0_t1 : Fin k0_t1_loop.trips) (k0_t2 : Fin k0_t2_loop.trips) : Fin 3 → Nat :=
  let c1_61 : Index := 1#32
  let c0_i32_37 : BitVec 32 := 0#32
  let c0_i32_33 : BitVec 32 := 0#32
  let c1_i32_34 : BitVec 32 := 1#32
  let arg10 : BitVec 32 := Scf.iv c0_i32_33 c1_i32_34 k0_t1
  let c1_i32_36 : BitVec 32 := 1#32
  let v85 : BitVec 32 := Scalar.muli arg10 c1_i32_36
  let v86 : BitVec 32 := Scalar.addi c0_i32_37 v85
  let c8_i32_60 : BitVec 32 := 8#32
  let v149 : BitVec 32 := Scalar.muli v86 c8_i32_60
  let v150 : Index := Scalar.indexCast v149
  let c0_i32_43 : BitVec 32 := 0#32
  let c0_i32_38 : BitVec 32 := 0#32
  let c1_i32_40 : BitVec 32 := 1#32
  let arg11 : BitVec 32 := Scf.iv c0_i32_38 c1_i32_40 k0_t2
  let c1_i32_42 : BitVec 32 := 1#32
  let v88 : BitVec 32 := Scalar.muli arg11 c1_i32_42
  let v89 : BitVec 32 := Scalar.addi c0_i32_43 v88
  let c128_i32 : BitVec 32 := 128#32
  let v90 : BitVec 32 := Scalar.muli v89 c128_i32
  let v91 : BitVec 32 := v90
  let v151 : Index := Scalar.indexCast v91
  ![1, v150.toNat, v151.toNat]
def k0_off6 (k0_t1 : Fin k0_t1_loop.trips) (k0_t2 : Fin k0_t2_loop.trips) : Fin 3 → Nat :=
  let c2 : Index := 2#32
  let c0_i32_37 : BitVec 32 := 0#32
  let c0_i32_33 : BitVec 32 := 0#32
  let c1_i32_34 : BitVec 32 := 1#32
  let arg10 : BitVec 32 := Scf.iv c0_i32_33 c1_i32_34 k0_t1
  let c1_i32_36 : BitVec 32 := 1#32
  let v85 : BitVec 32 := Scalar.muli arg10 c1_i32_36
  let v86 : BitVec 32 := Scalar.addi c0_i32_37 v85
  let c8_i32_63 : BitVec 32 := 8#32
  let v160 : BitVec 32 := Scalar.muli v86 c8_i32_63
  let v161 : Index := Scalar.indexCast v160
  let c0_i32_43 : BitVec 32 := 0#32
  let c0_i32_38 : BitVec 32 := 0#32
  let c1_i32_40 : BitVec 32 := 1#32
  let arg11 : BitVec 32 := Scf.iv c0_i32_38 c1_i32_40 k0_t2
  let c1_i32_42 : BitVec 32 := 1#32
  let v88 : BitVec 32 := Scalar.muli arg11 c1_i32_42
  let v89 : BitVec 32 := Scalar.addi c0_i32_43 v88
  let c128_i32 : BitVec 32 := 128#32
  let v90 : BitVec 32 := Scalar.muli v89 c128_i32
  let v91 : BitVec 32 := v90
  let v162 : Index := Scalar.indexCast v91
  ![2, v161.toNat, v162.toNat]
def k0_off7 (k0_t1 : Fin k0_t1_loop.trips) (k0_t2 : Fin k0_t2_loop.trips) (c0_i32_74 : BitVec 32) (c0_i32_75 : BitVec 32) : Fin 3 → Nat :=
  let c0_76 : Index := 0#32
  let c0_i32_37 : BitVec 32 := 0#32
  let c0_i32_33 : BitVec 32 := 0#32
  let c1_i32_34 : BitVec 32 := 1#32
  let arg10 : BitVec 32 := Scf.iv c0_i32_33 c1_i32_34 k0_t1
  let c1_i32_36 : BitVec 32 := 1#32
  let v85 : BitVec 32 := Scalar.muli arg10 c1_i32_36
  let v86 : BitVec 32 := Scalar.addi c0_i32_37 v85
  let c8_i32_73 : BitVec 32 := 8#32
  let v228 : BitVec 32 := Scalar.muli v86 c8_i32_73
  let v229 : BitVec 32 := Scalar.addi v228 c0_i32_74
  let v230 : BitVec 32 := Scalar.addi v229 c0_i32_75
  let v231 : Index := Scalar.indexCast v230
  let c0_i32_43 : BitVec 32 := 0#32
  let c0_i32_38 : BitVec 32 := 0#32
  let c1_i32_40 : BitVec 32 := 1#32
  let arg11 : BitVec 32 := Scf.iv c0_i32_38 c1_i32_40 k0_t2
  let c1_i32_42 : BitVec 32 := 1#32
  let v88 : BitVec 32 := Scalar.muli arg11 c1_i32_42
  let v89 : BitVec 32 := Scalar.addi c0_i32_43 v88
  let c128_i32 : BitVec 32 := 128#32
  let v90 : BitVec 32 := Scalar.muli v89 c128_i32
  let v91 : BitVec 32 := v90
  let v232 : Index := Scalar.indexCast v91
  ![0, v231.toNat, v232.toNat]
def k0_off8 (k0_t1 : Fin k0_t1_loop.trips) (k0_t2 : Fin k0_t2_loop.trips) (c0_i32_74 : BitVec 32) (c0_i32_75 : BitVec 32) : Fin 3 → Nat :=
  let c2_77 : Index := 2#32
  let c0_i32_37 : BitVec 32 := 0#32
  let c0_i32_33 : BitVec 32 := 0#32
  let c1_i32_34 : BitVec 32 := 1#32
  let arg10 : BitVec 32 := Scf.iv c0_i32_33 c1_i32_34 k0_t1
  let c1_i32_36 : BitVec 32 := 1#32
  let v85 : BitVec 32 := Scalar.muli arg10 c1_i32_36
  let v86 : BitVec 32 := Scalar.addi c0_i32_37 v85
  let c8_i32_73 : BitVec 32 := 8#32
  let v228 : BitVec 32 := Scalar.muli v86 c8_i32_73
  let v229 : BitVec 32 := Scalar.addi v228 c0_i32_74
  let v230 : BitVec 32 := Scalar.addi v229 c0_i32_75
  let v239 : Index := Scalar.indexCast v230
  let c0_i32_43 : BitVec 32 := 0#32
  let c0_i32_38 : BitVec 32 := 0#32
  let c1_i32_40 : BitVec 32 := 1#32
  let arg11 : BitVec 32 := Scf.iv c0_i32_38 c1_i32_40 k0_t2
  let c1_i32_42 : BitVec 32 := 1#32
  let v88 : BitVec 32 := Scalar.muli arg11 c1_i32_42
  let v89 : BitVec 32 := Scalar.addi c0_i32_43 v88
  let c128_i32 : BitVec 32 := 128#32
  let v90 : BitVec 32 := Scalar.muli v89 c128_i32
  let v91 : BitVec 32 := v90
  let v240 : Index := Scalar.indexCast v91
  ![2, v239.toNat, v240.toNat]
def k0_off9 (k0_t1 : Fin k0_t1_loop.trips) (k0_t2 : Fin k0_t2_loop.trips) (c0_i32_74 : BitVec 32) (c0_i32_75 : BitVec 32) : Fin 3 → Nat :=
  let c1_78 : Index := 1#32
  let c0_i32_37 : BitVec 32 := 0#32
  let c0_i32_33 : BitVec 32 := 0#32
  let c1_i32_34 : BitVec 32 := 1#32
  let arg10 : BitVec 32 := Scf.iv c0_i32_33 c1_i32_34 k0_t1
  let c1_i32_36 : BitVec 32 := 1#32
  let v85 : BitVec 32 := Scalar.muli arg10 c1_i32_36
  let v86 : BitVec 32 := Scalar.addi c0_i32_37 v85
  let c8_i32_73 : BitVec 32 := 8#32
  let v228 : BitVec 32 := Scalar.muli v86 c8_i32_73
  let v229 : BitVec 32 := Scalar.addi v228 c0_i32_74
  let v230 : BitVec 32 := Scalar.addi v229 c0_i32_75
  let v248 : Index := Scalar.indexCast v230
  let c0_i32_43 : BitVec 32 := 0#32
  let c0_i32_38 : BitVec 32 := 0#32
  let c1_i32_40 : BitVec 32 := 1#32
  let arg11 : BitVec 32 := Scf.iv c0_i32_38 c1_i32_40 k0_t2
  let c1_i32_42 : BitVec 32 := 1#32
  let v88 : BitVec 32 := Scalar.muli arg11 c1_i32_42
  let v89 : BitVec 32 := Scalar.addi c0_i32_43 v88
  let c128_i32 : BitVec 32 := 128#32
  let v90 : BitVec 32 := Scalar.muli v89 c128_i32
  let v91 : BitVec 32 := v90
  let v249 : Index := Scalar.indexCast v91
  ![1, v248.toNat, v249.toNat]
def k0_off10 (k0_t1 : Fin k0_t1_loop.trips) (k0_t2 : Fin k0_t2_loop.trips) (c0_i32_74 : BitVec 32) (c0_i32_75 : BitVec 32) : Fin 2 → Nat :=
  let c16_i32_79 : BitVec 32 := 16#32
  let c0_i32_37 : BitVec 32 := 0#32
  let c0_i32_33 : BitVec 32 := 0#32
  let c1_i32_34 : BitVec 32 := 1#32
  let arg10 : BitVec 32 := Scf.iv c0_i32_33 c1_i32_34 k0_t1
  let c1_i32_36 : BitVec 32 := 1#32
  let v85 : BitVec 32 := Scalar.muli arg10 c1_i32_36
  let v86 : BitVec 32 := Scalar.addi c0_i32_37 v85
  let c8_i32_73 : BitVec 32 := 8#32
  let v228 : BitVec 32 := Scalar.muli v86 c8_i32_73
  let v229 : BitVec 32 := Scalar.addi v228 c0_i32_74
  let v230 : BitVec 32 := Scalar.addi v229 c0_i32_75
  let v262 : BitVec 32 := Scalar.muli c16_i32_79 v230
  let v263 : Index := Scalar.indexCast v262
  let c0_i32_43 : BitVec 32 := 0#32
  let c0_i32_38 : BitVec 32 := 0#32
  let c1_i32_40 : BitVec 32 := 1#32
  let arg11 : BitVec 32 := Scf.iv c0_i32_38 c1_i32_40 k0_t2
  let c1_i32_42 : BitVec 32 := 1#32
  let v88 : BitVec 32 := Scalar.muli arg11 c1_i32_42
  let v89 : BitVec 32 := Scalar.addi c0_i32_43 v88
  let c128_i32 : BitVec 32 := 128#32
  let v90 : BitVec 32 := Scalar.muli v89 c128_i32
  let v91 : BitVec 32 := v90
  let v264 : Index := Scalar.indexCast v91
  ![v263.toNat, v264.toNat]
def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let c28_i32 : BitVec 32 := 28#32
  let v4 : BitVec 1 := Scalar.cmpi .slt arg0 c28_i32
  let v5 : BitVec 1 := Scalar.andi v3 v4
  let v6 : BitVec 32 := Scalar.extui v5
  let c0_i32_2 : BitVec 32 := 0#32
  let v7 : BitVec 1 := Scalar.cmpi .ne v6 c0_i32_2
  v7

@[reducible] def k0_t3_loop : Scf.Loop 32 :=
  let c0_i32_15 : BitVec 32 := 0#32
  let c16_i32 : BitVec 32 := 16#32
  let v22 : BitVec 32 := Scalar.addi c0_i32_15 c16_i32
  let c1_i32 : BitVec 32 := 1#32
  ⟨c0_i32_15, v22, c1_i32⟩
@[reducible] def k0_t4_loop : Scf.Loop 32 :=
  let c0_i32_19 : BitVec 32 := 0#32
  let c4_i32 : BitVec 32 := 4#32
  let v25 : BitVec 32 := Scalar.addi c0_i32_19 c4_i32
  let c1_i32_20 : BitVec 32 := 1#32
  ⟨c0_i32_19, v25, c1_i32_20⟩
def k0_mult2 (k0_t4 : Fin k0_t4_loop.trips) : BitVec 32 :=
  let c0_i32_23 : BitVec 32 := 0#32
  let c0_i32_19 : BitVec 32 := 0#32
  let c1_i32_20 : BitVec 32 := 1#32
  let arg11 : BitVec 32 := Scf.iv c0_i32_19 c1_i32_20 k0_t4
  let c1_i32_22 : BitVec 32 := 1#32
  let v26 : BitVec 32 := Scalar.muli arg11 c1_i32_22
  let v27 : BitVec 32 := Scalar.addi c0_i32_23 v26
  let c128_i32 : BitVec 32 := 128#32
  let v28 : BitVec 32 := Scalar.muli v27 c128_i32
  v28
def k0_off11 (k0_t3 : Fin k0_t3_loop.trips) (k0_t4 : Fin k0_t4_loop.trips) : Fin 2 → Nat :=
  let c0_i32_18 : BitVec 32 := 0#32
  let c0_i32_15 : BitVec 32 := 0#32
  let c1_i32 : BitVec 32 := 1#32
  let arg10 : BitVec 32 := Scf.iv c0_i32_15 c1_i32 k0_t3
  let c1_i32_17 : BitVec 32 := 1#32
  let v23 : BitVec 32 := Scalar.muli arg10 c1_i32_17
  let v24 : BitVec 32 := Scalar.addi c0_i32_18 v23
  let v30 : Index := Scalar.indexCast v24
  let c0_i32_23 : BitVec 32 := 0#32
  let c0_i32_19 : BitVec 32 := 0#32
  let c1_i32_20 : BitVec 32 := 1#32
  let arg11 : BitVec 32 := Scf.iv c0_i32_19 c1_i32_20 k0_t4
  let c1_i32_22 : BitVec 32 := 1#32
  let v26 : BitVec 32 := Scalar.muli arg11 c1_i32_22
  let v27 : BitVec 32 := Scalar.addi c0_i32_23 v26
  let c128_i32 : BitVec 32 := 128#32
  let v28 : BitVec 32 := Scalar.muli v27 c128_i32
  let v29 : BitVec 32 := v28
  let v31 : Index := Scalar.indexCast v29
  ![v30.toNat, v31.toNat]
def k0_off12 (k0_t3 : Fin k0_t3_loop.trips) (k0_t4 : Fin k0_t4_loop.trips) : Fin 2 → Nat :=
  let c0_i32_18 : BitVec 32 := 0#32
  let c0_i32_15 : BitVec 32 := 0#32
  let c1_i32 : BitVec 32 := 1#32
  let arg10 : BitVec 32 := Scf.iv c0_i32_15 c1_i32 k0_t3
  let c1_i32_17 : BitVec 32 := 1#32
  let v23 : BitVec 32 := Scalar.muli arg10 c1_i32_17
  let v24 : BitVec 32 := Scalar.addi c0_i32_18 v23
  let c8_i32 : BitVec 32 := 8#32
  let v52 : BitVec 32 := Scalar.muli v24 c8_i32
  let c2_i32 : BitVec 32 := 2#32
  let v53 : BitVec 32 := Scalar.muli v52 c2_i32
  let c4_i32_27 : BitVec 32 := 4#32
  let v54 : BitVec 32 := Scalar.muli v53 c4_i32_27
  let c2_i32_28 : BitVec 32 := 2#32
  let c0_i32_23 : BitVec 32 := 0#32
  let c0_i32_19 : BitVec 32 := 0#32
  let c1_i32_20 : BitVec 32 := 1#32
  let arg11 : BitVec 32 := Scf.iv c0_i32_19 c1_i32_20 k0_t4
  let c1_i32_22 : BitVec 32 := 1#32
  let v26 : BitVec 32 := Scalar.muli arg11 c1_i32_22
  let v27 : BitVec 32 := Scalar.addi c0_i32_23 v26
  let v55 : BitVec 32 := Scalar.muli c2_i32_28 v27
  let v56 : BitVec 32 := Scalar.addi v54 v55
  let v58 : Index := Scalar.indexCast v56
  let c0_29 : Index := 0#32
  ![v58.toNat, 0]
def k0_off13 (k0_t3 : Fin k0_t3_loop.trips) (k0_t4 : Fin k0_t4_loop.trips) : Fin 2 → Nat :=
  let c0_i32_18 : BitVec 32 := 0#32
  let c0_i32_15 : BitVec 32 := 0#32
  let c1_i32 : BitVec 32 := 1#32
  let arg10 : BitVec 32 := Scf.iv c0_i32_15 c1_i32 k0_t3
  let c1_i32_17 : BitVec 32 := 1#32
  let v23 : BitVec 32 := Scalar.muli arg10 c1_i32_17
  let v24 : BitVec 32 := Scalar.addi c0_i32_18 v23
  let c8_i32 : BitVec 32 := 8#32
  let v52 : BitVec 32 := Scalar.muli v24 c8_i32
  let c2_i32 : BitVec 32 := 2#32
  let v53 : BitVec 32 := Scalar.muli v52 c2_i32
  let c4_i32_27 : BitVec 32 := 4#32
  let v54 : BitVec 32 := Scalar.muli v53 c4_i32_27
  let c2_i32_28 : BitVec 32 := 2#32
  let c0_i32_23 : BitVec 32 := 0#32
  let c0_i32_19 : BitVec 32 := 0#32
  let c1_i32_20 : BitVec 32 := 1#32
  let arg11 : BitVec 32 := Scf.iv c0_i32_19 c1_i32_20 k0_t4
  let c1_i32_22 : BitVec 32 := 1#32
  let v26 : BitVec 32 := Scalar.muli arg11 c1_i32_22
  let v27 : BitVec 32 := Scalar.addi c0_i32_23 v26
  let v55 : BitVec 32 := Scalar.muli c2_i32_28 v27
  let v56 : BitVec 32 := Scalar.addi v54 v55
  let c1_i32_30 : BitVec 32 := 1#32
  let v61 : BitVec 32 := Scalar.addi v56 c1_i32_30
  let v63 : Index := Scalar.indexCast v61
  let c0_31 : Index := 0#32
  ![v63.toNat, 0]
def k0_off14 (k0_t3 : Fin k0_t3_loop.trips) (k0_t4 : Fin k0_t4_loop.trips) : Fin 3 → Nat :=
  let c0_36 : Index := 0#32
  let c0_i32_18 : BitVec 32 := 0#32
  let c0_i32_15 : BitVec 32 := 0#32
  let c1_i32 : BitVec 32 := 1#32
  let arg10 : BitVec 32 := Scf.iv c0_i32_15 c1_i32 k0_t3
  let c1_i32_17 : BitVec 32 := 1#32
  let v23 : BitVec 32 := Scalar.muli arg10 c1_i32_17
  let v24 : BitVec 32 := Scalar.addi c0_i32_18 v23
  let c8_i32_35 : BitVec 32 := 8#32
  let v76 : BitVec 32 := Scalar.muli v24 c8_i32_35
  let v77 : Index := Scalar.indexCast v76
  let c0_i32_23 : BitVec 32 := 0#32
  let c0_i32_19 : BitVec 32 := 0#32
  let c1_i32_20 : BitVec 32 := 1#32
  let arg11 : BitVec 32 := Scf.iv c0_i32_19 c1_i32_20 k0_t4
  let c1_i32_22 : BitVec 32 := 1#32
  let v26 : BitVec 32 := Scalar.muli arg11 c1_i32_22
  let v27 : BitVec 32 := Scalar.addi c0_i32_23 v26
  let c128_i32 : BitVec 32 := 128#32
  let v28 : BitVec 32 := Scalar.muli v27 c128_i32
  let v29 : BitVec 32 := v28
  let v78 : Index := Scalar.indexCast v29
  ![0, v77.toNat, v78.toNat]
def k0_off15 (k0_t3 : Fin k0_t3_loop.trips) (k0_t4 : Fin k0_t4_loop.trips) : Fin 3 → Nat :=
  let c1_39 : Index := 1#32
  let c0_i32_18 : BitVec 32 := 0#32
  let c0_i32_15 : BitVec 32 := 0#32
  let c1_i32 : BitVec 32 := 1#32
  let arg10 : BitVec 32 := Scf.iv c0_i32_15 c1_i32 k0_t3
  let c1_i32_17 : BitVec 32 := 1#32
  let v23 : BitVec 32 := Scalar.muli arg10 c1_i32_17
  let v24 : BitVec 32 := Scalar.addi c0_i32_18 v23
  let c8_i32_38 : BitVec 32 := 8#32
  let v87 : BitVec 32 := Scalar.muli v24 c8_i32_38
  let v88 : Index := Scalar.indexCast v87
  let c0_i32_23 : BitVec 32 := 0#32
  let c0_i32_19 : BitVec 32 := 0#32
  let c1_i32_20 : BitVec 32 := 1#32
  let arg11 : BitVec 32 := Scf.iv c0_i32_19 c1_i32_20 k0_t4
  let c1_i32_22 : BitVec 32 := 1#32
  let v26 : BitVec 32 := Scalar.muli arg11 c1_i32_22
  let v27 : BitVec 32 := Scalar.addi c0_i32_23 v26
  let c128_i32 : BitVec 32 := 128#32
  let v28 : BitVec 32 := Scalar.muli v27 c128_i32
  let v29 : BitVec 32 := v28
  let v89 : Index := Scalar.indexCast v29
  ![1, v88.toNat, v89.toNat]
def k0_off16 (k0_t3 : Fin k0_t3_loop.trips) (k0_t4 : Fin k0_t4_loop.trips) : Fin 3 → Nat :=
  let c2 : Index := 2#32
  let c0_i32_18 : BitVec 32 := 0#32
  let c0_i32_15 : BitVec 32 := 0#32
  let c1_i32 : BitVec 32 := 1#32
  let arg10 : BitVec 32 := Scf.iv c0_i32_15 c1_i32 k0_t3
  let c1_i32_17 : BitVec 32 := 1#32
  let v23 : BitVec 32 := Scalar.muli arg10 c1_i32_17
  let v24 : BitVec 32 := Scalar.addi c0_i32_18 v23
  let c8_i32_41 : BitVec 32 := 8#32
  let v98 : BitVec 32 := Scalar.muli v24 c8_i32_41
  let v99 : Index := Scalar.indexCast v98
  let c0_i32_23 : BitVec 32 := 0#32
  let c0_i32_19 : BitVec 32 := 0#32
  let c1_i32_20 : BitVec 32 := 1#32
  let arg11 : BitVec 32 := Scf.iv c0_i32_19 c1_i32_20 k0_t4
  let c1_i32_22 : BitVec 32 := 1#32
  let v26 : BitVec 32 := Scalar.muli arg11 c1_i32_22
  let v27 : BitVec 32 := Scalar.addi c0_i32_23 v26
  let c128_i32 : BitVec 32 := 128#32
  let v28 : BitVec 32 := Scalar.muli v27 c128_i32
  let v29 : BitVec 32 := v28
  let v100 : Index := Scalar.indexCast v29
  ![2, v99.toNat, v100.toNat]
def k0_off17 (k0_t3 : Fin k0_t3_loop.trips) (k0_t4 : Fin k0_t4_loop.trips) (c0_i32_51 : BitVec 32) (c0_i32_52 : BitVec 32) : Fin 3 → Nat :=
  let c0_53 : Index := 0#32
  let c0_i32_18 : BitVec 32 := 0#32
  let c0_i32_15 : BitVec 32 := 0#32
  let c1_i32 : BitVec 32 := 1#32
  let arg10 : BitVec 32 := Scf.iv c0_i32_15 c1_i32 k0_t3
  let c1_i32_17 : BitVec 32 := 1#32
  let v23 : BitVec 32 := Scalar.muli arg10 c1_i32_17
  let v24 : BitVec 32 := Scalar.addi c0_i32_18 v23
  let c8_i32_50 : BitVec 32 := 8#32
  let v166 : BitVec 32 := Scalar.muli v24 c8_i32_50
  let v167 : BitVec 32 := Scalar.addi v166 c0_i32_51
  let v168 : BitVec 32 := Scalar.addi v167 c0_i32_52
  let v169 : Index := Scalar.indexCast v168
  let c0_i32_23 : BitVec 32 := 0#32
  let c0_i32_19 : BitVec 32 := 0#32
  let c1_i32_20 : BitVec 32 := 1#32
  let arg11 : BitVec 32 := Scf.iv c0_i32_19 c1_i32_20 k0_t4
  let c1_i32_22 : BitVec 32 := 1#32
  let v26 : BitVec 32 := Scalar.muli arg11 c1_i32_22
  let v27 : BitVec 32 := Scalar.addi c0_i32_23 v26
  let c128_i32 : BitVec 32 := 128#32
  let v28 : BitVec 32 := Scalar.muli v27 c128_i32
  let v29 : BitVec 32 := v28
  let v170 : Index := Scalar.indexCast v29
  ![0, v169.toNat, v170.toNat]
def k0_off18 (k0_t3 : Fin k0_t3_loop.trips) (k0_t4 : Fin k0_t4_loop.trips) (c0_i32_51 : BitVec 32) (c0_i32_52 : BitVec 32) : Fin 3 → Nat :=
  let c2_54 : Index := 2#32
  let c0_i32_18 : BitVec 32 := 0#32
  let c0_i32_15 : BitVec 32 := 0#32
  let c1_i32 : BitVec 32 := 1#32
  let arg10 : BitVec 32 := Scf.iv c0_i32_15 c1_i32 k0_t3
  let c1_i32_17 : BitVec 32 := 1#32
  let v23 : BitVec 32 := Scalar.muli arg10 c1_i32_17
  let v24 : BitVec 32 := Scalar.addi c0_i32_18 v23
  let c8_i32_50 : BitVec 32 := 8#32
  let v166 : BitVec 32 := Scalar.muli v24 c8_i32_50
  let v167 : BitVec 32 := Scalar.addi v166 c0_i32_51
  let v168 : BitVec 32 := Scalar.addi v167 c0_i32_52
  let v177 : Index := Scalar.indexCast v168
  let c0_i32_23 : BitVec 32 := 0#32
  let c0_i32_19 : BitVec 32 := 0#32
  let c1_i32_20 : BitVec 32 := 1#32
  let arg11 : BitVec 32 := Scf.iv c0_i32_19 c1_i32_20 k0_t4
  let c1_i32_22 : BitVec 32 := 1#32
  let v26 : BitVec 32 := Scalar.muli arg11 c1_i32_22
  let v27 : BitVec 32 := Scalar.addi c0_i32_23 v26
  let c128_i32 : BitVec 32 := 128#32
  let v28 : BitVec 32 := Scalar.muli v27 c128_i32
  let v29 : BitVec 32 := v28
  let v178 : Index := Scalar.indexCast v29
  ![2, v177.toNat, v178.toNat]
def k0_off19 (k0_t3 : Fin k0_t3_loop.trips) (k0_t4 : Fin k0_t4_loop.trips) (c0_i32_51 : BitVec 32) (c0_i32_52 : BitVec 32) : Fin 3 → Nat :=
  let c1_55 : Index := 1#32
  let c0_i32_18 : BitVec 32 := 0#32
  let c0_i32_15 : BitVec 32 := 0#32
  let c1_i32 : BitVec 32 := 1#32
  let arg10 : BitVec 32 := Scf.iv c0_i32_15 c1_i32 k0_t3
  let c1_i32_17 : BitVec 32 := 1#32
  let v23 : BitVec 32 := Scalar.muli arg10 c1_i32_17
  let v24 : BitVec 32 := Scalar.addi c0_i32_18 v23
  let c8_i32_50 : BitVec 32 := 8#32
  let v166 : BitVec 32 := Scalar.muli v24 c8_i32_50
  let v167 : BitVec 32 := Scalar.addi v166 c0_i32_51
  let v168 : BitVec 32 := Scalar.addi v167 c0_i32_52
  let v186 : Index := Scalar.indexCast v168
  let c0_i32_23 : BitVec 32 := 0#32
  let c0_i32_19 : BitVec 32 := 0#32
  let c1_i32_20 : BitVec 32 := 1#32
  let arg11 : BitVec 32 := Scf.iv c0_i32_19 c1_i32_20 k0_t4
  let c1_i32_22 : BitVec 32 := 1#32
  let v26 : BitVec 32 := Scalar.muli arg11 c1_i32_22
  let v27 : BitVec 32 := Scalar.addi c0_i32_23 v26
  let c128_i32 : BitVec 32 := 128#32
  let v28 : BitVec 32 := Scalar.muli v27 c128_i32
  let v29 : BitVec 32 := v28
  let v187 : Index := Scalar.indexCast v29
  ![1, v186.toNat, v187.toNat]
def k0_off20 (k0_t3 : Fin k0_t3_loop.trips) (k0_t4 : Fin k0_t4_loop.trips) (c0_i32_51 : BitVec 32) (c0_i32_52 : BitVec 32) : Fin 2 → Nat :=
  let c16_i32_56 : BitVec 32 := 16#32
  let c0_i32_18 : BitVec 32 := 0#32
  let c0_i32_15 : BitVec 32 := 0#32
  let c1_i32 : BitVec 32 := 1#32
  let arg10 : BitVec 32 := Scf.iv c0_i32_15 c1_i32 k0_t3
  let c1_i32_17 : BitVec 32 := 1#32
  let v23 : BitVec 32 := Scalar.muli arg10 c1_i32_17
  let v24 : BitVec 32 := Scalar.addi c0_i32_18 v23
  let c8_i32_50 : BitVec 32 := 8#32
  let v166 : BitVec 32 := Scalar.muli v24 c8_i32_50
  let v167 : BitVec 32 := Scalar.addi v166 c0_i32_51
  let v168 : BitVec 32 := Scalar.addi v167 c0_i32_52
  let v200 : BitVec 32 := Scalar.muli c16_i32_56 v168
  let v201 : Index := Scalar.indexCast v200
  let c0_i32_23 : BitVec 32 := 0#32
  let c0_i32_19 : BitVec 32 := 0#32
  let c1_i32_20 : BitVec 32 := 1#32
  let arg11 : BitVec 32 := Scf.iv c0_i32_19 c1_i32_20 k0_t4
  let c1_i32_22 : BitVec 32 := 1#32
  let v26 : BitVec 32 := Scalar.muli arg11 c1_i32_22
  let v27 : BitVec 32 := Scalar.addi c0_i32_23 v26
  let c128_i32 : BitVec 32 := 128#32
  let v28 : BitVec 32 := Scalar.muli v27 c128_i32
  let v29 : BitVec 32 := v28
  let v202 : Index := Scalar.indexCast v29
  ![v201.toNat, v202.toNat]
def k0_cond3 (i : grid0.Coords) : BitVec 1 :=
  let arg0 : BitVec 32 := BitVec.ofNat 32 (i 0).val
  let c28_i32_3 : BitVec 32 := 28#32
  let v8 : BitVec 1 := Scalar.cmpi .eq arg0 c28_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c27_i32 : BitVec 32 := 27#32
  let v0 : BitVec 32 := Scalar.minsi arg0 c27_i32
  let c0_i32 : BitVec 32 := 0#32
  let c0_i32_0 : BitVec 32 := 0#32
  let c0_i32_1 : BitVec 32 := 0#32
  ![c0_i32.toNat, v0.toNat, c0_i32_0.toNat]

def cc0_transform_3 (i : grid0.Coords) : Fin 2 → Nat :=
  let arg0 : BitVec 32 := BitVec.ofNat 32 (i 0).val
  let c27_i32 : BitVec 32 := 27#32
  let v0 : BitVec 32 := Scalar.minsi arg0 c27_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

abbrev stage0_0 : Fin 1 → Memref sig .tc .vmem S256x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x256 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x8x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x512 .i16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelIdeal.lean ====
abbrev S1x256x4096 : Shape := ⟨3, ![1, 256, 4096]⟩
abbrev S128x14336x2 : Shape := ⟨3, ![128, 14336, 2]⟩
abbrev S16x14336 : Shape := ⟨2, ![16, 14336]⟩
abbrev S256x8 : Shape := ⟨2, ![256, 8]⟩
abbrev S128x112x128x2 : Shape := ⟨4, ![128, 112, 128, 2]⟩
abbrev S128x112x2x128 : Shape := ⟨4, ![128, 112, 2, 128]⟩
abbrev S128x224x128 : Shape := ⟨3, ![128, 224, 128]⟩
abbrev S256x4096 : Shape := ⟨2, ![256, 4096]⟩
abbrev S8x256 : Shape := ⟨2, ![8, 256]⟩
abbrev S256x14336 : Shape := ⟨2, ![256, 14336]⟩
abbrev S128x8x128 : Shape := ⟨3, ![128, 8, 128]⟩
abbrev S16x512 : Shape := ⟨2, ![16, 512]⟩
abbrev S256x512 : Shape := ⟨2, ![256, 512]⟩
abbrev S2x8x128 : Shape := ⟨3, ![2, 8, 128]⟩
abbrev S128x4096 : Shape := ⟨2, ![128, 4096]⟩
abbrev S128x2x4096 : Shape := ⟨3, ![128, 2, 4096]⟩
abbrev S128x1x4096 : Shape := ⟨3, ![128, 1, 4096]⟩
abbrev S3x128x512 : Shape := ⟨3, ![3, 128, 512]⟩
abbrev S3x128x2x512 : Shape := ⟨4, ![3, 128, 2, 512]⟩
abbrev S3x128x1x512 : Shape := ⟨4, ![3, 128, 1, 512]⟩
abbrev S2048x512 : Shape := ⟨2, ![2048, 512]⟩
abbrev S2048x2x512 : Shape := ⟨3, ![2048, 2, 512]⟩
abbrev S2048x1x512 : Shape := ⟨3, ![2048, 1, 512]⟩
abbrev S8x128 : Shape := ⟨2, ![8, 128]⟩
abbrev S128 : Shape := ⟨1, ![128]⟩
abbrev S1x128 : Shape := ⟨2, ![1, 128]⟩
abbrev S1x8x128 : Shape := ⟨3, ![1, 8, 128]⟩
abbrev S1024x128 : Shape := ⟨2, ![1024, 128]⟩
abbrev S1x8x2x128 : Shape := ⟨4, ![1, 8, 2, 128]⟩
abbrev S1x8x1x128 : Shape := ⟨4, ![1, 8, 1, 128]⟩
abbrev S32x128 : Shape := ⟨2, ![32, 128]⟩
abbrev S8x128x1 : Shape := ⟨3, ![8, 128, 1]⟩
abbrev S8x1x128 : Shape := ⟨3, ![8, 1, 128]⟩
abbrev S8x8x128 : Shape := ⟨3, ![8, 8, 128]⟩
abbrev S64x128 : Shape := ⟨2, ![64, 128]⟩
abbrev S1x1x128 : Shape := ⟨3, ![1, 1, 128]⟩
abbrev S1x1x2x128 : Shape := ⟨4, ![1, 1, 2, 128]⟩
abbrev S1x1x1x128 : Shape := ⟨4, ![1, 1, 1, 128]⟩
abbrev S2x128 : Shape := ⟨2, ![2, 128]⟩
abbrev S16x128 : Shape := ⟨2, ![16, 128]⟩
abbrev S16x2x128 : Shape := ⟨3, ![16, 2, 128]⟩
abbrev S16x1x128 : Shape := ⟨3, ![16, 1, 128]⟩
abbrev S4096x512 : Shape := ⟨2, ![4096, 512]⟩

abbrev nBuf : Space → Nat
  | .hbm => 11
  | .vmem => 12
  | .smem => 0
  | _ => 0

abbrev bufTy : (tb : Table) → Fin (tcTables nBuf tb) → BufTy
  | .hbm, ⟨0, _⟩ => ⟨S1x256x4096, .bf16⟩
  | .hbm, ⟨1, _⟩ => ⟨S128x14336x2, .i32⟩
  | .hbm, ⟨2, _⟩ => ⟨S16x14336, .i16⟩
  | .hbm, ⟨3, _⟩ => ⟨S256x8, .i8⟩
  | .hbm, ⟨4, _⟩ => ⟨S128x112x128x2, .i32⟩
  | .hbm, ⟨5, _⟩ => ⟨S128x112x2x128, .i32⟩
  | .hbm, ⟨6, _⟩ => ⟨S128x224x128, .i32⟩
  | .hbm, ⟨7, _⟩ => ⟨S128x224x128, .i32⟩
  | .hbm, ⟨8, _⟩ => ⟨S256x4096, .bf16⟩
  | .hbm, ⟨9, _⟩ => ⟨S8x256, .i8⟩
  | .hbm, ⟨10, _⟩ => ⟨S256x14336, .bf16⟩
  | .local _ .vmem, ⟨0, _⟩ => ⟨S256x4096, .bf16⟩
  | .local _ .vmem, ⟨1, _⟩ => ⟨S8x256, .i8⟩
  | .local _ .vmem, ⟨2, _⟩ => ⟨S128x8x128, .i32⟩
  | .local _ .vmem, ⟨3, _⟩ => ⟨S128x8x128, .i32⟩
  | .local _ .vmem, ⟨4, _⟩ => ⟨S16x512, .i16⟩
  | .local _ .vmem, ⟨5, _⟩ => ⟨S16x512, .i16⟩
  | .local _ .vmem, ⟨6, _⟩ => ⟨S256x512, .bf16⟩
  | .local _ .vmem, ⟨7, _⟩ => ⟨S256x512, .bf16⟩
  | .local _ .vmem, ⟨8, _⟩ => ⟨S2x8x128, .i32⟩
  | .local _ .vmem, ⟨9, _⟩ => ⟨S128x2x4096, .bf16⟩
  | .local _ .vmem, ⟨10, _⟩ => ⟨S3x128x2x512, .bf16⟩
  | .local _ .vmem, ⟨11, _⟩ => ⟨S2048x2x512, .bf16⟩
  | _, _ => ⟨S1x256x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![29], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_33 : BitVec 32 := 0#32
  let c16_i32 : BitVec 32 := 16#32
  let v84 : BitVec 32 := Scalar.addi c0_i32_33 c16_i32
  let c1_i32_34 : BitVec 32 := 1#32
  ⟨c0_i32_33, v84, c1_i32_34⟩
@[reducible] def k0_t2_loop : Scf.Loop 32 :=
  let c0_i32_38 : BitVec 32 := 0#32
  let c4_i32_39 : BitVec 32 := 4#32
  let v87 : BitVec 32 := Scalar.addi c0_i32_38 c4_i32_39
  let c1_i32_40 : BitVec 32 := 1#32
  ⟨c0_i32_38, v87, c1_i32_40⟩
def k0_mult1 (k0_t2 : Fin k0_t2_loop.trips) : BitVec 32 :=
  let c0_i32_43 : BitVec 32 := 0#32
  let c0_i32_38 : BitVec 32 := 0#32
  let c1_i32_40 : BitVec 32 := 1#32
  let arg11 : BitVec 32 := Scf.iv c0_i32_38 c1_i32_40 k0_t2
  let c1_i32_42 : BitVec 32 := 1#32
  let v88 : BitVec 32 := Scalar.muli arg11 c1_i32_42
  let v89 : BitVec 32 := Scalar.addi c0_i32_43 v88
  let c128_i32 : BitVec 32 := 128#32
  let v90 : BitVec 32 := Scalar.muli v89 c128_i32
  v90
def k0_off1 (k0_t1 : Fin k0_t1_loop.trips) (k0_t2 : Fin k0_t2_loop.trips) : Fin 2 → Nat :=
  let c0_i32_37 : BitVec 32 := 0#32
  let c0_i32_33 : BitVec 32 := 0#32
  let c1_i32_34 : BitVec 32 := 1#32
  let arg10 : BitVec 32 := Scf.iv c0_i32_33 c1_i32_34 k0_t1
  let c1_i32_36 : BitVec 32 := 1#32
  let v85 : BitVec 32 := Scalar.muli arg10 c1_i32_36
  let v86 : BitVec 32 := Scalar.addi c0_i32_37 v85
  let v92 : Index := Scalar.indexCast v86
  let c0_i32_43 : BitVec 32 := 0#32
  let c0_i32_38 : BitVec 32 := 0#32
  let c1_i32_40 : BitVec 32 := 1#32
  let arg11 : BitVec 32 := Scf.iv c0_i32_38 c1_i32_40 k0_t2
  let c1_i32_42 : BitVec 32 := 1#32
  let v88 : BitVec 32 := Scalar.muli arg11 c1_i32_42
  let v89 : BitVec 32 := Scalar.addi c0_i32_43 v88
  let c128_i32 : BitVec 32 := 128#32
  let v90 : BitVec 32 := Scalar.muli v89 c128_i32
  let v91 : BitVec 32 := v90
  let v93 : Index := Scalar.indexCast v91
  ![v92.toNat, v93.toNat]
def k0_off2 (k0_t1 : Fin k0_t1_loop.trips) (k0_t2 : Fin k0_t2_loop.trips) : Fin 2 → Nat :=
  let c0_i32_37 : BitVec 32 := 0#32
  let c0_i32_33 : BitVec 32 := 0#32
  let c1_i32_34 : BitVec 32 := 1#32
  let arg10 : BitVec 32 := Scf.iv c0_i32_33 c1_i32_34 k0_t1
  let c1_i32_36 : BitVec 32 := 1#32
  let v85 : BitVec 32 := Scalar.muli arg10 c1_i32_36
  let v86 : BitVec 32 := Scalar.addi c0_i32_37 v85
  let c8_i32_47 : BitVec 32 := 8#32
  let v114 : BitVec 32 := Scalar.muli v86 c8_i32_47
  let c2_i32_48 : BitVec 32 := 2#32
  let v115 : BitVec 32 := Scalar.muli v114 c2_i32_48
  let c4_i32_49 : BitVec 32 := 4#32
  let v116 : BitVec 32 := Scalar.muli v115 c4_i32_49
  let c2_i32_50 : BitVec 32 := 2#32
  let c0_i32_43 : BitVec 32 := 0#32
  let c0_i32_38 : BitVec 32 := 0#32
  let c1_i32_40 : BitVec 32 := 1#32
  let arg11 : BitVec 32 := Scf.iv c0_i32_38 c1_i32_40 k0_t2
  let c1_i32_42 : BitVec 32 := 1#32
  let v88 : BitVec 32 := Scalar.muli arg11 c1_i32_42
  let v89 : BitVec 32 := Scalar.addi c0_i32_43 v88
  let v117 : BitVec 32 := Scalar.muli c2_i32_50 v89
  let v118 : BitVec 32 := Scalar.addi v116 v117
  let v120 : Index := Scalar.indexCast v118
  let c0_51 : Index := 0#32
  ![v120.toNat, 0]
def k0_off3 (k0_t1 : Fin k0_t1_loop.trips) (k0_t2 : Fin k0_t2_loop.trips) : Fin 2 → Nat :=
  let c0_i32_37 : BitVec 32 := 0#32
  let c0_i32_33 : BitVec 32 := 0#32
  let c1_i32_34 : BitVec 32 := 1#32
  let arg10 : BitVec 32 := Scf.iv c0_i32_33 c1_i32_34 k0_t1
  let c1_i32_36 : BitVec 32 := 1#32
  let v85 : BitVec 32 := Scalar.muli arg10 c1_i32_36
  let v86 : BitVec 32 := Scalar.addi c0_i32_37 v85
  let c8_i32_47 : BitVec 32 := 8#32
  let v114 : BitVec 32 := Scalar.muli v86 c8_i32_47
  let c2_i32_48 : BitVec 32 := 2#32
  let v115 : BitVec 32 := Scalar.muli v114 c2_i32_48
  let c4_i32_49 : BitVec 32 := 4#32
  let v116 : BitVec 32 := Scalar.muli v115 c4_i32_49
  let c2_i32_50 : BitVec 32 := 2#32
  let c0_i32_43 : BitVec 32 := 0#32
  let c0_i32_38 : BitVec 32 := 0#32
  let c1_i32_40 : BitVec 32 := 1#32
  let arg11 : BitVec 32 := Scf.iv c0_i32_38 c1_i32_40 k0_t2
  let c1_i32_42 : BitVec 32 := 1#32
  let v88 : BitVec 32 := Scalar.muli arg11 c1_i32_42
  let v89 : BitVec 32 := Scalar.addi c0_i32_43 v88
  let v117 : BitVec 32 := Scalar.muli c2_i32_50 v89
  let v118 : BitVec 32 := Scalar.addi v116 v117
  let c1_i32_52 : BitVec 32 := 1#32
  let v123 : BitVec 32 := Scalar.addi v118 c1_i32_52
  let v125 : Index := Scalar.indexCast v123
  let c0_53 : Index := 0#32
  ![v125.toNat, 0]
def k0_off4 (k0_t1 : Fin k0_t1_loop.trips) (k0_t2 : Fin k0_t2_loop.trips) : Fin 4 → Nat :=
  let c0_58 : Index := 0#32
  let c0_i32_37 : BitVec 32 := 0#32
  let c0_i32_33 : BitVec 32 := 0#32
  let c1_i32_34 : BitVec 32 := 1#32
  let arg10 : BitVec 32 := Scf.iv c0_i32_33 c1_i32_34 k0_t1
  let c1_i32_36 : BitVec 32 := 1#32
  let v85 : BitVec 32 := Scalar.muli arg10 c1_i32_36
  let v86 : BitVec 32 := Scalar.addi c0_i32_37 v85
  let c8_i32_57 : BitVec 32 := 8#32
  let v138 : BitVec 32 := Scalar.muli v86 c8_i32_57
  let v139 : Index := Scalar.indexCast v138
  let c0_i32_43 : BitVec 32 := 0#32
  let c0_i32_38 : BitVec 32 := 0#32
  let c1_i32_40 : BitVec 32 := 1#32
  let arg11 : BitVec 32 := Scf.iv c0_i32_38 c1_i32_40 k0_t2
  let c1_i32_42 : BitVec 32 := 1#32
  let v88 : BitVec 32 := Scalar.muli arg11 c1_i32_42
  let v89 : BitVec 32 := Scalar.addi c0_i32_43 v88
  let c128_i32 : BitVec 32 := 128#32
  let v90 : BitVec 32 := Scalar.muli v89 c128_i32
  let v91 : BitVec 32 := v90
  let v140 : Index := Scalar.indexCast v91
  ![0, v139.toNat, 0, v140.toNat]
def k0_off5 (k0_t1 : Fin k0_t1_loop.trips) (k0_t2 : Fin k0_t2_loop.trips) : Fin 4 → Nat :=
  let c1_61 : Index := 1#32
  let c0_i32_37 : BitVec 32 := 0#32
  let c0_i32_33 : BitVec 32 := 0#32
  let c1_i32_34 : BitVec 32 := 1#32
  let arg10 : BitVec 32 := Scf.iv c0_i32_33 c1_i32_34 k0_t1
  let c1_i32_36 : BitVec 32 := 1#32
  let v85 : BitVec 32 := Scalar.muli arg10 c1_i32_36
  let v86 : BitVec 32 := Scalar.addi c0_i32_37 v85
  let c8_i32_60 : BitVec 32 := 8#32
  let v149 : BitVec 32 := Scalar.muli v86 c8_i32_60
  let v150 : Index := Scalar.indexCast v149
  let c0_i32_43 : BitVec 32 := 0#32
  let c0_i32_38 : BitVec 32 := 0#32
  let c1_i32_40 : BitVec 32 := 1#32
  let arg11 : BitVec 32 := Scf.iv c0_i32_38 c1_i32_40 k0_t2
  let c1_i32_42 : BitVec 32 := 1#32
  let v88 : BitVec 32 := Scalar.muli arg11 c1_i32_42
  let v89 : BitVec 32 := Scalar.addi c0_i32_43 v88
  let c128_i32 : BitVec 32 := 128#32
  let v90 : BitVec 32 := Scalar.muli v89 c128_i32
  let v91 : BitVec 32 := v90
  let v151 : Index := Scalar.indexCast v91
  ![1, v150.toNat, 0, v151.toNat]
def k0_off6 (k0_t1 : Fin k0_t1_loop.trips) (k0_t2 : Fin k0_t2_loop.trips) : Fin 4 → Nat :=
  let c2 : Index := 2#32
  let c0_i32_37 : BitVec 32 := 0#32
  let c0_i32_33 : BitVec 32 := 0#32
  let c1_i32_34 : BitVec 32 := 1#32
  let arg10 : BitVec 32 := Scf.iv c0_i32_33 c1_i32_34 k0_t1
  let c1_i32_36 : BitVec 32 := 1#32
  let v85 : BitVec 32 := Scalar.muli arg10 c1_i32_36
  let v86 : BitVec 32 := Scalar.addi c0_i32_37 v85
  let c8_i32_63 : BitVec 32 := 8#32
  let v160 : BitVec 32 := Scalar.muli v86 c8_i32_63
  let v161 : Index := Scalar.indexCast v160
  let c0_i32_43 : BitVec 32 := 0#32
  let c0_i32_38 : BitVec 32 := 0#32
  let c1_i32_40 : BitVec 32 := 1#32
  let arg11 : BitVec 32 := Scf.iv c0_i32_38 c1_i32_40 k0_t2
  let c1_i32_42 : BitVec 32 := 1#32
  let v88 : BitVec 32 := Scalar.muli arg11 c1_i32_42
  let v89 : BitVec 32 := Scalar.addi c0_i32_43 v88
  let c128_i32 : BitVec 32 := 128#32
  let v90 : BitVec 32 := Scalar.muli v89 c128_i32
  let v91 : BitVec 32 := v90
  let v162 : Index := Scalar.indexCast v91
  ![2, v161.toNat, 0, v162.toNat]
def k0_off7 (k0_t1 : Fin k0_t1_loop.trips) (k0_t2 : Fin k0_t2_loop.trips) (c0_i32_74 : BitVec 32) (c0_i32_75 : BitVec 32) : Fin 4 → Nat :=
  let c0_76 : Index := 0#32
  let c0_i32_37 : BitVec 32 := 0#32
  let c0_i32_33 : BitVec 32 := 0#32
  let c1_i32_34 : BitVec 32 := 1#32
  let arg10 : BitVec 32 := Scf.iv c0_i32_33 c1_i32_34 k0_t1
  let c1_i32_36 : BitVec 32 := 1#32
  let v85 : BitVec 32 := Scalar.muli arg10 c1_i32_36
  let v86 : BitVec 32 := Scalar.addi c0_i32_37 v85
  let c8_i32_73 : BitVec 32 := 8#32
  let v228 : BitVec 32 := Scalar.muli v86 c8_i32_73
  let v229 : BitVec 32 := Scalar.addi v228 c0_i32_74
  let v230 : BitVec 32 := Scalar.addi v229 c0_i32_75
  let v231 : Index := Scalar.indexCast v230
  let c0_i32_43 : BitVec 32 := 0#32
  let c0_i32_38 : BitVec 32 := 0#32
  let c1_i32_40 : BitVec 32 := 1#32
  let arg11 : BitVec 32 := Scf.iv c0_i32_38 c1_i32_40 k0_t2
  let c1_i32_42 : BitVec 32 := 1#32
  let v88 : BitVec 32 := Scalar.muli arg11 c1_i32_42
  let v89 : BitVec 32 := Scalar.addi c0_i32_43 v88
  let c128_i32 : BitVec 32 := 128#32
  let v90 : BitVec 32 := Scalar.muli v89 c128_i32
  let v91 : BitVec 32 := v90
  let v232 : Index := Scalar.indexCast v91
  ![0, v231.toNat, 0, v232.toNat]
def k0_off8 (k0_t1 : Fin k0_t1_loop.trips) (k0_t2 : Fin k0_t2_loop.trips) (c0_i32_74 : BitVec 32) (c0_i32_75 : BitVec 32) : Fin 4 → Nat :=
  let c2_77 : Index := 2#32
  let c0_i32_37 : BitVec 32 := 0#32
  let c0_i32_33 : BitVec 32 := 0#32
  let c1_i32_34 : BitVec 32 := 1#32
  let arg10 : BitVec 32 := Scf.iv c0_i32_33 c1_i32_34 k0_t1
  let c1_i32_36 : BitVec 32 := 1#32
  let v85 : BitVec 32 := Scalar.muli arg10 c1_i32_36
  let v86 : BitVec 32 := Scalar.addi c0_i32_37 v85
  let c8_i32_73 : BitVec 32 := 8#32
  let v228 : BitVec 32 := Scalar.muli v86 c8_i32_73
  let v229 : BitVec 32 := Scalar.addi v228 c0_i32_74
  let v230 : BitVec 32 := Scalar.addi v229 c0_i32_75
  let v239 : Index := Scalar.indexCast v230
  let c0_i32_43 : BitVec 32 := 0#32
  let c0_i32_38 : BitVec 32 := 0#32
  let c1_i32_40 : BitVec 32 := 1#32
  let arg11 : BitVec 32 := Scf.iv c0_i32_38 c1_i32_40 k0_t2
  let c1_i32_42 : BitVec 32 := 1#32
  let v88 : BitVec 32 := Scalar.muli arg11 c1_i32_42
  let v89 : BitVec 32 := Scalar.addi c0_i32_43 v88
  let c128_i32 : BitVec 32 := 128#32
  let v90 : BitVec 32 := Scalar.muli v89 c128_i32
  let v91 : BitVec 32 := v90
  let v240 : Index := Scalar.indexCast v91
  ![2, v239.toNat, 0, v240.toNat]
def k0_off9 (k0_t1 : Fin k0_t1_loop.trips) (k0_t2 : Fin k0_t2_loop.trips) (c0_i32_74 : BitVec 32) (c0_i32_75 : BitVec 32) : Fin 4 → Nat :=
  let c1_78 : Index := 1#32
  let c0_i32_37 : BitVec 32 := 0#32
  let c0_i32_33 : BitVec 32 := 0#32
  let c1_i32_34 : BitVec 32 := 1#32
  let arg10 : BitVec 32 := Scf.iv c0_i32_33 c1_i32_34 k0_t1
  let c1_i32_36 : BitVec 32 := 1#32
  let v85 : BitVec 32 := Scalar.muli arg10 c1_i32_36
  let v86 : BitVec 32 := Scalar.addi c0_i32_37 v85
  let c8_i32_73 : BitVec 32 := 8#32
  let v228 : BitVec 32 := Scalar.muli v86 c8_i32_73
  let v229 : BitVec 32 := Scalar.addi v228 c0_i32_74
  let v230 : BitVec 32 := Scalar.addi v229 c0_i32_75
  let v248 : Index := Scalar.indexCast v230
  let c0_i32_43 : BitVec 32 := 0#32
  let c0_i32_38 : BitVec 32 := 0#32
  let c1_i32_40 : BitVec 32 := 1#32
  let arg11 : BitVec 32 := Scf.iv c0_i32_38 c1_i32_40 k0_t2
  let c1_i32_42 : BitVec 32 := 1#32
  let v88 : BitVec 32 := Scalar.muli arg11 c1_i32_42
  let v89 : BitVec 32 := Scalar.addi c0_i32_43 v88
  let c128_i32 : BitVec 32 := 128#32
  let v90 : BitVec 32 := Scalar.muli v89 c128_i32
  let v91 : BitVec 32 := v90
  let v249 : Index := Scalar.indexCast v91
  ![1, v248.toNat, 0, v249.toNat]
def k0_off10 (k0_t1 : Fin k0_t1_loop.trips) (k0_t2 : Fin k0_t2_loop.trips) (c0_i32_74 : BitVec 32) (c0_i32_75 : BitVec 32) : Fin 3 → Nat :=
  let c16_i32_79 : BitVec 32 := 16#32
  let c0_i32_37 : BitVec 32 := 0#32
  let c0_i32_33 : BitVec 32 := 0#32
  let c1_i32_34 : BitVec 32 := 1#32
  let arg10 : BitVec 32 := Scf.iv c0_i32_33 c1_i32_34 k0_t1
  let c1_i32_36 : BitVec 32 := 1#32
  let v85 : BitVec 32 := Scalar.muli arg10 c1_i32_36
  let v86 : BitVec 32 := Scalar.addi c0_i32_37 v85
  let c8_i32_73 : BitVec 32 := 8#32
  let v228 : BitVec 32 := Scalar.muli v86 c8_i32_73
  let v229 : BitVec 32 := Scalar.addi v228 c0_i32_74
  let v230 : BitVec 32 := Scalar.addi v229 c0_i32_75
  let v262 : BitVec 32 := Scalar.muli c16_i32_79 v230
  let v263 : Index := Scalar.indexCast v262
  let c0_i32_43 : BitVec 32 := 0#32
  let c0_i32_38 : BitVec 32 := 0#32
  let c1_i32_40 : BitVec 32 := 1#32
  let arg11 : BitVec 32 := Scf.iv c0_i32_38 c1_i32_40 k0_t2
  let c1_i32_42 : BitVec 32 := 1#32
  let v88 : BitVec 32 := Scalar.muli arg11 c1_i32_42
  let v89 : BitVec 32 := Scalar.addi c0_i32_43 v88
  let c128_i32 : BitVec 32 := 128#32
  let v90 : BitVec 32 := Scalar.muli v89 c128_i32
  let v91 : BitVec 32 := v90
  let v264 : Index := Scalar.indexCast v91
  ![v263.toNat, 0, v264.toNat]
def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let c28_i32 : BitVec 32 := 28#32
  let v4 : BitVec 1 := Scalar.cmpi .slt arg0 c28_i32
  let v5 : BitVec 1 := Scalar.andi v3 v4
  let v6 : BitVec 32 := Scalar.extui v5
  let c0_i32_2 : BitVec 32 := 0#32
  let v7 : BitVec 1 := Scalar.cmpi .ne v6 c0_i32_2
  v7

@[reducible] def k0_t3_loop : Scf.Loop 32 :=
  let c0_i32_15 : BitVec 32 := 0#32
  let c16_i32 : BitVec 32 := 16#32
  let v22 : BitVec 32 := Scalar.addi c0_i32_15 c16_i32
  let c1_i32 : BitVec 32 := 1#32
  ⟨c0_i32_15, v22, c1_i32⟩
@[reducible] def k0_t4_loop : Scf.Loop 32 :=
  let c0_i32_19 : BitVec 32 := 0#32
  let c4_i32 : BitVec 32 := 4#32
  let v25 : BitVec 32 := Scalar.addi c0_i32_19 c4_i32
  let c1_i32_20 : BitVec 32 := 1#32
  ⟨c0_i32_19, v25, c1_i32_20⟩
def k0_mult2 (k0_t4 : Fin k0_t4_loop.trips) : BitVec 32 :=
  let c0_i32_23 : BitVec 32 := 0#32
  let c0_i32_19 : BitVec 32 := 0#32
  let c1_i32_20 : BitVec 32 := 1#32
  let arg11 : BitVec 32 := Scf.iv c0_i32_19 c1_i32_20 k0_t4
  let c1_i32_22 : BitVec 32 := 1#32
  let v26 : BitVec 32 := Scalar.muli arg11 c1_i32_22
  let v27 : BitVec 32 := Scalar.addi c0_i32_23 v26
  let c128_i32 : BitVec 32 := 128#32
  let v28 : BitVec 32 := Scalar.muli v27 c128_i32
  v28
def k0_off11 (k0_t3 : Fin k0_t3_loop.trips) (k0_t4 : Fin k0_t4_loop.trips) : Fin 2 → Nat :=
  let c0_i32_18 : BitVec 32 := 0#32
  let c0_i32_15 : BitVec 32 := 0#32
  let c1_i32 : BitVec 32 := 1#32
  let arg10 : BitVec 32 := Scf.iv c0_i32_15 c1_i32 k0_t3
  let c1_i32_17 : BitVec 32 := 1#32
  let v23 : BitVec 32 := Scalar.muli arg10 c1_i32_17
  let v24 : BitVec 32 := Scalar.addi c0_i32_18 v23
  let v30 : Index := Scalar.indexCast v24
  let c0_i32_23 : BitVec 32 := 0#32
  let c0_i32_19 : BitVec 32 := 0#32
  let c1_i32_20 : BitVec 32 := 1#32
  let arg11 : BitVec 32 := Scf.iv c0_i32_19 c1_i32_20 k0_t4
  let c1_i32_22 : BitVec 32 := 1#32
  let v26 : BitVec 32 := Scalar.muli arg11 c1_i32_22
  let v27 : BitVec 32 := Scalar.addi c0_i32_23 v26
  let c128_i32 : BitVec 32 := 128#32
  let v28 : BitVec 32 := Scalar.muli v27 c128_i32
  let v29 : BitVec 32 := v28
  let v31 : Index := Scalar.indexCast v29
  ![v30.toNat, v31.toNat]
def k0_off12 (k0_t3 : Fin k0_t3_loop.trips) (k0_t4 : Fin k0_t4_loop.trips) : Fin 2 → Nat :=
  let c0_i32_18 : BitVec 32 := 0#32
  let c0_i32_15 : BitVec 32 := 0#32
  let c1_i32 : BitVec 32 := 1#32
  let arg10 : BitVec 32 := Scf.iv c0_i32_15 c1_i32 k0_t3
  let c1_i32_17 : BitVec 32 := 1#32
  let v23 : BitVec 32 := Scalar.muli arg10 c1_i32_17
  let v24 : BitVec 32 := Scalar.addi c0_i32_18 v23
  let c8_i32 : BitVec 32 := 8#32
  let v52 : BitVec 32 := Scalar.muli v24 c8_i32
  let c2_i32 : BitVec 32 := 2#32
  let v53 : BitVec 32 := Scalar.muli v52 c2_i32
  let c4_i32_27 : BitVec 32 := 4#32
  let v54 : BitVec 32 := Scalar.muli v53 c4_i32_27
  let c2_i32_28 : BitVec 32 := 2#32
  let c0_i32_23 : BitVec 32 := 0#32
  let c0_i32_19 : BitVec 32 := 0#32
  let c1_i32_20 : BitVec 32 := 1#32
  let arg11 : BitVec 32 := Scf.iv c0_i32_19 c1_i32_20 k0_t4
  let c1_i32_22 : BitVec 32 := 1#32
  let v26 : BitVec 32 := Scalar.muli arg11 c1_i32_22
  let v27 : BitVec 32 := Scalar.addi c0_i32_23 v26
  let v55 : BitVec 32 := Scalar.muli c2_i32_28 v27
  let v56 : BitVec 32 := Scalar.addi v54 v55
  let v58 : Index := Scalar.indexCast v56
  let c0_29 : Index := 0#32
  ![v58.toNat, 0]
def k0_off13 (k0_t3 : Fin k0_t3_loop.trips) (k0_t4 : Fin k0_t4_loop.trips) : Fin 2 → Nat :=
  let c0_i32_18 : BitVec 32 := 0#32
  let c0_i32_15 : BitVec 32 := 0#32
  let c1_i32 : BitVec 32 := 1#32
  let arg10 : BitVec 32 := Scf.iv c0_i32_15 c1_i32 k0_t3
  let c1_i32_17 : BitVec 32 := 1#32
  let v23 : BitVec 32 := Scalar.muli arg10 c1_i32_17
  let v24 : BitVec 32 := Scalar.addi c0_i32_18 v23
  let c8_i32 : BitVec 32 := 8#32
  let v52 : BitVec 32 := Scalar.muli v24 c8_i32
  let c2_i32 : BitVec 32 := 2#32
  let v53 : BitVec 32 := Scalar.muli v52 c2_i32
  let c4_i32_27 : BitVec 32 := 4#32
  let v54 : BitVec 32 := Scalar.muli v53 c4_i32_27
  let c2_i32_28 : BitVec 32 := 2#32
  let c0_i32_23 : BitVec 32 := 0#32
  let c0_i32_19 : BitVec 32 := 0#32
  let c1_i32_20 : BitVec 32 := 1#32
  let arg11 : BitVec 32 := Scf.iv c0_i32_19 c1_i32_20 k0_t4
  let c1_i32_22 : BitVec 32 := 1#32
  let v26 : BitVec 32 := Scalar.muli arg11 c1_i32_22
  let v27 : BitVec 32 := Scalar.addi c0_i32_23 v26
  let v55 : BitVec 32 := Scalar.muli c2_i32_28 v27
  let v56 : BitVec 32 := Scalar.addi v54 v55
  let c1_i32_30 : BitVec 32 := 1#32
  let v61 : BitVec 32 := Scalar.addi v56 c1_i32_30
  let v63 : Index := Scalar.indexCast v61
  let c0_31 : Index := 0#32
  ![v63.toNat, 0]
def k0_off14 (k0_t3 : Fin k0_t3_loop.trips) (k0_t4 : Fin k0_t4_loop.trips) : Fin 4 → Nat :=
  let c0_36 : Index := 0#32
  let c0_i32_18 : BitVec 32 := 0#32
  let c0_i32_15 : BitVec 32 := 0#32
  let c1_i32 : BitVec 32 := 1#32
  let arg10 : BitVec 32 := Scf.iv c0_i32_15 c1_i32 k0_t3
  let c1_i32_17 : BitVec 32 := 1#32
  let v23 : BitVec 32 := Scalar.muli arg10 c1_i32_17
  let v24 : BitVec 32 := Scalar.addi c0_i32_18 v23
  let c8_i32_35 : BitVec 32 := 8#32
  let v76 : BitVec 32 := Scalar.muli v24 c8_i32_35
  let v77 : Index := Scalar.indexCast v76
  let c0_i32_23 : BitVec 32 := 0#32
  let c0_i32_19 : BitVec 32 := 0#32
  let c1_i32_20 : BitVec 32 := 1#32
  let arg11 : BitVec 32 := Scf.iv c0_i32_19 c1_i32_20 k0_t4
  let c1_i32_22 : BitVec 32 := 1#32
  let v26 : BitVec 32 := Scalar.muli arg11 c1_i32_22
  let v27 : BitVec 32 := Scalar.addi c0_i32_23 v26
  let c128_i32 : BitVec 32 := 128#32
  let v28 : BitVec 32 := Scalar.muli v27 c128_i32
  let v29 : BitVec 32 := v28
  let v78 : Index := Scalar.indexCast v29
  ![0, v77.toNat, 0, v78.toNat]
def k0_off15 (k0_t3 : Fin k0_t3_loop.trips) (k0_t4 : Fin k0_t4_loop.trips) : Fin 4 → Nat :=
  let c1_39 : Index := 1#32
  let c0_i32_18 : BitVec 32 := 0#32
  let c0_i32_15 : BitVec 32 := 0#32
  let c1_i32 : BitVec 32 := 1#32
  let arg10 : BitVec 32 := Scf.iv c0_i32_15 c1_i32 k0_t3
  let c1_i32_17 : BitVec 32 := 1#32
  let v23 : BitVec 32 := Scalar.muli arg10 c1_i32_17
  let v24 : BitVec 32 := Scalar.addi c0_i32_18 v23
  let c8_i32_38 : BitVec 32 := 8#32
  let v87 : BitVec 32 := Scalar.muli v24 c8_i32_38
  let v88 : Index := Scalar.indexCast v87
  let c0_i32_23 : BitVec 32 := 0#32
  let c0_i32_19 : BitVec 32 := 0#32
  let c1_i32_20 : BitVec 32 := 1#32
  let arg11 : BitVec 32 := Scf.iv c0_i32_19 c1_i32_20 k0_t4
  let c1_i32_22 : BitVec 32 := 1#32
  let v26 : BitVec 32 := Scalar.muli arg11 c1_i32_22
  let v27 : BitVec 32 := Scalar.addi c0_i32_23 v26
  let c128_i32 : BitVec 32 := 128#32
  let v28 : BitVec 32 := Scalar.muli v27 c128_i32
  let v29 : BitVec 32 := v28
  let v89 : Index := Scalar.indexCast v29
  ![1, v88.toNat, 0, v89.toNat]
def k0_off16 (k0_t3 : Fin k0_t3_loop.trips) (k0_t4 : Fin k0_t4_loop.trips) : Fin 4 → Nat :=
  let c2 : Index := 2#32
  let c0_i32_18 : BitVec 32 := 0#32
  let c0_i32_15 : BitVec 32 := 0#32
  let c1_i32 : BitVec 32 := 1#32
  let arg10 : BitVec 32 := Scf.iv c0_i32_15 c1_i32 k0_t3
  let c1_i32_17 : BitVec 32 := 1#32
  let v23 : BitVec 32 := Scalar.muli arg10 c1_i32_17
  let v24 : BitVec 32 := Scalar.addi c0_i32_18 v23
  let c8_i32_41 : BitVec 32 := 8#32
  let v98 : BitVec 32 := Scalar.muli v24 c8_i32_41
  let v99 : Index := Scalar.indexCast v98
  let c0_i32_23 : BitVec 32 := 0#32
  let c0_i32_19 : BitVec 32 := 0#32
  let c1_i32_20 : BitVec 32 := 1#32
  let arg11 : BitVec 32 := Scf.iv c0_i32_19 c1_i32_20 k0_t4
  let c1_i32_22 : BitVec 32 := 1#32
  let v26 : BitVec 32 := Scalar.muli arg11 c1_i32_22
  let v27 : BitVec 32 := Scalar.addi c0_i32_23 v26
  let c128_i32 : BitVec 32 := 128#32
  let v28 : BitVec 32 := Scalar.muli v27 c128_i32
  let v29 : BitVec 32 := v28
  let v100 : Index := Scalar.indexCast v29
  ![2, v99.toNat, 0, v100.toNat]
def k0_off17 (k0_t3 : Fin k0_t3_loop.trips) (k0_t4 : Fin k0_t4_loop.trips) (c0_i32_51 : BitVec 32) (c0_i32_52 : BitVec 32) : Fin 4 → Nat :=
  let c0_53 : Index := 0#32
  let c0_i32_18 : BitVec 32 := 0#32
  let c0_i32_15 : BitVec 32 := 0#32
  let c1_i32 : BitVec 32 := 1#32
  let arg10 : BitVec 32 := Scf.iv c0_i32_15 c1_i32 k0_t3
  let c1_i32_17 : BitVec 32 := 1#32
  let v23 : BitVec 32 := Scalar.muli arg10 c1_i32_17
  let v24 : BitVec 32 := Scalar.addi c0_i32_18 v23
  let c8_i32_50 : BitVec 32 := 8#32
  let v166 : BitVec 32 := Scalar.muli v24 c8_i32_50
  let v167 : BitVec 32 := Scalar.addi v166 c0_i32_51
  let v168 : BitVec 32 := Scalar.addi v167 c0_i32_52
  let v169 : Index := Scalar.indexCast v168
  let c0_i32_23 : BitVec 32 := 0#32
  let c0_i32_19 : BitVec 32 := 0#32
  let c1_i32_20 : BitVec 32 := 1#32
  let arg11 : BitVec 32 := Scf.iv c0_i32_19 c1_i32_20 k0_t4
  let c1_i32_22 : BitVec 32 := 1#32
  let v26 : BitVec 32 := Scalar.muli arg11 c1_i32_22
  let v27 : BitVec 32 := Scalar.addi c0_i32_23 v26
  let c128_i32 : BitVec 32 := 128#32
  let v28 : BitVec 32 := Scalar.muli v27 c128_i32
  let v29 : BitVec 32 := v28
  let v170 : Index := Scalar.indexCast v29
  ![0, v169.toNat, 0, v170.toNat]
def k0_off18 (k0_t3 : Fin k0_t3_loop.trips) (k0_t4 : Fin k0_t4_loop.trips) (c0_i32_51 : BitVec 32) (c0_i32_52 : BitVec 32) : Fin 4 → Nat :=
  let c2_54 : Index := 2#32
  let c0_i32_18 : BitVec 32 := 0#32
  let c0_i32_15 : BitVec 32 := 0#32
  let c1_i32 : BitVec 32 := 1#32
  let arg10 : BitVec 32 := Scf.iv c0_i32_15 c1_i32 k0_t3
  let c1_i32_17 : BitVec 32 := 1#32
  let v23 : BitVec 32 := Scalar.muli arg10 c1_i32_17
  let v24 : BitVec 32 := Scalar.addi c0_i32_18 v23
  let c8_i32_50 : BitVec 32 := 8#32
  let v166 : BitVec 32 := Scalar.muli v24 c8_i32_50
  let v167 : BitVec 32 := Scalar.addi v166 c0_i32_51
  let v168 : BitVec 32 := Scalar.addi v167 c0_i32_52
  let v177 : Index := Scalar.indexCast v168
  let c0_i32_23 : BitVec 32 := 0#32
  let c0_i32_19 : BitVec 32 := 0#32
  let c1_i32_20 : BitVec 32 := 1#32
  let arg11 : BitVec 32 := Scf.iv c0_i32_19 c1_i32_20 k0_t4
  let c1_i32_22 : BitVec 32 := 1#32
  let v26 : BitVec 32 := Scalar.muli arg11 c1_i32_22
  let v27 : BitVec 32 := Scalar.addi c0_i32_23 v26
  let c128_i32 : BitVec 32 := 128#32
  let v28 : BitVec 32 := Scalar.muli v27 c128_i32
  let v29 : BitVec 32 := v28
  let v178 : Index := Scalar.indexCast v29
  ![2, v177.toNat, 0, v178.toNat]
def k0_off19 (k0_t3 : Fin k0_t3_loop.trips) (k0_t4 : Fin k0_t4_loop.trips) (c0_i32_51 : BitVec 32) (c0_i32_52 : BitVec 32) : Fin 4 → Nat :=
  let c1_55 : Index := 1#32
  let c0_i32_18 : BitVec 32 := 0#32
  let c0_i32_15 : BitVec 32 := 0#32
  let c1_i32 : BitVec 32 := 1#32
  let arg10 : BitVec 32 := Scf.iv c0_i32_15 c1_i32 k0_t3
  let c1_i32_17 : BitVec 32 := 1#32
  let v23 : BitVec 32 := Scalar.muli arg10 c1_i32_17
  let v24 : BitVec 32 := Scalar.addi c0_i32_18 v23
  let c8_i32_50 : BitVec 32 := 8#32
  let v166 : BitVec 32 := Scalar.muli v24 c8_i32_50
  let v167 : BitVec 32 := Scalar.addi v166 c0_i32_51
  let v168 : BitVec 32 := Scalar.addi v167 c0_i32_52
  let v186 : Index := Scalar.indexCast v168
  let c0_i32_23 : BitVec 32 := 0#32
  let c0_i32_19 : BitVec 32 := 0#32
  let c1_i32_20 : BitVec 32 := 1#32
  let arg11 : BitVec 32 := Scf.iv c0_i32_19 c1_i32_20 k0_t4
  let c1_i32_22 : BitVec 32 := 1#32
  let v26 : BitVec 32 := Scalar.muli arg11 c1_i32_22
  let v27 : BitVec 32 := Scalar.addi c0_i32_23 v26
  let c128_i32 : BitVec 32 := 128#32
  let v28 : BitVec 32 := Scalar.muli v27 c128_i32
  let v29 : BitVec 32 := v28
  let v187 : Index := Scalar.indexCast v29
  ![1, v186.toNat, 0, v187.toNat]
def k0_off20 (k0_t3 : Fin k0_t3_loop.trips) (k0_t4 : Fin k0_t4_loop.trips) (c0_i32_51 : BitVec 32) (c0_i32_52 : BitVec 32) : Fin 3 → Nat :=
  let c16_i32_56 : BitVec 32 := 16#32
  let c0_i32_18 : BitVec 32 := 0#32
  let c0_i32_15 : BitVec 32 := 0#32
  let c1_i32 : BitVec 32 := 1#32
  let arg10 : BitVec 32 := Scf.iv c0_i32_15 c1_i32 k0_t3
  let c1_i32_17 : BitVec 32 := 1#32
  let v23 : BitVec 32 := Scalar.muli arg10 c1_i32_17
  let v24 : BitVec 32 := Scalar.addi c0_i32_18 v23
  let c8_i32_50 : BitVec 32 := 8#32
  let v166 : BitVec 32 := Scalar.muli v24 c8_i32_50
  let v167 : BitVec 32 := Scalar.addi v166 c0_i32_51
  let v168 : BitVec 32 := Scalar.addi v167 c0_i32_52
  let v200 : BitVec 32 := Scalar.muli c16_i32_56 v168
  let v201 : Index := Scalar.indexCast v200
  let c0_i32_23 : BitVec 32 := 0#32
  let c0_i32_19 : BitVec 32 := 0#32
  let c1_i32_20 : BitVec 32 := 1#32
  let arg11 : BitVec 32 := Scf.iv c0_i32_19 c1_i32_20 k0_t4
  let c1_i32_22 : BitVec 32 := 1#32
  let v26 : BitVec 32 := Scalar.muli arg11 c1_i32_22
  let v27 : BitVec 32 := Scalar.addi c0_i32_23 v26
  let c128_i32 : BitVec 32 := 128#32
  let v28 : BitVec 32 := Scalar.muli v27 c128_i32
  let v29 : BitVec 32 := v28
  let v202 : Index := Scalar.indexCast v29
  ![v201.toNat, 0, v202.toNat]
def k0_cond3 (i : grid0.Coords) : BitVec 1 :=
  let arg0 : BitVec 32 := BitVec.ofNat 32 (i 0).val
  let c28_i32_3 : BitVec 32 := 28#32
  let v8 : BitVec 1 := Scalar.cmpi .eq arg0 c28_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c27_i32 : BitVec 32 := 27#32
  let v0 : BitVec 32 := Scalar.minsi arg0 c27_i32
  let c0_i32 : BitVec 32 := 0#32
  let c0_i32_0 : BitVec 32 := 0#32
  let c0_i32_1 : BitVec 32 := 0#32
  ![c0_i32.toNat, v0.toNat, c0_i32_0.toNat]

def cc0_transform_3 (i : grid0.Coords) : Fin 2 → Nat :=
  let arg0 : BitVec 32 := BitVec.ofNat 32 (i 0).val
  let c27_i32 : BitVec 32 := 27#32
  let v0 : BitVec 32 := Scalar.minsi arg0 c27_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

abbrev stage0_0 : Fin 1 → Memref sig .tc .vmem S256x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x256 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x8x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x512 .i16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S1x256x4096 : Shape := ⟨3, ![1, 256, 4096]⟩
abbrev S128x14336x2 : Shape := ⟨3, ![128, 14336, 2]⟩
abbrev S16x14336 : Shape := ⟨2, ![16, 14336]⟩
abbrev S256x8 : Shape := ⟨2, ![256, 8]⟩
abbrev S1x256x128x4x8 : Shape := ⟨5, ![1, 256, 128, 4, 8]⟩
abbrev S128x14336x1 : Shape := ⟨3, ![128, 14336, 1]⟩
abbrev S128x14336 : Shape := ⟨2, ![128, 14336]⟩
abbrev S_ : Shape := ⟨0, ![]⟩
abbrev S16x8x14336 : Shape := ⟨3, ![16, 8, 14336]⟩
abbrev S16x1x14336 : Shape := ⟨3, ![16, 1, 14336]⟩
abbrev S8 : Shape := ⟨1, ![8]⟩
abbrev S1x8x1 : Shape := ⟨3, ![1, 8, 1]⟩
abbrev S128x1x14336 : Shape := ⟨3, ![128, 1, 14336]⟩
abbrev S128x8x14336 : Shape := ⟨3, ![128, 8, 14336]⟩
abbrev S128x8x14336x1 : Shape := ⟨4, ![128, 8, 14336, 1]⟩
abbrev S128x8x14336x2 : Shape := ⟨4, ![128, 8, 14336, 2]⟩
abbrev S1x256x128x1x8 : Shape := ⟨5, ![1, 256, 128, 1, 8]⟩
abbrev S1x256x128x8 : Shape := ⟨4, ![1, 256, 128, 8]⟩
abbrev S1x256x14336 : Shape := ⟨3, ![1, 256, 14336]⟩
abbrev S256x14336 : Shape := ⟨2, ![256, 14336]⟩

abbrev nBuf : Space → Nat
  | .hbm => 286
  | .vmem => 2
  | .smem => 0
  | _ => 0

abbrev hbmTy0_0 (i : Nat) : BufTy := match i % 128 with
  | 0 => ⟨S1x256x4096, .bf16⟩
  | 1 => ⟨S128x14336x2, .i32⟩
  | 2 => ⟨S16x14336, .i16⟩
  | 3 => ⟨S256x8, .i8⟩
  | 4 => ⟨S1x256x128x4x8, .bf16⟩
  | 5 => ⟨S128x14336x1, .i32⟩
  | 6 => ⟨S128x14336, .i32⟩
  | 7 => ⟨S128x14336x1, .i32⟩
  | 8 => ⟨S128x14336, .i32⟩
  | 9 => ⟨S16x14336, .f32⟩
  | 10 => ⟨S_, .i32⟩
  | 11 => ⟨S128x14336, .i32⟩
  | 12 => ⟨S128x14336, .i32⟩
  | 13 => ⟨S128x14336, .f32⟩
  | 14 => ⟨S16x8x14336, .f32⟩
  | 15 => ⟨S16x1x14336, .f32⟩
  | 16 => ⟨S_, .f32⟩
  | 17 => ⟨S16x8x14336, .f32⟩
  | 18 => ⟨S16x8x14336, .f32⟩
  | 19 => ⟨S16x8x14336, .f32⟩
  | 20 => ⟨S16x8x14336, .f32⟩
  | 21 => ⟨S_, .f32⟩
  | 22 => ⟨S16x8x14336, .f32⟩
  | 23 => ⟨S16x8x14336, .f32⟩
  | 24 => ⟨S128x14336, .f32⟩
  | 25 => ⟨S8, .i32⟩
  | 26 => ⟨S1x8x1, .i32⟩
  | 27 => ⟨S8, .i32⟩
  | 28 => ⟨S1x8x1, .i32⟩
  | 29 => ⟨S_, .i32⟩
  | 30 => ⟨S128x14336, .i32⟩
  | 31 => ⟨S128x14336, .i32⟩
  | 32 => ⟨S_, .i32⟩
  | 33 => ⟨S128x14336, .i32⟩
  | 34 => ⟨S128x14336, .i32⟩
  | 35 => ⟨S128x14336, .i32⟩
  | 36 => ⟨S128x1x14336, .i32⟩
  | 37 => ⟨S_, .i32⟩
  | 38 => ⟨S128x1x14336, .i32⟩
  | 39 => ⟨S128x1x14336, .i1⟩
  | 40 => ⟨S_, .i32⟩
  | 41 => ⟨S128x1x14336, .i32⟩
  | 42 => ⟨S128x1x14336, .i32⟩
  | 43 => ⟨S128x1x14336, .i32⟩
  | 44 => ⟨S_, .i32⟩
  | 45 => ⟨S1x8x1, .i32⟩
  | 46 => ⟨S1x8x1, .i1⟩
  | 47 => ⟨S_, .i32⟩
  | 48 => ⟨S1x8x1, .i32⟩
  | 49 => ⟨S1x8x1, .i32⟩
  | 50 => ⟨S1x8x1, .i32⟩
  | 51 => ⟨S128x8x14336, .i32⟩
  | 52 => ⟨S128x8x14336, .i32⟩
  | 53 => ⟨S128x8x14336x1, .i32⟩
  | 54 => ⟨S128x8x14336x1, .i32⟩
  | 55 => ⟨S128x8x14336x2, .i32⟩
  | 56 => ⟨S128x8x14336, .i8⟩
  | 57 => ⟨S_, .i32⟩
  | 58 => ⟨S128x14336, .i32⟩
  | 59 => ⟨S128x14336, .i32⟩
  | 60 => ⟨S_, .i32⟩
  | 61 => ⟨S128x14336, .i32⟩
  | 62 => ⟨S128x14336, .i32⟩
  | 63 => ⟨S128x14336, .i32⟩
  | 64 => ⟨S_, .i32⟩
  | 65 => ⟨S128x14336, .i32⟩
  | 66 => ⟨S128x14336, .i32⟩
  | 67 => ⟨S_, .i32⟩
  | 68 => ⟨S128x14336, .i32⟩
  | 69 => ⟨S128x14336, .i32⟩
  | 70 => ⟨S128x14336, .i32⟩
  | 71 => ⟨S128x1x14336, .i32⟩
  | 72 => ⟨S128x8x14336, .i32⟩
  | 73 => ⟨S128x8x14336, .i32⟩
  | 74 => ⟨S128x8x14336, .i32⟩
  | 75 => ⟨S_, .i32⟩
  | 76 => ⟨S128x8x14336, .i32⟩
  | 77 => ⟨S128x8x14336, .i32⟩
  | 78 => ⟨S_, .i32⟩
  | 79 => ⟨S128x8x14336, .i32⟩
  | 80 => ⟨S128x8x14336, .i1⟩
  | 81 => ⟨S128x1x14336, .f32⟩
  | 82 => ⟨S128x8x14336, .i32⟩
  | 83 => ⟨S128x8x14336, .f32⟩
  | 84 => ⟨S128x8x14336, .f32⟩
  | 85 => ⟨S128x8x14336, .f32⟩
  | 86 => ⟨S128x8x14336, .f32⟩
  | 87 => ⟨S128x8x14336, .f32⟩
  | 88 => ⟨S128x8x14336, .bf16⟩
  | 89 => ⟨S1x256x128x1x8, .bf16⟩
  | 90 => ⟨S1x256x128x8, .bf16⟩
  | 91 => ⟨S1x256x14336, .f32⟩
  | 92 => ⟨S_, .i32⟩
  | 93 => ⟨S128x14336, .i32⟩
  | 94 => ⟨S128x14336, .i32⟩
  | 95 => ⟨S_, .i32⟩
  | 96 => ⟨S128x14336, .i32⟩
  | 97 => ⟨S128x14336, .i32⟩
  | 98 => ⟨S128x14336, .i32⟩
  | 99 => ⟨S128x1x14336, .i32⟩
  | 100 => ⟨S_, .i32⟩
  | 101 => ⟨S128x1x14336, .i32⟩
  | 102 => ⟨S128x1x14336, .i1⟩
  | 103 => ⟨S_, .i32⟩
  | 104 => ⟨S128x1x14336, .i32⟩
  | 105 => ⟨S128x1x14336, .i32⟩
  | 106 => ⟨S128x1x14336, .i32⟩
  | 107 => ⟨S_, .i32⟩
  | 108 => ⟨S1x8x1, .i32⟩
  | 109 => ⟨S1x8x1, .i1⟩
  | 110 => ⟨S_, .i32⟩
  | 111 => ⟨S1x8x1, .i32⟩
  | 112 => ⟨S1x8x1, .i32⟩
  | 113 => ⟨S1x8x1, .i32⟩
  | 114 => ⟨S128x8x14336, .i32⟩
  | 115 => ⟨S128x8x14336, .i32⟩
  | 116 => ⟨S128x8x14336x1, .i32⟩
  | 117 => ⟨S128x8x14336x1, .i32⟩
  | 118 => ⟨S128x8x14336x2, .i32⟩
  | 119 => ⟨S128x8x14336, .i8⟩
  | 120 => ⟨S_, .i32⟩
  | 121 => ⟨S128x14336, .i32⟩
  | 122 => ⟨S128x14336, .i32⟩
  | 123 => ⟨S_, .i32⟩
  | 124 => ⟨S128x14336, .i32⟩
  | 125 => ⟨S128x14336, .i32⟩
  | 126 => ⟨S128x14336, .i32⟩
  | 127 => ⟨S_, .i32⟩
  | _ => ⟨S1x256x4096, .bf16⟩

abbrev hbmTy0_1 (i : Nat) : BufTy := match i % 128 with
  | 0 => ⟨S128x14336, .i32⟩
  | 1 => ⟨S128x14336, .i32⟩
  | 2 => ⟨S_, .i32⟩
  | 3 => ⟨S128x14336, .i32⟩
  | 4 => ⟨S128x14336, .i32⟩
  | 5 => ⟨S128x14336, .i32⟩
  | 6 => ⟨S128x1x14336, .i32⟩
  | 7 => ⟨S128x8x14336, .i32⟩
  | 8 => ⟨S128x8x14336, .i32⟩
  | 9 => ⟨S128x8x14336, .i32⟩
  | 10 => ⟨S_, .i32⟩
  | 11 => ⟨S128x8x14336, .i32⟩
  | 12 => ⟨S128x8x14336, .i32⟩
  | 13 => ⟨S_, .i32⟩
  | 14 => ⟨S128x8x14336, .i32⟩
  | 15 => ⟨S128x8x14336, .i1⟩
  | 16 => ⟨S128x1x14336, .f32⟩
  | 17 => ⟨S128x8x14336, .i32⟩
  | 18 => ⟨S128x8x14336, .f32⟩
  | 19 => ⟨S128x8x14336, .f32⟩
  | 20 => ⟨S128x8x14336, .f32⟩
  | 21 => ⟨S128x8x14336, .f32⟩
  | 22 => ⟨S128x8x14336, .f32⟩
  | 23 => ⟨S128x8x14336, .bf16⟩
  | 24 => ⟨S1x256x128x1x8, .bf16⟩
  | 25 => ⟨S1x256x128x8, .bf16⟩
  | 26 => ⟨S1x256x14336, .f32⟩
  | 27 => ⟨S1x256x14336, .f32⟩
  | 28 => ⟨S_, .i32⟩
  | 29 => ⟨S128x14336, .i32⟩
  | 30 => ⟨S128x14336, .i32⟩
  | 31 => ⟨S_, .i32⟩
  | 32 => ⟨S128x14336, .i32⟩
  | 33 => ⟨S128x14336, .i32⟩
  | 34 => ⟨S128x14336, .i32⟩
  | 35 => ⟨S128x1x14336, .i32⟩
  | 36 => ⟨S_, .i32⟩
  | 37 => ⟨S128x1x14336, .i32⟩
  | 38 => ⟨S128x1x14336, .i1⟩
  | 39 => ⟨S_, .i32⟩
  | 40 => ⟨S128x1x14336, .i32⟩
  | 41 => ⟨S128x1x14336, .i32⟩
  | 42 => ⟨S128x1x14336, .i32⟩
  | 43 => ⟨S_, .i32⟩
  | 44 => ⟨S1x8x1, .i32⟩
  | 45 => ⟨S1x8x1, .i1⟩
  | 46 => ⟨S_, .i32⟩
  | 47 => ⟨S1x8x1, .i32⟩
  | 48 => ⟨S1x8x1, .i32⟩
  | 49 => ⟨S1x8x1, .i32⟩
  | 50 => ⟨S128x8x14336, .i32⟩
  | 51 => ⟨S128x8x14336, .i32⟩
  | 52 => ⟨S128x8x14336x1, .i32⟩
  | 53 => ⟨S128x8x14336x1, .i32⟩
  | 54 => ⟨S128x8x14336x2, .i32⟩
  | 55 => ⟨S128x8x14336, .i8⟩
  | 56 => ⟨S_, .i32⟩
  | 57 => ⟨S128x14336, .i32⟩
  | 58 => ⟨S128x14336, .i32⟩
  | 59 => ⟨S_, .i32⟩
  | 60 => ⟨S128x14336, .i32⟩
  | 61 => ⟨S128x14336, .i32⟩
  | 62 => ⟨S128x14336, .i32⟩
  | 63 => ⟨S_, .i32⟩
  | 64 => ⟨S128x14336, .i32⟩
  | 65 => ⟨S128x14336, .i32⟩
  | 66 => ⟨S_, .i32⟩
  | 67 => ⟨S128x14336, .i32⟩
  | 68 => ⟨S128x14336, .i32⟩
  | 69 => ⟨S128x14336, .i32⟩
  | 70 => ⟨S128x1x14336, .i32⟩
  | 71 => ⟨S128x8x14336, .i32⟩
  | 72 => ⟨S128x8x14336, .i32⟩
  | 73 => ⟨S128x8x14336, .i32⟩
  | 74 => ⟨S_, .i32⟩
  | 75 => ⟨S128x8x14336, .i32⟩
  | 76 => ⟨S128x8x14336, .i32⟩
  | 77 => ⟨S_, .i32⟩
  | 78 => ⟨S128x8x14336, .i32⟩
  | 79 => ⟨S128x8x14336, .i1⟩
  | 80 => ⟨S128x1x14336, .f32⟩
  | 81 => ⟨S128x8x14336, .i32⟩
  | 82 => ⟨S128x8x14336, .f32⟩
  | 83 => ⟨S128x8x14336, .f32⟩
  | 84 => ⟨S128x8x14336, .f32⟩
  | 85 => ⟨S128x8x14336, .f32⟩
  | 86 => ⟨S128x8x14336, .f32⟩
  | 87 => ⟨S128x8x14336, .bf16⟩
  | 88 => ⟨S1x256x128x1x8, .bf16⟩
  | 89 => ⟨S1x256x128x8, .bf16⟩
  | 90 => ⟨S1x256x14336, .f32⟩
  | 91 => ⟨S1x256x14336, .f32⟩
  | 92 => ⟨S_, .i32⟩
  | 93 => ⟨S128x14336, .i32⟩
  | 94 => ⟨S128x14336, .i32⟩
  | 95 => ⟨S_, .i32⟩
  | 96 => ⟨S128x14336, .i32⟩
  | 97 => ⟨S128x14336, .i32⟩
  | 98 => ⟨S128x14336, .i32⟩
  | 99 => ⟨S128x1x14336, .i32⟩
  | 100 => ⟨S_, .i32⟩
  | 101 => ⟨S128x1x14336, .i32⟩
  | 102 => ⟨S128x1x14336, .i1⟩
  | 103 => ⟨S_, .i32⟩
  | 104 => ⟨S128x1x14336, .i32⟩
  | 105 => ⟨S128x1x14336, .i32⟩
  | 106 => ⟨S128x1x14336, .i32⟩
  | 107 => ⟨S_, .i32⟩
  | 108 => ⟨S1x8x1, .i32⟩
  | 109 => ⟨S1x8x1, .i1⟩
  | 110 => ⟨S_, .i32⟩
  | 111 => ⟨S1x8x1, .i32⟩
  | 112 => ⟨S1x8x1, .i32⟩
  | 113 => ⟨S1x8x1, .i32⟩
  | 114 => ⟨S128x8x14336, .i32⟩
  | 115 => ⟨S128x8x14336, .i32⟩
  | 116 => ⟨S128x8x14336x1, .i32⟩
  | 117 => ⟨S128x8x14336x1, .i32⟩
  | 118 => ⟨S128x8x14336x2, .i32⟩
  | 119 => ⟨S128x8x14336, .i8⟩
  | 120 => ⟨S_, .i32⟩
  | 121 => ⟨S128x14336, .i32⟩
  | 122 => ⟨S128x14336, .i32⟩
  | 123 => ⟨S_, .i32⟩
  | 124 => ⟨S128x14336, .i32⟩
  | 125 => ⟨S128x14336, .i32⟩
  | 126 => ⟨S128x14336, .i32⟩
  | 127 => ⟨S_, .i32⟩
  | _ => ⟨S1x256x4096, .bf16⟩

abbrev hbmTy0_2 (i : Nat) : BufTy := match i % 128 with
  | 0 => ⟨S128x14336, .i32⟩
  | 1 => ⟨S128x14336, .i32⟩
  | 2 => ⟨S_, .i32⟩
  | 3 => ⟨S128x14336, .i32⟩
  | 4 => ⟨S128x14336, .i32⟩
  | 5 => ⟨S128x14336, .i32⟩
  | 6 => ⟨S128x1x14336, .i32⟩
  | 7 => ⟨S128x8x14336, .i32⟩
  | 8 => ⟨S128x8x14336, .i32⟩
  | 9 => ⟨S128x8x14336, .i32⟩
  | 10 => ⟨S_, .i32⟩
  | 11 => ⟨S128x8x14336, .i32⟩
  | 12 => ⟨S128x8x14336, .i32⟩
  | 13 => ⟨S_, .i32⟩
  | 14 => ⟨S128x8x14336, .i32⟩
  | 15 => ⟨S128x8x14336, .i1⟩
  | 16 => ⟨S128x1x14336, .f32⟩
  | 17 => ⟨S128x8x14336, .i32⟩
  | 18 => ⟨S128x8x14336, .f32⟩
  | 19 => ⟨S128x8x14336, .f32⟩
  | 20 => ⟨S128x8x14336, .f32⟩
  | 21 => ⟨S128x8x14336, .f32⟩
  | 22 => ⟨S128x8x14336, .f32⟩
  | 23 => ⟨S128x8x14336, .bf16⟩
  | 24 => ⟨S1x256x128x1x8, .bf16⟩
  | 25 => ⟨S1x256x128x8, .bf16⟩
  | 26 => ⟨S1x256x14336, .f32⟩
  | 27 => ⟨S1x256x14336, .f32⟩
  | 28 => ⟨S1x256x14336, .bf16⟩
  | 29 => ⟨S256x14336, .bf16⟩
  | _ => ⟨S1x256x4096, .bf16⟩

abbrev hbmTy (i : Nat) : BufTy := match i / 128 with
  | 0 => hbmTy0_0 i
  | 1 => hbmTy0_1 i
  | 2 => hbmTy0_2 i
  | _ => ⟨S1x256x4096, .bf16⟩

abbrev bufTy : (tb : Table) → Fin (tcTables nBuf tb) → BufTy
  | .hbm, ⟨i, _⟩ => hbmTy i
  | .local _ .vmem, ⟨0, _⟩ => ⟨S16x14336, .i16⟩
  | .local _ .vmem, ⟨1, _⟩ => ⟨S16x14336, .f32⟩
  | _, _ => ⟨S1x256x4096, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_c_1 : Ref sig .tc := ⟨.hbm, 29, rfl⟩
abbrev main_v22 : Ref sig .tc := ⟨.hbm, 30, rfl⟩
abbrev main_v23 : Ref sig .tc := ⟨.hbm, 31, rfl⟩
abbrev main_c_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_c_3 : Ref sig .tc := ⟨.hbm, 37, rfl⟩
abbrev main_v28 : Ref sig .tc := ⟨.hbm, 38, rfl⟩
abbrev main_v29 : Ref sig .tc := ⟨.hbm, 39, rfl⟩
abbrev main_c_4 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_c_5 : Ref sig .tc := ⟨.hbm, 44, rfl⟩
abbrev main_v33 : Ref sig .tc := ⟨.hbm, 45, rfl⟩
abbrev main_v34 : Ref sig .tc := ⟨.hbm, 46, rfl⟩
abbrev main_c_6 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_c_7 : Ref sig .tc := ⟨.hbm, 57, rfl⟩
abbrev main_v44 : Ref sig .tc := ⟨.hbm, 58, rfl⟩
abbrev main_v45 : Ref sig .tc := ⟨.hbm, 59, rfl⟩
abbrev main_c_8 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_c_9 : Ref sig .tc := ⟨.hbm, 64, rfl⟩
abbrev main_v49 : Ref sig .tc := ⟨.hbm, 65, rfl⟩
abbrev main_v50 : Ref sig .tc := ⟨.hbm, 66, rfl⟩
abbrev main_c_10 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_c_11 : Ref sig .tc := ⟨.hbm, 75, rfl⟩
abbrev main_v58 : Ref sig .tc := ⟨.hbm, 76, rfl⟩
abbrev main_v59 : Ref sig .tc := ⟨.hbm, 77, rfl⟩
abbrev main_c_12 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_c_13 : Ref sig .tc := ⟨.hbm, 92, rfl⟩
abbrev main_v73 : Ref sig .tc := ⟨.hbm, 93, rfl⟩
abbrev main_v74 : Ref sig .tc := ⟨.hbm, 94, rfl⟩
abbrev main_c_14 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_c_15 : Ref sig .tc := ⟨.hbm, 100, rfl⟩
abbrev main_v79 : Ref sig .tc := ⟨.hbm, 101, rfl⟩
abbrev main_v80 : Ref sig .tc := ⟨.hbm, 102, rfl⟩
abbrev main_c_16 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_c_17 : Ref sig .tc := ⟨.hbm, 107, rfl⟩
abbrev main_v84 : Ref sig .tc := ⟨.hbm, 108, rfl⟩
abbrev main_v85 : Ref sig .tc := ⟨.hbm, 109, rfl⟩
abbrev main_c_18 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_c_19 : Ref sig .tc := ⟨.hbm, 120, rfl⟩
abbrev main_v95 : Ref sig .tc := ⟨.hbm, 121, rfl⟩
abbrev main_v96 : Ref sig .tc := ⟨.hbm, 122, rfl⟩
abbrev main_c_20 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_c_21 : Ref sig .tc := ⟨.hbm, 127, rfl⟩
abbrev main_v100 : Ref sig .tc := ⟨.hbm, 128, rfl⟩
abbrev main_v101 : Ref sig .tc := ⟨.hbm, 129, rfl⟩
abbrev main_c_22 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_c_23 : Ref sig .tc := ⟨.hbm, 138, rfl⟩
abbrev main_v109 : Ref sig .tc := ⟨.hbm, 139, rfl⟩
abbrev main_v110 : Ref sig .tc := ⟨.hbm, 140, rfl⟩
abbrev main_c_24 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_c_25 : Ref sig .tc := ⟨.hbm, 156, rfl⟩
abbrev main_v125 : Ref sig .tc := ⟨.hbm, 157, rfl⟩
abbrev main_v126 : Ref sig .tc := ⟨.hbm, 158, rfl⟩
abbrev main_c_26 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_c_27 : Ref sig .tc := ⟨.hbm, 164, rfl⟩
abbrev main_v131 : Ref sig .tc := ⟨.hbm, 165, rfl⟩
abbrev main_v132 : Ref sig .tc := ⟨.hbm, 166, rfl⟩
abbrev main_c_28 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_c_29 : Ref sig .tc := ⟨.hbm, 171, rfl⟩
abbrev main_v136 : Ref sig .tc := ⟨.hbm, 172, rfl⟩
abbrev main_v137 : Ref sig .tc := ⟨.hbm, 173, rfl⟩
abbrev main_c_30 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_c_31 : Ref sig .tc := ⟨.hbm, 184, rfl⟩
abbrev main_v147 : Ref sig .tc := ⟨.hbm, 185, rfl⟩
abbrev main_v148 : Ref sig .tc := ⟨.hbm, 186, rfl⟩
abbrev main_c_32 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_c_33 : Ref sig .tc := ⟨.hbm, 191, rfl⟩
abbrev main_v152 : Ref sig .tc := ⟨.hbm, 192, rfl⟩
abbrev main_v153 : Ref sig .tc := ⟨.hbm, 193, rfl⟩
abbrev main_c_34 : Ref sig .tc := ⟨.hbm, 194, rfl⟩
abbrev main_v154 : Ref sig .tc := ⟨.hbm, 195, rfl⟩
abbrev main_v155 : Ref sig .tc := ⟨.hbm, 196, rfl⟩
abbrev main_v156 : Ref sig .tc := ⟨.hbm, 197, rfl⟩
abbrev main_v157 : Ref sig .tc := ⟨.hbm, 198, rfl⟩
abbrev main_v158 : Ref sig .tc := ⟨.hbm, 199, rfl⟩
abbrev main_v159 : Ref sig .tc := ⟨.hbm, 200, rfl⟩
abbrev main_v160 : Ref sig .tc := ⟨.hbm, 201, rfl⟩
abbrev main_c_35 : Ref sig .tc := ⟨.hbm, 202, rfl⟩
abbrev main_v161 : Ref sig .tc := ⟨.hbm, 203, rfl⟩
abbrev main_v162 : Ref sig .tc := ⟨.hbm, 204, rfl⟩
abbrev main_c_36 : Ref sig .tc := ⟨.hbm, 205, rfl⟩
abbrev main_v163 : Ref sig .tc := ⟨.hbm, 206, rfl⟩
abbrev main_v164 : Ref sig .tc := ⟨.hbm, 207, rfl⟩
abbrev main_v165 : Ref sig .tc := ⟨.hbm, 208, rfl⟩
abbrev main_v166 : Ref sig .tc := ⟨.hbm, 209, rfl⟩
abbrev main_v167 : Ref sig .tc := ⟨.hbm, 210, rfl⟩
abbrev main_v168 : Ref sig .tc := ⟨.hbm, 211, rfl⟩
abbrev main_v169 : Ref sig .tc := ⟨.hbm, 212, rfl⟩
abbrev main_v170 : Ref sig .tc := ⟨.hbm, 213, rfl⟩
abbrev main_v171 : Ref sig .tc := ⟨.hbm, 214, rfl⟩
abbrev main_v172 : Ref sig .tc := ⟨.hbm, 215, rfl⟩
abbrev main_v173 : Ref sig .tc := ⟨.hbm, 216, rfl⟩
abbrev main_v174 : Ref sig .tc := ⟨.hbm, 217, rfl⟩
abbrev main_v175 : Ref sig .tc := ⟨.hbm, 218, rfl⟩
abbrev main_v176 : Ref sig .tc := ⟨.hbm, 219, rfl⟩
abbrev main_c_37 : Ref sig .tc := ⟨.hbm, 220, rfl⟩
abbrev main_v177 : Ref sig .tc := ⟨.hbm, 221, rfl⟩
abbrev main_v178 : Ref sig .tc := ⟨.hbm, 222, rfl⟩
abbrev main_c_38 : Ref sig .tc := ⟨.hbm, 223, rfl⟩
abbrev main_v179 : Ref sig .tc := ⟨.hbm, 224, rfl⟩
abbrev main_v180 : Ref sig .tc := ⟨.hbm, 225, rfl⟩
abbrev main_v181 : Ref sig .tc := ⟨.hbm, 226, rfl⟩
abbrev main_v182 : Ref sig .tc := ⟨.hbm, 227, rfl⟩
abbrev main_c_39 : Ref sig .tc := ⟨.hbm, 228, rfl⟩
abbrev main_v183 : Ref sig .tc := ⟨.hbm, 229, rfl⟩
abbrev main_v184 : Ref sig .tc := ⟨.hbm, 230, rfl⟩
abbrev main_c_40 : Ref sig .tc := ⟨.hbm, 231, rfl⟩
abbrev main_v185 : Ref sig .tc := ⟨.hbm, 232, rfl⟩
abbrev main_v186 : Ref sig .tc := ⟨.hbm, 233, rfl⟩
abbrev main_v187 : Ref sig .tc := ⟨.hbm, 234, rfl⟩
abbrev main_c_41 : Ref sig .tc := ⟨.hbm, 235, rfl⟩
abbrev main_v188 : Ref sig .tc := ⟨.hbm, 236, rfl⟩
abbrev main_v189 : Ref sig .tc := ⟨.hbm, 237, rfl⟩
abbrev main_c_42 : Ref sig .tc := ⟨.hbm, 238, rfl⟩
abbrev main_v190 : Ref sig .tc := ⟨.hbm, 239, rfl⟩
abbrev main_v191 : Ref sig .tc := ⟨.hbm, 240, rfl⟩
abbrev main_v192 : Ref sig .tc := ⟨.hbm, 241, rfl⟩
abbrev main_v193 : Ref sig .tc := ⟨.hbm, 242, rfl⟩
abbrev main_v194 : Ref sig .tc := ⟨.hbm, 243, rfl⟩
abbrev main_v195 : Ref sig .tc := ⟨.hbm, 244, rfl⟩
abbrev main_v196 : Ref sig .tc := ⟨.hbm, 245, rfl⟩
abbrev main_v197 : Ref sig .tc := ⟨.hbm, 246, rfl⟩
abbrev main_v198 : Ref sig .tc := ⟨.hbm, 247, rfl⟩
abbrev main_c_43 : Ref sig .tc := ⟨.hbm, 248, rfl⟩
abbrev main_v199 : Ref sig .tc := ⟨.hbm, 249, rfl⟩
abbrev main_v200 : Ref sig .tc := ⟨.hbm, 250, rfl⟩
abbrev main_c_44 : Ref sig .tc := ⟨.hbm, 251, rfl⟩
abbrev main_v201 : Ref sig .tc := ⟨.hbm, 252, rfl⟩
abbrev main_v202 : Ref sig .tc := ⟨.hbm, 253, rfl⟩
abbrev main_v203 : Ref sig .tc := ⟨.hbm, 254, rfl⟩
abbrev main_c_45 : Ref sig .tc := ⟨.hbm, 255, rfl⟩
abbrev main_v204 : Ref sig .tc := ⟨.hbm, 256, rfl⟩
abbrev main_v205 : Ref sig .tc := ⟨.hbm, 257, rfl⟩
abbrev main_c_46 : Ref sig .tc := ⟨.hbm, 258, rfl⟩
abbrev main_v206 : Ref sig .tc := ⟨.hbm, 259, rfl⟩
abbrev main_v207 : Ref sig .tc := ⟨.hbm, 260, rfl⟩
abbrev main_v208 : Ref sig .tc := ⟨.hbm, 261, rfl⟩
abbrev main_v209 : Ref sig .tc := ⟨.hbm, 262, rfl⟩
abbrev main_v210 : Ref sig .tc := ⟨.hbm, 263, rfl⟩
abbrev main_v211 : Ref sig .tc := ⟨.hbm, 264, rfl⟩
abbrev main_v212 : Ref sig .tc := ⟨.hbm, 265, rfl⟩
abbrev main_c_47 : Ref sig .tc := ⟨.hbm, 266, rfl⟩
abbrev main_v213 : Ref sig .tc := ⟨.hbm, 267, rfl⟩
abbrev main_v214 : Ref sig .tc := ⟨.hbm, 268, rfl⟩
abbrev main_c_48 : Ref sig .tc := ⟨.hbm, 269, rfl⟩
abbrev main_v215 : Ref sig .tc := ⟨.hbm, 270, rfl⟩
abbrev main_v216 : Ref sig .tc := ⟨.hbm, 271, rfl⟩
abbrev main_v217 : Ref sig .tc := ⟨.hbm, 272, rfl⟩
abbrev main_v218 : Ref sig .tc := ⟨.hbm, 273, rfl⟩
abbrev main_v219 : Ref sig .tc := ⟨.hbm, 274, rfl⟩
abbrev main_v220 : Ref sig .tc := ⟨.hbm, 275, rfl⟩
abbrev main_v221 : Ref sig .tc := ⟨.hbm, 276, rfl⟩
abbrev main_v222 : Ref sig .tc := ⟨.hbm, 277, rfl⟩
abbrev main_v223 : Ref sig .tc := ⟨.hbm, 278, rfl⟩
abbrev main_v224 : Ref sig .tc := ⟨.hbm, 279, rfl⟩
abbrev main_v225 : Ref sig .tc := ⟨.hbm, 280, rfl⟩
abbrev main_v226 : Ref sig .tc := ⟨.hbm, 281, rfl⟩
abbrev main_v227 : Ref sig .tc := ⟨.hbm, 282, rfl⟩
abbrev main_v228 : Ref sig .tc := ⟨.hbm, 283, rfl⟩
abbrev main_v229 : Ref sig .tc := ⟨.hbm, 284, rfl⟩
abbrev main_v230 : Ref sig .tc := ⟨.hbm, 285, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S16x14336 .i16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x14336 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.KLoops.lean ====
/- The loops of the kernel's body at the machine's floats: what one trip leaves is not named. -/
module

public import proofs.«01_k».proof.Proof.Gen.Kernel.Loops
public import proofs.«01_k».proof.Proof.Gen.Kernel.Launch

@[expose] public section

set_option warn.classDefReducibility false
set_option maxRecDepth 16384

noncomputable section

namespace Cert.Proof.Kernel

open Cert.Kernel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

/-- The algebra the invariants below are stated at: the frame kit's (Gen/<Name>/Frame.lean,
   Gen/<Name>/Loops.lean `𝕄G`) — no counters beside the points-tos, no variants, no bound, every
   name enabled. A proof that threads more through the loop (a ring's cells, a semaphore ledger)
   restates `UU` and the stubs' `𝒱₀ c none Set.univ`. -/
abbrev UU (nD : Nat) (τ : Topo) : Type := UR sig nD τ
abbrev 𝒱₀ : Variants := Variants.none

/-- The four buffers a trip touches — the packed words, the scales, the three candidate magnitudes and the weights —
    owned whole, at contents nothing names. -/
abbrev Held (c : Dev nD) (arg3 : Memref sig .tc .vmem S128x8x128 .i32) (arg4 : Memref sig .tc .vmem S16x512 .i16) (f3 : Buf (Elt F) (arg3.view.loc (c : Thread nD τ))) (f4 : Buf (Elt F) (arg4.view.loc (c : Thread nD τ)))
    (arg8 : Memref sig .tc .vmem S3x128x512 .i32) (arg9 : Memref sig .tc .vmem S2048x512 .i32) : sProp (MT nD τ sig Unit (Elt F) ℕ (UU nD τ) ℕ) :=
  iprop((arg3.view.loc (c : Thread nD τ) ↦[arg3.view.set]{fullShare} f3) ∗ (arg4.view.loc (c : Thread nD τ) ↦[arg4.view.set]{fullShare} f4) ∗ (∃ f, (arg8.view.loc (c : Thread nD τ) ↦[arg8.view.set]{fullShare} f)) ∗ (∃ f, (arg9.view.loc (c : Thread nD τ) ↦[arg9.view.set]{fullShare} f)))

/-- The inner loop of the first point: a trip runs over the four buffers. -/
@[sl_loop] noncomputable def loopInv_k0_t2 (c : Dev nD) (i : grid0.Coords) (arg1 : Memref sig .tc .vmem S256x4096 .bf16) (harg1 : arg1.IsWhole) (arg2 : Memref sig .tc .vmem S8x256 .i8) (harg2 : arg2.IsWhole) (arg3 : Memref sig .tc .vmem S128x8x128 .i32) (harg3 : arg3.IsWhole) (arg4 : Memref sig .tc .vmem S16x512 .i16) (harg4 : arg4.IsWhole) (arg5 : Memref sig .tc .vmem S256x512 .bf16) (harg5 : arg5.IsWhole) (arg6 : Memref sig .tc .vmem S2x8x128 .i32) (harg6 : arg6.IsWhole) (arg7 : Memref sig .tc .vmem S128x4096 .i32) (harg7 : arg7.IsWhole) (arg8 : Memref sig .tc .vmem S3x128x512 .i32) (harg8 : arg8.IsWhole) (arg9 : Memref sig .tc .vmem S2048x512 .i32) (harg9 : arg9.IsWhole) (k0_h1 : k0_cond1 i = 1#1) (v39 : IVec S8x128 32) (v50 : IVec S8x128 32) (v80 : Vec F S1x8x128 .i32) (v82 : Vec F S1x8x128 .i32) (k0_t1 : Fin k0_t1_loop.trips) (v86 : BitVec 32) (f3 : Buf (Elt F) (arg3.view.loc (c : Thread nD τ))) (f4 : Buf (Elt F) (arg4.view.loc (c : Thread nD τ))) :
    Cert.Kernel.Gen.LoopInvTy_k0_t2 (F := F) Unit ℕ (UU nD τ) ℕ 𝒱₀ c none Set.univ i arg1 harg1 arg2 harg2 arg3 harg3 arg4 harg4 arg5 harg5 arg6 harg6 arg7 harg7 arg8 harg8 arg9 harg9 k0_h1 v39 v50 v80 v82 k0_t1 v86 where
  inv := fun k acc => Held c arg3 arg4 f3 f4 arg8 arg9
  step := fun k acc => by
    unfold Gen.k0_t2_body
    iintro ⟨H3, H4, ⟨%f8, H8⟩, ⟨%f9, H9⟩⟩
    simp only [Gen.k0_part1_eq_skeleton, Gen.k0_part2_eq_skeleton, Gen.k0_part3_eq_skeleton, Gen.k0_part4_eq_skeleton, Gen.k0_part5_eq_skeleton, Gen.k0_part6_eq_skeleton, Gen.k0_part7_eq_skeleton, Gen.k0_part8_eq_skeleton, Gen.k0_part9_eq_skeleton, Gen.k0_part10_eq_skeleton, Gen.k0_part11_eq_skeleton, Gen.k0_part12_eq_skeleton]
    sl_exec
    sl_step
    isplitl [H3]
    · iexact H3
    isplitl [H4]
    · iexact H4
    isplitl [H8]
    · iexists _; iexact H8
    iexists _; iexact H9

/-- The outer loop of the first point. -/
@[sl_loop] noncomputable def loopInv_k0_t1 (c : Dev nD) (i : grid0.Coords) (arg1 : Memref sig .tc .vmem S256x4096 .bf16) (harg1 : arg1.IsWhole) (arg2 : Memref sig .tc .vmem S8x256 .i8) (harg2 : arg2.IsWhole) (arg3 : Memref sig .tc .vmem S128x8x128 .i32) (harg3 : arg3.IsWhole) (arg4 : Memref sig .tc .vmem S16x512 .i16) (harg4 : arg4.IsWhole) (arg5 : Memref sig .tc .vmem S256x512 .bf16) (harg5 : arg5.IsWhole) (arg6 : Memref sig .tc .vmem S2x8x128 .i32) (harg6 : arg6.IsWhole) (arg7 : Memref sig .tc .vmem S128x4096 .i32) (harg7 : arg7.IsWhole) (arg8 : Memref sig .tc .vmem S3x128x512 .i32) (harg8 : arg8.IsWhole) (arg9 : Memref sig .tc .vmem S2048x512 .i32) (harg9 : arg9.IsWhole) (k0_h1 : k0_cond1 i = 1#1) (v39 : IVec S8x128 32) (v50 : IVec S8x128 32) (v80 : Vec F S1x8x128 .i32) (v82 : Vec F S1x8x128 .i32) (f3 : Buf (Elt F) (arg3.view.loc (c : Thread nD τ))) (f4 : Buf (Elt F) (arg4.view.loc (c : Thread nD τ))) :
    Cert.Kernel.Gen.LoopInvTy_k0_t1 (F := F) Unit ℕ (UU nD τ) ℕ 𝒱₀ c none Set.univ i arg1 harg1 arg2 harg2 arg3 harg3 arg4 harg4 arg5 harg5 arg6 harg6 arg7 harg7 arg8 harg8 arg9 harg9 k0_h1 v39 v50 v80 v82 where
  inv := fun k acc => Held c arg3 arg4 f3 f4 arg8 arg9
  step := fun k acc => by
    unfold Gen.k0_t1_body
    iintro ⟨H3, H4, ⟨%f8, H8⟩, ⟨%f9, H9⟩⟩
    sl_exec
    sl_step
    isplitl [H3]
    · iexact H3
    isplitl [H4]
    · iexact H4
    isplitl [H8]
    · iexists _; iexact H8
    iexists _; iexact H9

/-- The inner loop of the later points. -/
@[sl_loop] noncomputable def loopInv_k0_t4 (c : Dev nD) (i : grid0.Coords) (arg1 : Memref sig .tc .vmem S256x4096 .bf16) (harg1 : arg1.IsWhole) (arg2 : Memref sig .tc .vmem S8x256 .i8) (harg2 : arg2.IsWhole) (arg3 : Memref sig .tc .vmem S128x8x128 .i32) (harg3 : arg3.IsWhole) (arg4 : Memref sig .tc .vmem S16x512 .i16) (harg4 : arg4.IsWhole) (arg5 : Memref sig .tc .vmem S256x512 .bf16) (harg5 : arg5.IsWhole) (arg6 : Memref sig .tc .vmem S2x8x128 .i32) (harg6 : arg6.IsWhole) (arg7 : Memref sig .tc .vmem S128x4096 .i32) (harg7 : arg7.IsWhole) (arg8 : Memref sig .tc .vmem S3x128x512 .i32) (harg8 : arg8.IsWhole) (arg9 : Memref sig .tc .vmem S2048x512 .i32) (harg9 : arg9.IsWhole) (k0_h2 : k0_cond2 i = 1#1) (v18 : Vec F S1x8x128 .i32) (v20 : Vec F S1x8x128 .i32) (k0_t3 : Fin k0_t3_loop.trips) (v24 : BitVec 32) (f3 : Buf (Elt F) (arg3.view.loc (c : Thread nD τ))) (f4 : Buf (Elt F) (arg4.view.loc (c : Thread nD τ))) :
    Cert.Kernel.Gen.LoopInvTy_k0_t4 (F := F) Unit ℕ (UU nD τ) ℕ 𝒱₀ c none Set.univ i arg1 harg1 arg2 harg2 arg3 harg3 arg4 harg4 arg5 harg5 arg6 harg6 arg7 harg7 arg8 harg8 arg9 harg9 k0_h2 v18 v20 k0_t3 v24 where
  inv := fun k acc => Held c arg3 arg4 f3 f4 arg8 arg9
  step := fun k acc => by
    unfold Gen.k0_t4_body
    iintro ⟨H3, H4, ⟨%f8, H8⟩, ⟨%f9, H9⟩⟩
    simp only [Gen.k0_part14_eq_skeleton, Gen.k0_part15_eq_skeleton, Gen.k0_part16_eq_skeleton, Gen.k0_part17_eq_skeleton, Gen.k0_part18_eq_skeleton, Gen.k0_part19_eq_skeleton, Gen.k0_part20_eq_skeleton, Gen.k0_part21_eq_skeleton, Gen.k0_part22_eq_skeleton, Gen.k0_part23_eq_skeleton, Gen.k0_part24_eq_skeleton]
    sl_exec
    sl_step
    isplitl [H3]
    · iexact H3
    isplitl [H4]
    · iexact H4
    isplitl [H8]
    · iexists _; iexact H8
    iexists _; iexact H9

/-- The outer loop of the later points. -/
@[sl_loop] noncomputable def loopInv_k0_t3 (c : Dev nD) (i : grid0.Coords) (arg1 : Memref sig .tc .vmem S256x4096 .bf16) (harg1 : arg1.IsWhole) (arg2 : Memref sig .tc .vmem S8x256 .i8) (harg2 : arg2.IsWhole) (arg3 : Memref sig .tc .vmem S128x8x128 .i32) (harg3 : arg3.IsWhole) (arg4 : Memref sig .tc .vmem S16x512 .i16) (harg4 : arg4.IsWhole) (arg5 : Memref sig .tc .vmem S256x512 .bf16) (harg5 : arg5.IsWhole) (arg6 : Memref sig .tc .vmem S2x8x128 .i32) (harg6 : arg6.IsWhole) (arg7 : Memref sig .tc .vmem S128x4096 .i32) (harg7 : arg7.IsWhole) (arg8 : Memref sig .tc .vmem S3x128x512 .i32) (harg8 : arg8.IsWhole) (arg9 : Memref sig .tc .vmem S2048x512 .i32) (harg9 : arg9.IsWhole) (k0_h2 : k0_cond2 i = 1#1) (v18 : Vec F S1x8x128 .i32) (v20 : Vec F S1x8x128 .i32) (f3 : Buf (Elt F) (arg3.view.loc (c : Thread nD τ))) (f4 : Buf (Elt F) (arg4.view.loc (c : Thread nD τ))) :
    Cert.Kernel.Gen.LoopInvTy_k0_t3 (F := F) Unit ℕ (UU nD τ) ℕ 𝒱₀ c none Set.univ i arg1 harg1 arg2 harg2 arg3 harg3 arg4 harg4 arg5 harg5 arg6 harg6 arg7 harg7 arg8 harg8 arg9 harg9 k0_h2 v18 v20 where
  inv := fun k acc => Held c arg3 arg4 f3 f4 arg8 arg9
  step := fun k acc => by
    unfold Gen.k0_t3_body
    iintro ⟨H3, H4, ⟨%f8, H8⟩, ⟨%f9, H9⟩⟩
    sl_exec
    sl_step
    isplitl [H3]
    · iexact H3
    isplitl [H4]
    · iexact H4
    isplitl [H8]
    · iexists _; iexact H8
    iexists _; iexact H9

end Cert.Proof.Kernel

end
-- ==== Proof.KBody.lean ====
/- The frame of the kernel at the machine's floats: it runs, ends with every argument unchanged and every counter at
   zero. Nothing is named of what its scratch buffers and its output hold. -/
module

public import proofs.«01_k».proof.Proof.Gen.Kernel.Frame
public import proofs.«01_k».proof.Proof.Gen.Kernel.Points
public import proofs.«01_k».proof.Proof.KLoops
public import Idealize.ShloMosaic.Lib.Pipeline.FrameBody
public import Idealize.ShloMosaic.Lib.Ring
public import Idealize.ShloMosaic.Lib.WordCmp
public import Idealize.ShloMosaic.Lib.Claim

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of_forgetting (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      (Pipeline.RDat.FramePost.arr_in h c 3 rfl).trans ((hA c 3).trans (V_main_arg2 m c)),
      ((h c).2 main_arg3 (Pipeline.mem_restRefs_of main_arg3 (by decide) (by decide))).trans (V_main_arg3 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only. -/
theorem hcond0_0 : ∀ t : Fin cfg0.N, cond0_0 (grid0.coords t) ↔ t.val % 29 = 0 :=
  (by decide +kernel : ∀ t : Fin grid0.N, cond0_0 (grid0.coords t) ↔ t.val % 29 = 0)

/-- The condition of the body's `scf.if` 1 (`k0_h2`), from the grid coordinates (the skeleton's scalar
    chain substituted). -/
abbrev cond0_1 (i : grid0.Coords) : Prop := k0_cond2 i = 1#1
/-- It holds at the points whose coordinates have 1 ≤ i0 and i0 ≤ 27 — decided over the grid. -/
theorem hcond0_1 : ∀ t : Fin cfg0.N, cond0_1 (grid0.coords t) ↔ (1 ≤ t.val % 29 ∧ t.val % 29 ≤ 27) :=
  (by decide +kernel : ∀ t : Fin grid0.N, cond0_1 (grid0.coords t) ↔ (1 ≤ t.val % 29 ∧ t.val % 29 ≤ 27))

/-- The condition of the body's `scf.if` 2 (`k0_h3`), from the grid coordinates (the skeleton's scalar
    chain substituted). -/
abbrev cond0_2 (i : grid0.Coords) : Prop := k0_cond3 i = 1#1
/-- It holds at the last point only — by arithmetic of the point. -/
theorem hcond0_2 : ∀ t : Fin cfg0.N, cond0_2 (grid0.coords t) ↔ t.val % 29 = 28 :=
  (by decide +kernel : ∀ t : Fin grid0.N, cond0_2 (grid0.coords t) ↔ t.val % 29 = 28)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S256x4096 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x256 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x8x128 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S16x512 .i16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x512 .bf16 := win0_4.stage (cfg0.slots t 4)
abbrev hs0_4 (t : Fin cfg0.N) : (ms0_4 t).IsWhole := hstage0_4 ((cfg0.slots t 4).cast nbuf0_4)
/-- The scratch operands: whole scoped buffers of the kernel's own, passed beside the windows. -/
abbrev scM0_0 : Memref sig .tc .vmem S2x8x128 .i32 := Memref.whole cc0_scratch0
abbrev scM0_1 : Memref sig .tc .vmem S128x4096 .i32 := Memref.whole cc0_scratch1
abbrev scM0_2 : Memref sig .tc .vmem S3x128x512 .i32 := Memref.whole cc0_scratch2
abbrev scM0_3 : Memref sig .tc .vmem S2048x512 .i32 := Memref.whole cc0_scratch3

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

-- (the run's proof term is large: checking it walks past the default budget)
set_option maxHeartbeats 1000000 in
/-- The body at the first point: tables, the packed `x` and the first tile. -/
theorem kernelRun0_A (c : Dev nD) (i : grid0.Coords) (arg1 : Memref sig .tc .vmem S256x4096 .bf16) (harg1 : arg1.IsWhole) (arg2 : Memref sig .tc .vmem S8x256 .i8) (harg2 : arg2.IsWhole) (arg3 : Memref sig .tc .vmem S128x8x128 .i32) (harg3 : arg3.IsWhole) (arg4 : Memref sig .tc .vmem S16x512 .i16) (harg4 : arg4.IsWhole) (arg5 : Memref sig .tc .vmem S256x512 .bf16) (harg5 : arg5.IsWhole) (arg6 : Memref sig .tc .vmem S2x8x128 .i32) (harg6 : arg6.IsWhole) (arg7 : Memref sig .tc .vmem S128x4096 .i32) (harg7 : arg7.IsWhole) (arg8 : Memref sig .tc .vmem S3x128x512 .i32) (harg8 : arg8.IsWhole) (arg9 : Memref sig .tc .vmem S2048x512 .i32) (harg9 : arg9.IsWhole) (hc0 : cond0_0 i) (hc1 : ¬cond0_1 i) (hc2 : ¬cond0_2 i)
    (x0 : Vec F S256x4096 .bf16) (x1 : Vec F S8x256 .i8) (x2 : Vec F S128x8x128 .i32) (x3 : Vec F S16x512 .i16) :
      ∀ (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)) -∗ K ⟨⟩))
          ⊢ wp frame (wpE (defs₀ (F := F)) Variants.none c none) Set.univ (cc0_iq2_matmul i arg1 harg1 arg2 harg2 arg3 harg3 arg4 harg4 arg5 harg5 arg6 harg6 arg7 harg7 arg8 harg8 arg9 harg9) K := by
    intro K
    simp only [cc0_iq2_matmul_eq_skeleton]; unfold cc0_iq2_matmul_skel
    simp only [k0_part12_eq_skeleton, k0_part13_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _, _; isplitr; swap; · iexact H4
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

-- (the run's proof term is large: checking it walks past the default budget)
set_option maxHeartbeats 1000000 in
/-- The body at a middle point: one product, then the next tile. -/
theorem kernelRun0_B (c : Dev nD) (i : grid0.Coords) (arg1 : Memref sig .tc .vmem S256x4096 .bf16) (harg1 : arg1.IsWhole) (arg2 : Memref sig .tc .vmem S8x256 .i8) (harg2 : arg2.IsWhole) (arg3 : Memref sig .tc .vmem S128x8x128 .i32) (harg3 : arg3.IsWhole) (arg4 : Memref sig .tc .vmem S16x512 .i16) (harg4 : arg4.IsWhole) (arg5 : Memref sig .tc .vmem S256x512 .bf16) (harg5 : arg5.IsWhole) (arg6 : Memref sig .tc .vmem S2x8x128 .i32) (harg6 : arg6.IsWhole) (arg7 : Memref sig .tc .vmem S128x4096 .i32) (harg7 : arg7.IsWhole) (arg8 : Memref sig .tc .vmem S3x128x512 .i32) (harg8 : arg8.IsWhole) (arg9 : Memref sig .tc .vmem S2048x512 .i32) (harg9 : arg9.IsWhole) (hc0 : ¬cond0_0 i) (hc1 : cond0_1 i) (hc2 : ¬cond0_2 i)
    (x0 : Vec F S256x4096 .bf16) (x1 : Vec F S8x256 .i8) (x2 : Vec F S128x8x128 .i32) (x3 : Vec F S16x512 .i16) :
      ∀ (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)) -∗ K ⟨⟩))
          ⊢ wp frame (wpE (defs₀ (F := F)) Variants.none c none) Set.univ (cc0_iq2_matmul i arg1 harg1 arg2 harg2 arg3 harg3 arg4 harg4 arg5 harg5 arg6 harg6 arg7 harg7 arg8 harg8 arg9 harg9) K := by
    intro K
    simp only [cc0_iq2_matmul_eq_skeleton]; unfold cc0_iq2_matmul_skel
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _, _; isplitr; swap; · iexact H4
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

-- (the run's proof term is large: checking it walks past the default budget)
set_option maxHeartbeats 1000000 in
/-- The body at the last point: the last product. -/
theorem kernelRun0_C (c : Dev nD) (i : grid0.Coords) (arg1 : Memref sig .tc .vmem S256x4096 .bf16) (harg1 : arg1.IsWhole) (arg2 : Memref sig .tc .vmem S8x256 .i8) (harg2 : arg2.IsWhole) (arg3 : Memref sig .tc .vmem S128x8x128 .i32) (harg3 : arg3.IsWhole) (arg4 : Memref sig .tc .vmem S16x512 .i16) (harg4 : arg4.IsWhole) (arg5 : Memref sig .tc .vmem S256x512 .bf16) (harg5 : arg5.IsWhole) (arg6 : Memref sig .tc .vmem S2x8x128 .i32) (harg6 : arg6.IsWhole) (arg7 : Memref sig .tc .vmem S128x4096 .i32) (harg7 : arg7.IsWhole) (arg8 : Memref sig .tc .vmem S3x128x512 .i32) (harg8 : arg8.IsWhole) (arg9 : Memref sig .tc .vmem S2048x512 .i32) (harg9 : arg9.IsWhole) (hc0 : ¬cond0_0 i) (hc1 : ¬cond0_1 i) (hc2 : cond0_2 i)
    (x0 : Vec F S256x4096 .bf16) (x1 : Vec F S8x256 .i8) (x2 : Vec F S128x8x128 .i32) (x3 : Vec F S16x512 .i16) :
      ∀ (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)) -∗ K ⟨⟩))
          ⊢ wp frame (wpE (defs₀ (F := F)) Variants.none c none) Set.univ (cc0_iq2_matmul i arg1 harg1 arg2 harg2 arg3 harg3 arg4 harg4 arg5 harg5 arg6 harg6 arg7 harg7 arg8 harg8 arg9 harg9) K := by
    intro K
    simp only [cc0_iq2_matmul_eq_skeleton]; unfold cc0_iq2_matmul_skel
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _, _; isplitr; swap; · iexact H4
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

/-! ## The pipeline's proof data -/

/-- The output windows this certificate FORGETS (4): nothing reads what the kernel leaves in them, so nothing
    of it is named (Lib/Pipeline/Dat.lean `Dat.toRForget`). -/
def forgets0 : Fin 5 → Bool := fun w => w.val == 4

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (∃ d, owns (c : Thread nD τ) (ms0_4 t) fullShare d))

set_option maxHeartbeats 2400000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 29 := lt_of_lt_of_eq t.isLt (show cfg0.N = 29 from N_0)
  by_cases h0 : t.val % 29 = 0
  · by_cases h1 : (1 ≤ t.val % 29 ∧ t.val % 29 ≤ 27)
    · exfalso; omega
    · by_cases h2 : t.val % 29 = 28
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        iintro ⟨⟨⟨HS0, HS1, HS2, HS3⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ _ _ _ _ _ _ ((hcond0_0 t).mpr h0) (fun h => h1 ((hcond0_1 t).mp h)) (fun h => h2 ((hcond0_2 t).mp h)) (iblk m c 0 t) (iblk m c 1 t) (iblk m c 2 t) (iblk m c 3 t)) _)
        isplitl [H0]; · iexact H0
        isplitl [H1]; · iexact H1
        isplitl [H2]; · iexact H2
        isplitl [H3]; · iexact H3
        isplitl [H4]; · iexists _; iexact H4
        isplitl [HS0]; · iexact HS0
        isplitl [HS1]; · iexact HS1
        isplitl [HS2]; · iexact HS2
        isplitl [HS3]; · iexact HS3
        iintro ⟨H0, H1, H2, H3, H4, HS0, HS1, HS2, HS3⟩
        isplitl [HS0 HS1 HS2 HS3 Hg]
        · isplitl [HS0 HS1 HS2 HS3]
          · isplitl [HS0]
            · iexact HS0
            isplitl [HS1]
            · iexact HS1
            isplitl [HS2]
            · iexact HS2
            iexact HS3
          iexact Hg
        isplitl [Ho]; · iexact Ho
        isplitl [H0]; · iexact H0
        isplitl [H1]; · iexact H1
        isplitl [H2]; · iexact H2
        isplitl [H3]; · iexact H3
        iexact H4
  · by_cases h1 : (1 ≤ t.val % 29 ∧ t.val % 29 ≤ 27)
    · by_cases h2 : t.val % 29 = 28
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        iintro ⟨⟨⟨HS0, HS1, HS2, HS3⟩, Hg⟩, Ho, ⟨%d0, H0⟩, ⟨%d1, H1⟩, ⟨%d2, H2⟩, ⟨%d3, H3⟩, ⟨%d4, H4⟩⟩
        iapply ((kernelRun0_B c (grid0.coords t) _ _ _ _ _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) (iblk m c 3 t)) _)
        isplitl [H0]; · iexact H0
        isplitl [H1]; · iexact H1
        isplitl [H2]; · iexact H2
        isplitl [H3]; · iexact H3
        isplitl [H4]; · iexists _; iexact H4
        isplitl [HS0]; · iexact HS0
        isplitl [HS1]; · iexact HS1
        isplitl [HS2]; · iexact HS2
        isplitl [HS3]; · iexact HS3
        iintro ⟨H0, H1, H2, H3, H4, HS0, HS1, HS2, HS3⟩
        isplitl [HS0 HS1 HS2 HS3 Hg]
        · isplitl [HS0 HS1 HS2 HS3]
          · isplitl [HS0]
            · iexact HS0
            isplitl [HS1]
            · iexact HS1
            isplitl [HS2]
            · iexact HS2
            iexact HS3
          iexact Hg
        isplitl [Ho]; · iexact Ho
        isplitl [H0]; · iexact H0
        isplitl [H1]; · iexact H1
        isplitl [H2]; · iexact H2
        isplitl [H3]; · iexact H3
        iexact H4
    · by_cases h2 : t.val % 29 = 28
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        iintro ⟨⟨⟨HS0, HS1, HS2, HS3⟩, Hg⟩, Ho, ⟨%d0, H0⟩, ⟨%d1, H1⟩, ⟨%d2, H2⟩, ⟨%d3, H3⟩, ⟨%d4, H4⟩⟩
        iapply ((kernelRun0_C c (grid0.coords t) _ _ _ _ _ _ _ _ _ _ _ _ _ _ _ _ _ _ (fun h => h0 ((hcond0_0 t).mp h)) (fun h => h1 ((hcond0_1 t).mp h)) ((hcond0_2 t).mpr h2) (iblk m c 0 t) (iblk m c 1 t) (iblk m c 2 t) (iblk m c 3 t)) _)
        isplitl [H0]; · iexact H0
        isplitl [H1]; · iexact H1
        isplitl [H2]; · iexact H2
        isplitl [H3]; · iexact H3
        isplitl [H4]; · iexists _; iexact H4
        isplitl [HS0]; · iexact HS0
        isplitl [HS1]; · iexact HS1
        isplitl [HS2]; · iexact HS2
        isplitl [HS3]; · iexact HS3
        iintro ⟨H0, H1, H2, H3, H4, HS0, HS1, HS2, HS3⟩
        isplitl [HS0 HS1 HS2 HS3 Hg]
        · isplitl [HS0 HS1 HS2 HS3]
          · isplitl [HS0]
            · iexact HS0
            isplitl [HS1]
            · iexact HS1
            isplitl [HS2]
            · iexact HS2
            iexact HS3
          iexact Hg
        isplitl [Ho]; · iexact Ho
        isplitl [H0]; · iexact H0
        isplitl [H1]; · iexact H1
        isplitl [H2]; · iexact H2
        isplitl [H3]; · iexact H3
        iexact H4
      · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (window 4) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of_forgetting m ρ (fun c => (dats m 0 c).toRForget forgets0) (A_eq m) (run_main m ρ)

/-- The frame claim at any floats. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Proof.Kernel

end
-- ==== Proof.Vec.lean ====
/- One trip of the dequantiser, read at an element: the vector operations that unpack a block of weights, and the formula
   of one weight from the two table words, the two packed words and the scale that it comes from. -/
module

public import proofs.«01_k».proof.Proof.Gen.KernelIdeal.Skeleton
public import Idealize.ShloMosaic.Lib.ValueIdx
public import Idealize.ShloMosaic.Lib.BitcastPair
public import Idealize.ShloMosaic.Lib.Pipeline.Value
public import Idealize.ShloMosaic.Lib.Pointwise

@[expose] public section

set_option maxRecDepth 16384

noncomputable section

namespace Cert.Proof.KernelIdeal

open Cert.KernelIdeal Cert.KernelIdeal.Gen
open Idealize.ShloMosaic

variable {F : FTy → Type} [FloatOps F]

/-! ## One element -/

/-- Byte `l` of a word. -/
def byteS (v : BitVec 32) (l : ℕ) : BitVec 8 := v.extractLsb' (8 * l) 8

/-- The absolute value of an f16 given by its bits, as an f32. -/
def absS (h : BitVec 16) : F .f32 := k0_pay9 (F := F) (fun _ => h) (ix2 0 0)

/-- The mask that flips every sign code when the scale is negative. -/
def flipS (h : BitVec 16) : BitVec 32 := k0_pay10 (F := F) (fun _ => h) (ix2 0 0)

/-- A candidate magnitude: the sub-block's scale times the constant `k`, given by its bits. -/
def scaleS (k : BitVec 32) (h : BitVec 16) (wb : BitVec 32) : F .bf16 :=
  FloatOps.truncf .bf16 bitsLt_bf16_f32 (FloatOps.mulf (FloatOps.addf (FloatOps.sitofp .f32 (IntOp.shrui .vector wb 28#32)) (FloatOps.ofBits .f32 0x3F000000#32))
    (FloatOps.mulf (absS h) (FloatOps.ofBits .f32 k)))

/-- The table word of magnitudes picked by byte `l` of the first packed word. -/
def magS (mt : S8x128.Idx → BitVec 32) (wa : BitVec 32) (ρ : Fin 8) (l : ℕ) : BitVec 32 :=
  IntOp.andi (IntOp.shrui .vector
    (mt (ix2 ρ ⟨((byteS (IntOp.andi wa 2139062143#32) l).signExtend 32).toNat % 128, Nat.mod_lt _ (by decide)⟩))
    ((byteS (IntOp.andi (IntOp.shrui .vector wa 7#32) 16843009#32) l).signExtend 32)) 1431655765#32

/-- The four seven-bit sign codes of the second packed word, one per byte, flipped when the scale is negative. -/
def codeS (h : BitVec 16) (wb : BitVec 32) : BitVec 32 :=
  let y := IntOp.ori (IntOp.andi wb 16383#32) (IntOp.shli .vector (IntOp.andi wb 268419072#32) 2#32)
  IntOp.xori (IntOp.addi y (IntOp.andi y 1065369472#32)) (flipS (F := F) h)

/-- The table word of signs picked by byte `l` of the sign codes. -/
def sgnS (st : S8x128.Idx → BitVec 32) (h : BitVec 16) (wb : BitVec 32) (ρ : Fin 8) (l : ℕ) : BitVec 32 :=
  st (ix2 ρ ⟨((byteS (codeS (F := F) h wb) l).signExtend 32).toNat % 128, Nat.mod_lt _ (by decide)⟩)

/-- Nibble `j` of a word, read as a signed number. -/
def nibS (g : BitVec 32) (j : ℕ) : F .bf16 :=
  FloatOps.sitofp .bf16 (IntOp.shrsi .vector (IntOp.shli .vector g (IntOp.subi 28#32 (IntOp.muli 4#32 (BitVec.ofNat 32 j)))) 28#32)

/-- One weight. -/
def wElt (mt st : S8x128.Idx → BitVec 32) (h : BitVec 16) (wa wb : BitVec 32) (ρ : Fin 8) (l j : ℕ) : F .bf16 :=
  FloatOps.mulf (FloatOps.maximumf (scaleS 0x40000000#32 h wb) (FloatOps.minimumf (scaleS 0x412C0000#32 h wb)
    (FloatOps.mulf (nibS (magS mt wa ρ l) j) (scaleS 0x40C80000#32 h wb)))) (nibS (sgnS (F := F) st h wb ρ l) j)

/-! ## The vector operations -/

/-- Eight rows of words opened into sixty-four rows of signed nibbles. -/
def nibV (g : IVec S8x128 32) : FVec F S64x128 .bf16 :=
  sitofp .bf16 (shapeCast S64x128 (shrsi (shli
    (broadcastTo S8x8x128 (shapeCast S8x1x128 (shapeCast S8x1x128 g shapeCasts_S8x128_S8x1x128) shapeCasts_S8x1x128_S8x1x128) broadcasts_S8x1x128_S8x8x128)
    (subi (broadcast S8x8x128 28#32) (muli (broadcast S8x8x128 4#32) (iota .tc S8x8x128 32 [1] iota_S8x8x128_d1_w32)))) (broadcast S8x8x128 28#32)) shapeCasts_S8x8x128_S64x128)

/-- Eight rows of an index word, picked from thirty-two and reshaped there and back. -/
def pickV (idx : IVec S32x128 32) (off : Fin S32x128.rank → ℕ) (h : S32x128.Slices off S8x128) : IVec S8x128 32 :=
  shapeCast S8x128 (shapeCast S8x128x1 (extractStridedSlice S8x128 off idx h) shapeCasts_S8x128_S8x128x1) shapeCasts_S8x128x1_S8x128

/-- Eight rows of magnitude words. -/
def magV (mt : IVec S8x128 32) (idx half : IVec S32x128 32) (off : Fin S32x128.rank → ℕ) (h : S32x128.Slices off S8x128) : IVec S8x128 32 :=
  andi (shrui (dynamicGather 1 mt (pickV idx off h)) (extractStridedSlice S8x128 off half h)) (broadcast S8x128 1431655765#32)

/-- Eight rows of sign words. -/
def sgnV (st : IVec S8x128 32) (code : IVec S32x128 32) (off : Fin S32x128.rank → ℕ) (h : S32x128.Slices off S8x128) : IVec S8x128 32 :=
  dynamicGather 1 st (pickV code off h)

/-- One row of a candidate magnitude, repeated over a sub-block's thirty-two rows. -/
def rowV (u : Vec F S1x1x2x128 .bf16) : FVec F S32x128 .bf16 := k0_pay26 u

/-- A sub-block's thirty-two rows of weights. -/
def blkV (mag sgn : FVec F S64x128 .bf16) (off : Fin S64x128.rank → ℕ) (h : S64x128.Slices off S32x128) (u0 u2 u1 : Vec F S1x1x2x128 .bf16) :
    FVec F S32x128 .bf16 :=
  mulf (maximumf (rowV u0) (minimumf (rowV u2) (mulf (extractStridedSlice S32x128 off mag h) (rowV u1)))) (extractStridedSlice S32x128 off sgn h)

/-- The same as sixteen pairs of rows. -/
def pairV (w : FVec F S32x128 .bf16) : Vec F S16x2x128 .bf16 :=
  interleaveRows S16x2x128 (shapeCast S16x1x128 (rowsOfParity 0 S16x128 w bitcasts_S32x128_w16_S16x128_w32) shapeCasts_S16x128_S16x1x128)
    (shapeCast S16x1x128 (rowsOfParity 1 S16x128 w bitcasts_S32x128_w16_S16x128_w32) shapeCasts_S16x128_S16x1x128) bitcasts_S16x2x128_w16_S16x1x128_w32

/-! ## Each of them at an element -/

theorem nibV_apply (g : IVec S8x128 32) (a : Fin 64) (n : Fin 128) :
    nibV (F := F) g (ix2 a n) = nibS (g (ix2 ⟨a.val / 8, by omega⟩ n)) (a.val % 8) := by
  show FloatOps.sitofp .bf16 (shapeCast S64x128 _ _ _) = _
  rw [shapeCast_apply _ _ _ (ix3 (⟨a.val / 8, by omega⟩ : Fin 8) (⟨a.val % 8, by omega⟩ : Fin 8) n)
    (by rw [Shape.rowMajor_val_three, Shape.rowMajor_val_two]; show (a.val / 8 * 8 + a.val % 8) * 128 + n.val = a.val * 128 + n.val; omega)]
  have hb : broadcastTo S8x8x128 (shapeCast S8x1x128 (shapeCast S8x1x128 g shapeCasts_S8x128_S8x1x128) shapeCasts_S8x1x128_S8x1x128) broadcasts_S8x1x128_S8x8x128
      (ix3 (⟨a.val / 8, by omega⟩ : Fin 8) (⟨a.val % 8, by omega⟩ : Fin 8) n) = g (ix2 ⟨a.val / 8, by omega⟩ n) := by
    refine (broadcastTo_apply _ _ _ (ix3 (⟨a.val / 8, by omega⟩ : Fin 8) (0 : Fin 1) n)
      (fun b => match b with | ⟨0, _⟩ => rfl | ⟨1, _⟩ => rfl | ⟨2, _⟩ => rfl)).trans ?_
    rw [shapeCast_self]
    exact shapeCast_apply _ _ _ (ix2 (⟨a.val / 8, by omega⟩ : Fin 8) n)
      (by rw [Shape.rowMajor_val_three, Shape.rowMajor_val_two]; show a.val / 8 * 128 + n.val = (a.val / 8 * 1 + 0) * 128 + n.val; omega)
  have hi : iota .tc S8x8x128 32 [1] iota_S8x8x128_d1_w32 (ix3 (⟨a.val / 8, by omega⟩ : Fin 8) (⟨a.val % 8, by omega⟩ : Fin 8) n) = BitVec.ofNat 32 (a.val % 8) :=
    iota_single_apply _ _ _ _ _ _
  unfold nibS
  rw [← hb, ← hi]
  rfl

theorem pickV_apply (idx : IVec S32x128 32) (q : ℕ) (hq : q < 4) (h : S32x128.Slices ![8 * q, 0] S8x128) (ρ : Fin 8) (n : Fin 128) :
    pickV idx ![8 * q, 0] h (ix2 ρ n) = idx (ix2 ⟨8 * q + ρ.val, by omega⟩ n) := by
  unfold pickV
  rw [shapeCast_comp, shapeCast_id, Idealize.ShloMosaic.extractStridedSlice_apply _ _ _ _ (ix2 (⟨8 * q + ρ.val, by omega⟩ : Fin 32) n)]
  intro a
  match a with
  | ⟨0, _⟩ => rfl
  | ⟨1, _⟩ => show n.val = 0 + n.val; omega

theorem bytes_apply (v : IVec S8x128 32) (a : Fin 32) (n : Fin 128) :
    bitcast S32x128 8 v bitcasts_S8x128_w32_S32x128_w8 (ix2 a n) = byteS (v (ix2 ⟨a.val / 4, by omega⟩ n)) (a.val % 4) := by
  apply BitVec.eq_of_getLsbD_eq
  intro i hi
  rw [bitcast_getLsbD _ _ _ _ hi (by decide)]
  unfold byteS
  rw [BitVec.getLsbD_extractLsb']
  have hr : S32x128.row (ix2 a n) = a.val := rfl
  have e1 : (S32x128.row (ix2 a n) * 8 + i) / 32 = a.val / 4 := by rw [hr]; omega
  have e2 : (S32x128.row (ix2 a n) * 8 + i) % 32 = 8 * (a.val % 4) + i := by rw [hr]; omega
  rw [e2]
  simp only [hi, decide_true, Bool.true_and]
  congr 2
  funext c
  match c with
  | ⟨0, _⟩ => exact Fin.ext ((Shape.Bitcasts.srcIdx_row _ _ _ _ ⟨0, Nat.zero_lt_two⟩ rfl).trans e1)
  | ⟨1, _⟩ => exact Fin.ext (Shape.Bitcasts.srcIdx_other _ _ _ _ ⟨1, Nat.one_lt_two⟩ (by show ¬ 1 + 2 = 2; omega))

theorem magV_apply (mt wa : IVec S8x128 32) (q : ℕ) (hq : q < 4) (h : S32x128.Slices ![8 * q, 0] S8x128) (ρ : Fin 8) (n : Fin 128) :
    magV mt (k0_pay20 wa) (k0_pay21 wa) ![8 * q, 0] h (ix2 ρ n)
      = magS mt (wa (ix2 ⟨2 * q + ρ.val / 4, by omega⟩ n)) ρ (ρ.val % 4) := by
  have hp := pickV_apply (k0_pay20 wa) q hq h ρ n
  have hs : extractStridedSlice S8x128 ![8 * q, 0] (k0_pay21 wa) h (ix2 ρ n) = k0_pay21 wa (ix2 ⟨8 * q + ρ.val, by omega⟩ n) :=
    Idealize.ShloMosaic.extractStridedSlice_apply _ _ _ _ _ (fun a => match a with
      | ⟨0, _⟩ => rfl
      | ⟨1, _⟩ => by show n.val = 0 + n.val; omega)
  have e20 : k0_pay20 wa (ix2 ⟨8 * q + ρ.val, by omega⟩ n) = (byteS (IntOp.andi (wa (ix2 ⟨2 * q + ρ.val / 4, by omega⟩ n)) 2139062143#32) (ρ.val % 4)).signExtend 32 := by
    refine (congrArg (BitVec.signExtend 32) (bytes_apply _ _ _)).trans ?_
    have h1 : (8 * q + ρ.val) / 4 = 2 * q + ρ.val / 4 := by omega
    have h2 : (8 * q + ρ.val) % 4 = ρ.val % 4 := by omega
    simp only [h1, h2]; rfl
  have e21 : k0_pay21 wa (ix2 ⟨8 * q + ρ.val, by omega⟩ n) = (byteS (IntOp.andi (IntOp.shrui .vector (wa (ix2 ⟨2 * q + ρ.val / 4, by omega⟩ n)) 7#32) 16843009#32) (ρ.val % 4)).signExtend 32 := by
    refine (congrArg (BitVec.signExtend 32) (bytes_apply _ _ _)).trans ?_
    have h1 : (8 * q + ρ.val) / 4 = 2 * q + ρ.val / 4 := by omega
    have h2 : (8 * q + ρ.val) % 4 = ρ.val % 4 := by omega
    simp only [h1, h2]; rfl
  show IntOp.andi (IntOp.shrui .vector (dynamicGather 1 mt _ _) (extractStridedSlice S8x128 _ _ _ _)) _ = _
  rw [hs, e21, dynamicGather_apply, hp, e20]
  have hi : ∀ (x y : S8x128.Idx) (z : BitVec 32), x = y → IntOp.andi (IntOp.shrui .vector (mt x) z) 1431655765#32 = IntOp.andi (IntOp.shrui .vector (mt y) z) 1431655765#32 := by
    rintro x _ z rfl; rfl
  exact hi _ _ _ (funext fun b => match b with
    | ⟨0, _⟩ => rfl
    | ⟨1, _⟩ => rfl)

theorem sgnV_apply (st wb : IVec S8x128 32) (d : Vec F S1x128 .i16) (q : ℕ) (hq : q < 4) (h : S32x128.Slices ![8 * q, 0] S8x128) (ρ : Fin 8) (n : Fin 128) :
    sgnV st (k0_pay22 (k0_pay10 d) wb) ![8 * q, 0] h (ix2 ρ n)
      = sgnS (F := F) st (d (ix2 0 n)) (wb (ix2 ⟨2 * q + ρ.val / 4, by omega⟩ n)) ρ (ρ.val % 4) := by
  have hp := pickV_apply (k0_pay22 (k0_pay10 d) wb) q hq h ρ n
  have e22 : k0_pay22 (k0_pay10 d) wb (ix2 ⟨8 * q + ρ.val, by omega⟩ n)
      = (byteS (codeS (F := F) (d (ix2 0 n)) (wb (ix2 ⟨2 * q + ρ.val / 4, by omega⟩ n))) (ρ.val % 4)).signExtend 32 := by
    refine (congrArg (BitVec.signExtend 32) (bytes_apply _ _ _)).trans ?_
    have h1 : (8 * q + ρ.val) / 4 = 2 * q + ρ.val / 4 := by omega
    have h2 : (8 * q + ρ.val) % 4 = ρ.val % 4 := by omega
    simp only [h1, h2]
    congr 2
    show IntOp.xori _ (broadcastTo S8x128 _ _ _) = _
    rw [broadcastTo_apply _ _ _ (ix2 (0 : Fin 1) n) (fun b => match b with | ⟨0, _⟩ => rfl | ⟨1, _⟩ => rfl)]
    rfl
  show dynamicGather 1 st _ _ = _
  rw [dynamicGather_apply, hp, e22]
  unfold sgnS
  congr 1
  funext b
  match b with
  | ⟨0, _⟩ => rfl
  | ⟨1, _⟩ => rfl

/-- The rows of one parity at an index the caller names. -/
theorem rowsOfParity_read {α : Type} {s t : Shape} (p : Fin 2) (x : s.Idx → α) (h : s.Bitcasts 16 t 32) (j : t.Idx) (k : s.Idx)
    (hk : ∀ a : Fin s.rank, (a.val + 2 = s.rank → (k a).val = 2 * (j (a.cast h.1.symm)).val + p.val)
      ∧ (a.val + 2 ≠ s.rank → (k a).val = (j (a.cast h.1.symm)).val)) :
    rowsOfParity p t x h j = x k := by
  rw [rowsOfParity_apply]
  refine congrArg x ?_
  rw [Shape.Idx.norm_def]
  funext a
  refine Fin.ext ?_
  by_cases ha : a.val + 2 = s.rank
  · rw [dif_pos ha, (hk a).1 ha]
  · rw [dif_neg ha, (hk a).2 ha]; rfl

/-- Interleaved rows at an index the caller names, of the vector of its row's parity. -/
theorem interleaveRows_read {α : Type} {s t : Shape} (lo hi : t.Idx → α) (h : s.Bitcasts 16 t 32) (i : s.Idx) (k : t.Idx)
    (hk : ∀ b : Fin t.rank, ((b.cast h.1).val + 2 = s.rank → (k b).val = (i (b.cast h.1)).val / 2)
      ∧ ((b.cast h.1).val + 2 ≠ s.rank → (k b).val = (i (b.cast h.1)).val)) :
    interleaveRows s lo hi h i = if s.row i % 2 = 0 then lo k else hi k := by
  rw [interleaveRows_apply]
  have e : ∀ (v : t.Idx → α) (f : t.Idx), (∀ b, (f b).val = (k b).val) → v (Shape.Idx.norm f) = v k :=
    fun v f hf => congrArg v (funext fun b => Fin.ext (hf b))
  rw [e lo, e hi] <;>
  · intro b
    by_cases hb : (b.cast h.1).val + 2 = s.rank
    · rw [dif_pos hb, (hk b).1 hb]
    · rw [dif_neg hb, (hk b).2 hb]; rfl

theorem rowV_apply (u : Vec F S1x1x2x128 .bf16) (a : Fin 32) (n : Fin 128) : rowV u (ix2 a n) = u (ix4 0 0 0 n) := by
  unfold rowV k0_pay26
  refine (broadcastTo_apply _ _ _ (ix2 (0 : Fin 1) n) (fun b => match b with | ⟨0, _⟩ => rfl | ⟨1, _⟩ => rfl)).trans ?_
  rw [shapeCast_self]
  refine (Idealize.ShloMosaic.extractStridedSlice_apply _ _ _ _ (ix2 (0 : Fin 2) n) (fun b => match b with
    | ⟨0, _⟩ => rfl
    | ⟨1, _⟩ => by show n.val = 0 + n.val; omega)).trans ?_
  refine (interleaveRows_read (s := S2x128) (t := S1x128) _ _ _ (ix2 (0 : Fin 2) n) (ix2 (0 : Fin 1) n) (fun b => match b with | ⟨0, _⟩ => ⟨fun _ => by show 0 = 0 / 2; rfl, fun h => absurd rfl h⟩ | ⟨1, _⟩ => ⟨fun h => absurd (show 1 + 2 = 2 from h) (by decide), fun _ => rfl⟩)).trans ?_
  refine (if_pos rfl).trans ?_
  rw [shapeCast_comp]
  refine (shapeCast_apply _ _ _ (ix4 (0 : Fin 1) (0 : Fin 1) (0 : Fin 1) n)
    (by rw [Shape.rowMajor_val_four, Shape.rowMajor_val_two]; show ((0 * 1 + 0) * 1 + 0) * 128 + n.val = 0 * 128 + n.val; omega)).trans ?_
  exact rowsOfParity_read _ _ _ _ _ (fun b => match b with | ⟨0, _⟩ => ⟨fun h => absurd (show 0 + 2 = 4 from h) (by decide), fun _ => rfl⟩ | ⟨1, _⟩ => ⟨fun h => absurd (show 1 + 2 = 4 from h) (by decide), fun _ => rfl⟩ | ⟨2, _⟩ => ⟨fun _ => rfl, fun h => absurd rfl h⟩ | ⟨3, _⟩ => ⟨fun h => absurd (show 3 + 2 = 4 from h) (by decide), fun _ => rfl⟩)

theorem pairV_apply (w : FVec F S32x128 .bf16) (r : Fin 16) (p : Fin 2) (n : Fin 128) :
    pairV w (ix3 r p n) = w (ix2 ⟨2 * r.val + p.val, by omega⟩ n) := by
  unfold pairV
  have hc : ∀ v : FVec F S16x128 .bf16, shapeCast S16x1x128 v shapeCasts_S16x128_S16x1x128 (ix3 r (0 : Fin 1) n) = v (ix2 r n) := fun v =>
    shapeCast_apply _ _ _ _ (by rw [Shape.rowMajor_val_three, Shape.rowMajor_val_two]; show r.val * 128 + n.val = (r.val * 1 + 0) * 128 + n.val; omega)
  refine (interleaveRows_read (s := S16x2x128) (t := S16x1x128) _ _ _ (ix3 r p n) (ix3 r (0 : Fin 1) n) (fun b => match b with
    | ⟨0, _⟩ => ⟨fun h => absurd (show 0 + 2 = 3 from h) (by decide), fun _ => rfl⟩
    | ⟨1, _⟩ => ⟨fun _ => by show 0 = p.val / 2; omega, fun h => absurd rfl h⟩
    | ⟨2, _⟩ => ⟨fun h => absurd (show 2 + 2 = 3 from h) (by decide), fun _ => rfl⟩)).trans ?_
  rw [hc, hc]
  have hrow : S16x2x128.row (ix3 r p n) = p.val := rfl
  rw [hrow]
  have hr : ∀ p' : Fin 2, p' = p → rowsOfParity p' S16x128 w bitcasts_S32x128_w16_S16x128_w32 (ix2 r n) = w (ix2 ⟨2 * r.val + p.val, by omega⟩ n) := by
    rintro p' rfl
    exact rowsOfParity_read _ _ _ _ _ (fun b => match b with | ⟨0, _⟩ => ⟨fun _ => rfl, fun h => absurd rfl h⟩ | ⟨1, _⟩ => ⟨fun h => absurd (show 1 + 2 = 2 from h) (by decide), fun _ => rfl⟩)
  split
  · exact hr 0 (Fin.ext (by show 0 = p.val; omega))
  · exact hr 1 (Fin.ext (by show 1 = p.val; omega))

/-- A sub-block's weights at an element, from the two tables, the packed words and the scale. -/
theorem blkV_apply (mt st wa wb : IVec S8x128 32) (d : Vec F S1x128 .i16) (u0 u2 u1 : Vec F S1x1x2x128 .bf16) (q k : ℕ) (hq : q < 4) (hk : k < 2)
    (h h' : S32x128.Slices ![8 * q, 0] S8x128) (h2 : S64x128.Slices ![32 * k, 0] S32x128)
    (a : Fin 32) (n : Fin 128)
    (e0 : u0 (ix4 0 0 0 n) = scaleS 0x40000000#32 (d (ix2 0 n)) (wb (ix2 ⟨2 * q + k, by omega⟩ n)))
    (e2 : u2 (ix4 0 0 0 n) = scaleS 0x412C0000#32 (d (ix2 0 n)) (wb (ix2 ⟨2 * q + k, by omega⟩ n)))
    (e1 : u1 (ix4 0 0 0 n) = scaleS 0x40C80000#32 (d (ix2 0 n)) (wb (ix2 ⟨2 * q + k, by omega⟩ n))) :
    blkV (nibV (magV mt (k0_pay20 wa) (k0_pay21 wa) ![8 * q, 0] h)) (nibV (sgnV st (k0_pay22 (k0_pay10 d) wb) ![8 * q, 0] h')) ![32 * k, 0] h2 u0 u2 u1 (ix2 a n)
      = wElt mt st (d (ix2 0 n)) (wa (ix2 ⟨2 * q + k, by omega⟩ n)) (wb (ix2 ⟨2 * q + k, by omega⟩ n)) ⟨4 * k + a.val / 8, by omega⟩ (a.val / 8) (a.val % 8) := by
  have hx : ∀ v : FVec F S64x128 .bf16, extractStridedSlice S32x128 ![32 * k, 0] v h2 (ix2 a n) = v (ix2 ⟨32 * k + a.val, by omega⟩ n) := fun v =>
    Idealize.ShloMosaic.extractStridedSlice_apply _ _ _ _ _ (fun b => match b with
      | ⟨0, _⟩ => rfl
      | ⟨1, _⟩ => by show n.val = 0 + n.val; omega)
  show FloatOps.mulf (FloatOps.maximumf (rowV u0 _) (FloatOps.minimumf (rowV u2 _) (FloatOps.mulf (extractStridedSlice S32x128 _ _ _ _) (rowV u1 _))))
    (extractStridedSlice S32x128 _ _ _ _) = _
  rw [rowV_apply, rowV_apply, rowV_apply, hx, hx, nibV_apply, nibV_apply, magV_apply _ _ _ hq, sgnV_apply _ _ _ _ hq, e0, e1, e2]
  have h1 : (32 * k + a.val) / 8 = 4 * k + a.val / 8 := by omega
  have h2 : (32 * k + a.val) % 8 = a.val % 8 := by omega
  have h3 : 2 * q + (4 * k + a.val / 8) / 4 = 2 * q + k := by omega
  have h4 : (4 * k + a.val / 8) % 4 = a.val / 8 := by omega
  unfold wElt
  simp only [h1, h2, h3, h4]

end Cert.Proof.KernelIdeal

end
-- ==== Proof.Trip.lean ====
/- What one trip of the dequantiser writes: the two windows it reads told by functions of their indices, the weights it
   stores are one formula of the place they are stored at. -/
module

public import proofs.«01_k».proof.Proof.Vec
public import Idealize.ShloMosaic.Lib.Writes
public import Idealize.ShloMosaic.Lib.WritesUnit
public import Idealize.ShloMosaic.Lib.Exec

@[expose] public section

set_option maxRecDepth 16384

noncomputable section

namespace Cert.Proof.KernelIdeal

open Cert.KernelIdeal Cert.KernelIdeal.Gen
open Idealize.ShloMosaic

variable {F : FTy → Type} [FloatOps F]

/-! ## The two formulas -/

/-- The scale bits of a tile, by super-block and lane. -/
abbrev DFn := S16x512.Idx → BitVec 16
/-- The packed words of a tile, by sub-block, word and lane. -/
abbrev WFn := S128x8x128.Idx → BitVec 32
/-- A table, by row and lane. -/
abbrev TFn := S8x128.Idx → BitVec 32

/-- The weight at pair row `r`, half `p` and lane `n` of a tile. -/
def wfE (D : DFn) (W : WFn) (mt st : TFn) (r : Fin 2048) (p : Fin 2) (n : Fin 512) : F .bf16 :=
  wElt mt st (D (ix2 ⟨r.val / 128, by omega⟩ n)) (W (ix3 ⟨r.val / 16, by omega⟩ ⟨2 * (n.val / 128), by omega⟩ ⟨n.val % 128, by omega⟩))
    (W (ix3 ⟨r.val / 16, by omega⟩ ⟨2 * (n.val / 128) + 1, by omega⟩ ⟨n.val % 128, by omega⟩))
    ⟨4 * (r.val / 16 % 2) + r.val % 16 / 4, by omega⟩ (r.val % 16 / 4) ((2 * r.val + p.val) % 8)

/-- The weights of a tile. -/
def WF (D : DFn) (W : WFn) (mt st : TFn) (y : S2048x2x512.Idx) : F .bf16 := wfE D W mt st (y 0) (y 1) (y 2)

/-- The constant of a plane of candidate magnitudes. -/
def kOf (m : ℕ) : BitVec 32 := if m = 0 then 0x40000000#32 else if m = 1 then 0x40C80000#32 else 0x412C0000#32

/-- The candidate magnitude at plane `m`, sub-block `s` and lane `n`. -/
def g8E (D : DFn) (W : WFn) (m : Fin 3) (s : Fin 128) (n : Fin 512) : F .bf16 :=
  scaleS (kOf m.val) (D (ix2 ⟨s.val / 8, by omega⟩ n)) (W (ix3 s ⟨2 * (n.val / 128) + 1, by omega⟩ ⟨n.val % 128, by omega⟩))

/-- The candidate magnitudes of a tile. -/
def G8 (D : DFn) (W : WFn) (y : S3x128x2x512.Idx) : F .bf16 := g8E D W (y 0) (y 1) (y 3)

/-! ## The candidate magnitudes -/

/-- Eight rows of one candidate magnitude. -/
def scaleV (k : BitVec 32) (d : Vec F S1x128 .i16) (wb : IVec S8x128 32) : FVec F S8x128 .bf16 :=
  truncf .bf16 (mulf (k0_pay13 (F := F) wb 28#32) (broadcastTo S8x128 (mulf (k0_pay9 d) (broadcast S1x128 (Scalar.ofBits .f32 k))) broadcasts_S1x128_S8x128)) bitsLt_bf16_f32

/-- The same stored in both halves of a row of words. -/
def spreadV (v : FVec F S8x128 .bf16) : Vec F S1x8x2x128 .bf16 :=
  interleaveRows S1x8x2x128 (shapeCast S1x8x1x128 (shapeCast S1x8x128 v shapeCasts_S8x128_S1x8x128) shapeCasts_S1x8x128_S1x8x1x128)
    (shapeCast S1x8x1x128 (shapeCast S1x8x128 v shapeCasts_S8x128_S1x8x128) shapeCasts_S1x8x128_S1x8x1x128) bitcasts_S1x8x2x128_w16_S1x8x1x128_w32

theorem pay9_apply (d : Vec F S1x128 .i16) (n : Fin 128) : k0_pay9 (F := F) d (ix2 0 n) = absS (d (ix2 0 n)) := by
  unfold absS k0_pay9 k0_pay8
  simp only [pointwise]

theorem scaleV_apply (k : BitVec 32) (d : Vec F S1x128 .i16) (wb : IVec S8x128 32) (i : Fin 8) (n : Fin 128) :
    scaleV k d wb (ix2 i n) = scaleS k (d (ix2 0 n)) (wb (ix2 i n)) := by
  have hb : broadcastTo S8x128 (mulf (k0_pay9 (F := F) d) (broadcast S1x128 (Scalar.ofBits .f32 k))) broadcasts_S1x128_S8x128 (ix2 i n)
      = FloatOps.mulf (absS (F := F) (d (ix2 0 n))) (FloatOps.ofBits .f32 k) :=
    (broadcastTo_apply _ _ _ (ix2 (0 : Fin 1) n) (fun b => match b with | ⟨0, _⟩ => rfl | ⟨1, _⟩ => rfl)).trans
      (congrArg (fun w => FloatOps.mulf w (FloatOps.ofBits .f32 k)) (pay9_apply d n))
  exact congrArg (fun w => FloatOps.truncf .bf16 bitsLt_bf16_f32
    (FloatOps.mulf (FloatOps.addf (FloatOps.sitofp .f32 (IntOp.shrui .vector (wb (ix2 i n)) 28#32)) (FloatOps.ofBits .f32 0x3F000000#32)) w)) hb

theorem spreadV_apply (v : FVec F S8x128 .bf16) (o : Fin 1) (i : Fin 8) (p : Fin 2) (n : Fin 128) : spreadV v (ix4 o i p n) = v (ix2 i n) := by
  unfold spreadV
  refine (interleaveRows_read (s := S1x8x2x128) (t := S1x8x1x128) _ _ _ (ix4 o i p n) (ix4 o i (0 : Fin 1) n) (fun b => match b with
    | ⟨0, _⟩ => ⟨fun h => absurd (show 0 + 2 = 4 from h) (by decide), fun _ => rfl⟩
    | ⟨1, _⟩ => ⟨fun h => absurd (show 1 + 2 = 4 from h) (by decide), fun _ => rfl⟩
    | ⟨2, _⟩ => ⟨fun _ => by show 0 = p.val / 2; omega, fun h => absurd rfl h⟩
    | ⟨3, _⟩ => ⟨fun h => absurd (show 3 + 2 = 4 from h) (by decide), fun _ => rfl⟩)).trans ?_
  rw [ite_self, shapeCast_comp]
  exact shapeCast_apply _ _ _ _ (by
    rw [Shape.rowMajor_val_four, Shape.rowMajor_val_two]
    show i.val * 128 + n.val = ((o.val * 8 + i.val) * 1 + 0) * 128 + n.val
    omega)

/-- A block of candidate magnitudes, at the place its store puts it. -/
theorem store_apply (D : DFn) (W : WFn) (b : Fin 16) (c : Fin 4) (m : Fin 3) (k : BitVec 32) (hk : k = kOf m.val) (d : Vec F S1x128 .i16) (wb : IVec S8x128 32)
    (hd : ∀ n : Fin 128, d (ix2 0 n) = D (ix2 b ⟨128 * c.val + n.val, by omega⟩))
    (hwb : ∀ (i : Fin 8) (n : Fin 128), wb (ix2 i n) = W (ix3 ⟨8 * b.val + i.val, by omega⟩ ⟨2 * c.val + 1, by omega⟩ n))
    (off : Fin 4 → ℕ) (hoff : off = ![m.val, 8 * b.val, 0, 128 * c.val]) (inb : ∀ a, off a + S1x8x2x128.size a ≤ S3x128x2x512.size a) (x : S1x8x2x128.Idx) :
    spreadV (scaleV k d wb) x = G8 (F := F) D W ((Rect.unit (s := S3x128x2x512) off S1x8x2x128.size inb).emb x) := by
  subst hoff
  obtain ⟨o, i, p, n, rfl⟩ : ∃ (o : Fin 1) (i : Fin 8) (p : Fin 2) (n : Fin 128), x = ix4 o i p n := ⟨x 0, x 1, x 2, x 3, ValueIdx.eq_ix4 x⟩
  have hemb : (Rect.unit (s := S3x128x2x512) ![m.val, 8 * b.val, 0, 128 * c.val] S1x8x2x128.size inb).emb (ix4 o i p n)
      = ix4 m (⟨8 * b.val + i.val, by omega⟩ : Fin 128) p (⟨128 * c.val + n.val, by omega⟩ : Fin 512) :=
    Rect.emb_eq_of_coords _ _ _ (fun a => match a with
      | ⟨0, _⟩ => by show m.val = m.val + 1 * o.val; omega
      | ⟨1, _⟩ => by show 8 * b.val + i.val = 8 * b.val + 1 * i.val; omega
      | ⟨2, _⟩ => by show p.val = 0 + 1 * p.val; omega
      | ⟨3, _⟩ => by show 128 * c.val + n.val = 128 * c.val + 1 * n.val; omega)
  rw [hemb, spreadV_apply, scaleV_apply, hd, hwb, hk]
  show _ = g8E D W m (⟨8 * b.val + i.val, by omega⟩ : Fin 128) (⟨128 * c.val + n.val, by omega⟩ : Fin 512)
  have h1 : (8 * b.val + i.val) / 8 = b.val := by omega
  have h2 : (128 * c.val + n.val) / 128 = c.val := by omega
  have h3 : (128 * c.val + n.val) % 128 = n.val := by omega
  unfold g8E
  simp only [h1, h2, h3]

variable {sg : RefSig} {κ : Kind} {sp : Space}

/-- A row of candidate magnitudes loaded back. -/
theorem scale_read (v : View sg κ sp S3x128x2x512 .bf16) (L : List (View.Piece (Elt F) S3x128x2x512 .bf16)) (D : DFn) (W : WFn)
    (hL : ∀ p ∈ L, ∀ x, p.2 x = G8 (F := F) D W (p.1.emb x)) (m : Fin 3) (s : Fin 128) (c : Fin 4)
    (off : Fin 4 → ℕ) (hoff : off = ![m.val, s.val, 0, 128 * c.val]) (inb : ∀ a, off a + S1x1x2x128.size a ≤ S3x128x2x512.size a)
    (n : Fin 128) (hcov : ∃ p ∈ L, ix4 m s (0 : Fin 2) (⟨128 * c.val + n.val, by omega⟩ : Fin 512) ∈ p.1.set) :
    v.readCov L (Rect.unit (s := S3x128x2x512) off S1x1x2x128.size inb).toLoadRect (ix4 0 0 0 n)
      = g8E (F := F) D W m s ⟨128 * c.val + n.val, by omega⟩ := by
  subst hoff
  have hemb : (Rect.unit (s := S3x128x2x512) ![m.val, s.val, 0, 128 * c.val] S1x1x2x128.size inb).toLoadRect.idx (ix4 (0 : Fin 1) (0 : Fin 1) (0 : Fin 2) n)
      = ix4 m s (0 : Fin 2) (⟨128 * c.val + n.val, by omega⟩ : Fin 512) :=
    funext fun a => Fin.ext (match a with
      | ⟨0, _⟩ => by show m.val + 1 * 0 = m.val; omega
      | ⟨1, _⟩ => by show s.val + 1 * 0 = s.val; omega
      | ⟨2, _⟩ => rfl
      | ⟨3, _⟩ => by show 128 * c.val + 1 * n.val = 128 * c.val + n.val; omega)
  show v.read (Elt F) (v.writes (Elt F) v.junk L) (Rect.toLoadRect _ |>.idx _) = _
  rw [hemb]
  exact View.read_writes_apply_of_pieces v v.junk (G8 D W) L hL _ hcov

/-! ## The weights -/

/-- A sub-block's weights, at the place their store puts them. -/
theorem piece_apply (D : DFn) (W : WFn) (mt st : TFn) (b : Fin 16) (c : Fin 4) (q : Fin 4) (k : Fin 2) (d : Vec F S1x128 .i16) (wa wb : IVec S8x128 32)
    (hd : ∀ n : Fin 128, d (ix2 0 n) = D (ix2 b ⟨128 * c.val + n.val, by omega⟩))
    (hwa : ∀ (i : Fin 8) (n : Fin 128), wa (ix2 i n) = W (ix3 ⟨8 * b.val + i.val, by omega⟩ ⟨2 * c.val, by omega⟩ n))
    (hwb : ∀ (i : Fin 8) (n : Fin 128), wb (ix2 i n) = W (ix3 ⟨8 * b.val + i.val, by omega⟩ ⟨2 * c.val + 1, by omega⟩ n))
    (u0 u2 u1 : Vec F S1x1x2x128 .bf16)
    (h0 : ∀ n : Fin 128, u0 (ix4 0 0 0 n) = g8E D W 0 ⟨8 * b.val + (2 * q.val + k.val), by omega⟩ ⟨128 * c.val + n.val, by omega⟩)
    (h2 : ∀ n : Fin 128, u2 (ix4 0 0 0 n) = g8E D W 2 ⟨8 * b.val + (2 * q.val + k.val), by omega⟩ ⟨128 * c.val + n.val, by omega⟩)
    (h1 : ∀ n : Fin 128, u1 (ix4 0 0 0 n) = g8E D W 1 ⟨8 * b.val + (2 * q.val + k.val), by omega⟩ ⟨128 * c.val + n.val, by omega⟩)
    (hs hs' : S32x128.Slices ![8 * q.val, 0] S8x128) (hs2 : S64x128.Slices ![32 * k.val, 0] S32x128)
    (off : Fin 3 → ℕ) (hoff : off = ![128 * b.val + 32 * q.val + 16 * k.val, 0, 128 * c.val])
    (inb : ∀ a, off a + S16x2x128.size a ≤ S2048x2x512.size a) (x : S16x2x128.Idx) :
    pairV (blkV (nibV (magV mt (k0_pay20 wa) (k0_pay21 wa) ![8 * q.val, 0] hs)) (nibV (sgnV st (k0_pay22 (k0_pay10 d) wb) ![8 * q.val, 0] hs')) ![32 * k.val, 0] hs2 u0 u2 u1) x
      = WF (F := F) D W mt st ((Rect.unit (s := S2048x2x512) off S16x2x128.size inb).emb x) := by
  subst hoff
  obtain ⟨r, p, n, rfl⟩ : ∃ (r : Fin 16) (p : Fin 2) (n : Fin 128), x = ix3 r p n := ⟨x 0, x 1, x 2, ValueIdx.eq_ix3 x⟩
  have hemb : (Rect.unit (s := S2048x2x512) ![128 * b.val + 32 * q.val + 16 * k.val, 0, 128 * c.val] S16x2x128.size inb).emb (ix3 r p n)
      = ix3 (⟨128 * b.val + 32 * q.val + 16 * k.val + r.val, by omega⟩ : Fin 2048) p (⟨128 * c.val + n.val, by omega⟩ : Fin 512) :=
    Rect.emb_eq_of_coords _ _ _ (fun a => match a with
      | ⟨0, _⟩ => by show 128 * b.val + 32 * q.val + 16 * k.val + r.val = 128 * b.val + 32 * q.val + 16 * k.val + 1 * r.val; omega
      | ⟨1, _⟩ => by show p.val = 0 + 1 * p.val; omega
      | ⟨2, _⟩ => by show 128 * c.val + n.val = 128 * c.val + 1 * n.val; omega)
  have a1 : (8 * b.val + (2 * q.val + k.val)) / 8 = b.val := by omega
  have a2 : (128 * c.val + n.val) / 128 = c.val := by omega
  have a3 : (128 * c.val + n.val) % 128 = n.val := by omega
  have e : ∀ (u : Vec F S1x1x2x128 .bf16) (m : Fin 3), u (ix4 0 0 0 n) = g8E D W m ⟨8 * b.val + (2 * q.val + k.val), by omega⟩ ⟨128 * c.val + n.val, by omega⟩ →
      u (ix4 0 0 0 n) = scaleS (kOf m.val) (d (ix2 0 n)) (wb (ix2 ⟨2 * q.val + k.val, by omega⟩ n)) := by
    intro u m hu
    rw [hu, hd, hwb]
    unfold g8E
    simp only [a1, a2, a3]
  rw [hemb, pairV_apply, blkV_apply mt st wa wb d u0 u2 u1 q.val k.val q.isLt k.isLt hs hs' hs2 _ n (e u0 0 (h0 n)) (e u2 2 (h2 n)) (e u1 1 (h1 n)), hd, hwa, hwb]
  show _ = wfE D W mt st (⟨128 * b.val + 32 * q.val + 16 * k.val + r.val, by omega⟩ : Fin 2048) p (⟨128 * c.val + n.val, by omega⟩ : Fin 512)
  have b1 : (128 * b.val + 32 * q.val + 16 * k.val + r.val) / 128 = b.val := by omega
  have b2 : (128 * b.val + 32 * q.val + 16 * k.val + r.val) / 16 = 8 * b.val + (2 * q.val + k.val) := by omega
  have b3 : (128 * b.val + 32 * q.val + 16 * k.val + r.val) % 16 = r.val := by omega
  have b4 : (8 * b.val + (2 * q.val + k.val)) % 2 = k.val := by omega
  have b5 : (2 * (128 * b.val + 32 * q.val + 16 * k.val + r.val) + p.val) % 8 = (2 * r.val + p.val) % 8 := by omega
  have b6 : (2 * r.val + p.val) / 8 = r.val / 4 := by omega
  unfold wfE
  simp only [b1, b2, b3, b4, b5, b6, a2, a3]

/-! ## One trip -/

/-- Every weight of the blocks before number `n` stands in the buffer. -/
def Upto (v : View sg κ sp S2048x2x512 .bf16) (f : v.ty.Contents (Elt F)) (G : S2048x2x512.Idx → F .bf16) (n : ℕ) : Prop :=
  ∀ y : S2048x2x512.Idx, 4 * ((y 0).val / 128) + (y 2).val / 128 < n → v.read (Elt F) f y = G y

theorem Upto.all {v : View sg κ sp S2048x2x512 .bf16} {f : v.ty.Contents (Elt F)} {G : S2048x2x512.Idx → F .bf16} (h : Upto v f G 64) :
    ∀ y, v.read (Elt F) f y = G y := fun y => h y (by
  have h0 : (y 0).val < 2048 := (y 0).isLt
  have h2 : (y 2).val < 512 := (y 2).isLt
  omega)

/-- Before the first trip there is nothing to hold. -/
theorem Upto.of_pos {v : View sg κ sp S2048x2x512 .bf16} {f : v.ty.Contents (Elt F)} {G : S2048x2x512.Idx → F .bf16} {n : ℕ}
    (h : n ≠ 0 → Upto v f G n) : Upto v f G n := fun y hy => h (Nat.ne_of_gt (Nat.lt_of_le_of_lt (Nat.zero_le _) hy)) y hy

/-- One trip's eight stores carry the claim past its block. -/
theorem Upto.step {v : View sg κ sp S2048x2x512 .bf16} {f : v.ty.Contents (Elt F)} {G : S2048x2x512.Idx → F .bf16} (b : Fin 16) (c : Fin 4)
    (h : Upto v f G (4 * b.val + c.val)) (L : List (View.Piece (Elt F) S2048x2x512 .bf16)) (hL : ∀ p ∈ L, ∀ x, p.2 x = G (p.1.emb x))
    (hcov : ∀ (q : Fin 4) (k : Fin 2), ∃ p ∈ L, ∃ (off : Fin 3 → ℕ) (inb : ∀ a, off a + S16x2x128.size a ≤ S2048x2x512.size a),
      p.1 = Rect.unit (s := S2048x2x512) off S16x2x128.size inb ∧ off = ![128 * b.val + 32 * q.val + 16 * k.val, 0, 128 * c.val]) :
    Upto v (v.writes (Elt F) f L) G (4 * b.val + c.val + 1) := by
  intro y hy
  by_cases hm : ∃ p ∈ L, y ∈ p.1.set
  · exact View.read_writes_apply_of_pieces v f G L hL y hm
  · have hlt : 4 * ((y 0).val / 128) + (y 2).val / 128 < 4 * b.val + c.val := by
      by_contra hge
      have h0 : (y 0).val < 2048 := (y 0).isLt
      have h1 : (y 1).val < 2 := (y 1).isLt
      have h2 : (y 2).val < 512 := (y 2).isLt
      obtain ⟨p, hp, off, inb, hr, ho⟩ := hcov ⟨(y 0).val % 128 / 32, by omega⟩ ⟨(y 0).val % 32 / 16, by omega⟩
      refine hm ⟨p, hp, ?_⟩
      rw [hr]; apply (Rect.unit (s := S2048x2x512) off S16x2x128.size inb).mem_set.mpr
      subst ho
      intro a
      match a with
      | ⟨0, _⟩ => exact ⟨(y 0).val % 16, by show _ < 16; omega, by
          show (y 0).val = 128 * b.val + 32 * ((y 0).val % 128 / 32) + 16 * ((y 0).val % 32 / 16) + 1 * ((y 0).val % 16)
          omega⟩
      | ⟨1, _⟩ => exact ⟨(y 1).val, h1, by show (y 1).val = 0 + 1 * (y 1).val; omega⟩
      | ⟨2, _⟩ => exact ⟨(y 2).val % 128, by show _ < 128; omega, by
          show (y 2).val = 128 * c.val + 1 * ((y 2).val % 128)
          omega⟩
    rw [View.read_writes_apply_of_forall_not_mem v f y L (fun p hp hy' => hm ⟨p, hp, hy'⟩)]
    exact h y hlt

/-- The stores of a trip, the places and the loads given by offsets in closed form. -/
theorem trip_writes (D : DFn) (W : WFn) (mt st : TFn) (b : Fin 16) (c : Fin 4) (d : Vec F S1x128 .i16) (wa wb : IVec S8x128 32)
    (hd : ∀ n : Fin 128, d (ix2 0 n) = D (ix2 b ⟨128 * c.val + n.val, by omega⟩))
    (hwa : ∀ (i : Fin 8) (n : Fin 128), wa (ix2 i n) = W (ix3 ⟨8 * b.val + i.val, by omega⟩ ⟨2 * c.val, by omega⟩ n))
    (hwb : ∀ (i : Fin 8) (n : Fin 128), wb (ix2 i n) = W (ix3 ⟨8 * b.val + i.val, by omega⟩ ⟨2 * c.val + 1, by omega⟩ n))
    {κ8 : Kind} {sp8 : Space} (v8 : View sg κ8 sp8 S3x128x2x512 .bf16) (v9 : View sg κ sp S2048x2x512 .bf16) (f9 : v9.ty.Contents (Elt F))
    (h9 : Upto v9 f9 (WF D W mt st) (4 * b.val + c.val))
    (o4 o5 o6 : Fin 4 → ℕ) (e4 : o4 = ![0, 8 * b.val, 0, 128 * c.val]) (e5 : o5 = ![1, 8 * b.val, 0, 128 * c.val]) (e6 : o6 = ![2, 8 * b.val, 0, 128 * c.val])
    (i4 : ∀ a, o4 a + S1x8x2x128.size a ≤ S3x128x2x512.size a) (i5 : ∀ a, o5 a + S1x8x2x128.size a ≤ S3x128x2x512.size a) (i6 : ∀ a, o6 a + S1x8x2x128.size a ≤ S3x128x2x512.size a)
    (o7 o8 o9 : BitVec 32 → BitVec 32 → Fin 4 → ℕ)
    (e7 : ∀ (q : Fin 4) (k : Fin 2), o7 (BitVec.ofNat 32 (2 * q.val)) (BitVec.ofNat 32 k.val) = ![0, 8 * b.val + 2 * q.val + k.val, 0, 128 * c.val])
    (e8 : ∀ (q : Fin 4) (k : Fin 2), o8 (BitVec.ofNat 32 (2 * q.val)) (BitVec.ofNat 32 k.val) = ![2, 8 * b.val + 2 * q.val + k.val, 0, 128 * c.val])
    (e9 : ∀ (q : Fin 4) (k : Fin 2), o9 (BitVec.ofNat 32 (2 * q.val)) (BitVec.ofNat 32 k.val) = ![1, 8 * b.val + 2 * q.val + k.val, 0, 128 * c.val])
    (i7 : ∀ (q : Fin 4) (k : Fin 2) a, o7 (BitVec.ofNat 32 (2 * q.val)) (BitVec.ofNat 32 k.val) a + S1x1x2x128.size a ≤ S3x128x2x512.size a)
    (i8 : ∀ (q : Fin 4) (k : Fin 2) a, o8 (BitVec.ofNat 32 (2 * q.val)) (BitVec.ofNat 32 k.val) a + S1x1x2x128.size a ≤ S3x128x2x512.size a)
    (i9 : ∀ (q : Fin 4) (k : Fin 2) a, o9 (BitVec.ofNat 32 (2 * q.val)) (BitVec.ofNat 32 k.val) a + S1x1x2x128.size a ≤ S3x128x2x512.size a)
    (o10 : BitVec 32 → BitVec 32 → Fin 3 → ℕ)
    (e10 : ∀ (q : Fin 4) (k : Fin 2), o10 (BitVec.ofNat 32 (2 * q.val)) (BitVec.ofNat 32 k.val) = ![128 * b.val + 32 * q.val + 16 * k.val, 0, 128 * c.val])
    (i10 : ∀ (q : Fin 4) (k : Fin 2) a, o10 (BitVec.ofNat 32 (2 * q.val)) (BitVec.ofNat 32 k.val) a + S16x2x128.size a ≤ S2048x2x512.size a)
    (L8 : List (View.Piece (Elt F) S3x128x2x512 .bf16))
    (hL8 : L8 = [⟨Rect.unit o6 S1x8x2x128.size i6, spreadV (scaleV 0x412C0000#32 d wb)⟩, ⟨Rect.unit o5 S1x8x2x128.size i5, spreadV (scaleV 0x40C80000#32 d wb)⟩,
      ⟨Rect.unit o4 S1x8x2x128.size i4, spreadV (scaleV 0x40000000#32 d wb)⟩])
    (P : Fin 4 → Fin 2 → Vec F S16x2x128 .bf16)
    (hP : ∀ (q : Fin 4) (k : Fin 2), ∃ (hs hs' : S32x128.Slices ![8 * q.val, 0] S8x128) (hs2 : S64x128.Slices ![32 * k.val, 0] S32x128),
      P q k = pairV (blkV (nibV (magV mt (k0_pay20 wa) (k0_pay21 wa) ![8 * q.val, 0] hs)) (nibV (sgnV st (k0_pay22 (k0_pay10 d) wb) ![8 * q.val, 0] hs')) ![32 * k.val, 0] hs2
        (v8.readCov L8 (Rect.unit (s := S3x128x2x512) _ S1x1x2x128.size (i7 q k)).toLoadRect) (v8.readCov L8 (Rect.unit (s := S3x128x2x512) _ S1x1x2x128.size (i8 q k)).toLoadRect)
        (v8.readCov L8 (Rect.unit (s := S3x128x2x512) _ S1x1x2x128.size (i9 q k)).toLoadRect))) :
    Upto v9 (v9.writes (Elt F) f9
      [⟨Rect.unit (s := S2048x2x512) _ S16x2x128.size (i10 3 1), P 3 1⟩, ⟨Rect.unit (s := S2048x2x512) _ S16x2x128.size (i10 3 0), P 3 0⟩,
       ⟨Rect.unit (s := S2048x2x512) _ S16x2x128.size (i10 2 1), P 2 1⟩, ⟨Rect.unit (s := S2048x2x512) _ S16x2x128.size (i10 2 0), P 2 0⟩,
       ⟨Rect.unit (s := S2048x2x512) _ S16x2x128.size (i10 1 1), P 1 1⟩, ⟨Rect.unit (s := S2048x2x512) _ S16x2x128.size (i10 1 0), P 1 0⟩,
       ⟨Rect.unit (s := S2048x2x512) _ S16x2x128.size (i10 0 1), P 0 1⟩, ⟨Rect.unit (s := S2048x2x512) _ S16x2x128.size (i10 0 0), P 0 0⟩])
      (WF D W mt st) (4 * b.val + c.val + 1) := by
  have hG : ∀ p ∈ L8, ∀ x, p.2 x = G8 (F := F) D W (p.1.emb x) := by
    rw [hL8]
    intro p hp
    rcases List.mem_cons.mp hp with rfl | hp
    · exact fun x => store_apply D W b c 2 _ rfl d wb hd hwb o6 e6 i6 x
    rcases List.mem_cons.mp hp with rfl | hp
    · exact fun x => store_apply D W b c 1 _ rfl d wb hd hwb o5 e5 i5 x
    rcases List.mem_cons.mp hp with rfl | hp
    · exact fun x => store_apply D W b c 0 _ rfl d wb hd hwb o4 e4 i4 x
    exact absurd hp List.not_mem_nil
  have hin : ∀ (m : Fin 3) (s : Fin 128) (hs : s.val / 8 = b.val) (n : Fin 128) (o : Fin 4 → ℕ) (i : ∀ a, o a + S1x8x2x128.size a ≤ S3x128x2x512.size a),
      o = ![m.val, 8 * b.val, 0, 128 * c.val] →
      ix4 m s (0 : Fin 2) (⟨128 * c.val + n.val, by omega⟩ : Fin 512) ∈ (Rect.unit (s := S3x128x2x512) o S1x8x2x128.size i).set := by
    rintro m s hs n o i rfl
    apply (Rect.unit (s := S3x128x2x512) _ S1x8x2x128.size i).mem_set.mpr
    intro a
    match a with
    | ⟨0, _⟩ => exact ⟨0, Nat.one_pos, by show m.val = m.val + 1 * 0; omega⟩
    | ⟨1, _⟩ => exact ⟨s.val % 8, by show _ < 8; omega, by show s.val = 8 * b.val + 1 * (s.val % 8); omega⟩
    | ⟨2, _⟩ => exact ⟨0, Nat.two_pos, rfl⟩
    | ⟨3, _⟩ => exact ⟨n.val, n.isLt, by show 128 * c.val + n.val = 128 * c.val + 1 * n.val; omega⟩
  have hcov : ∀ (m : Fin 3) (s : Fin 128) (hs : s.val / 8 = b.val) (n : Fin 128),
      ∃ p ∈ L8, ix4 m s (0 : Fin 2) (⟨128 * c.val + n.val, by omega⟩ : Fin 512) ∈ p.1.set := by
    rw [hL8]
    intro m s hs n
    match m with
    | 0 => exact ⟨_, List.mem_cons_of_mem _ (List.mem_cons_of_mem _ List.mem_cons_self), hin 0 s hs n o4 i4 e4⟩
    | 1 => exact ⟨_, List.mem_cons_of_mem _ List.mem_cons_self, hin 1 s hs n o5 i5 e5⟩
    | 2 => exact ⟨_, List.mem_cons_self, hin 2 s hs n o6 i6 e6⟩
  have hu : ∀ (m : Fin 3) (q : Fin 4) (k : Fin 2) (n : Fin 128) (o : Fin 4 → ℕ) (i : ∀ a, o a + S1x1x2x128.size a ≤ S3x128x2x512.size a),
      o = ![m.val, 8 * b.val + 2 * q.val + k.val, 0, 128 * c.val] →
      v8.readCov L8 (Rect.unit (s := S3x128x2x512) o S1x1x2x128.size i).toLoadRect (ix4 0 0 0 n)
        = g8E (F := F) D W m ⟨8 * b.val + (2 * q.val + k.val), by omega⟩ ⟨128 * c.val + n.val, by omega⟩ := by
    intro m q k n o i ho
    exact scale_read v8 L8 D W hG m ⟨8 * b.val + (2 * q.val + k.val), by omega⟩ c o (by rw [ho, Nat.add_assoc]) i n
      (hcov m _ (by show (8 * b.val + (2 * q.val + k.val)) / 8 = b.val; omega) n)
  have hp : ∀ (q : Fin 4) (k : Fin 2) (x : S16x2x128.Idx), P q k x = WF (F := F) D W mt st ((Rect.unit (s := S2048x2x512) _ S16x2x128.size (i10 q k)).emb x) := by
    intro q k x
    obtain ⟨hs, hs', hs2, e⟩ := hP q k
    rw [e]
    exact piece_apply D W mt st b c q k d wa wb hd hwa hwb _ _ _ (fun n => hu 0 q k n _ _ (e7 q k)) (fun n => hu 2 q k n _ _ (e8 q k)) (fun n => hu 1 q k n _ _ (e9 q k))
      hs hs' hs2 _ (e10 q k) _ x
  refine h9.step b c _ ?_ ?_
  · intro p hmem
    rcases List.mem_cons.mp hmem with rfl | hmem
    · exact hp 3 1
    rcases List.mem_cons.mp hmem with rfl | hmem
    · exact hp 3 0
    rcases List.mem_cons.mp hmem with rfl | hmem
    · exact hp 2 1
    rcases List.mem_cons.mp hmem with rfl | hmem
    · exact hp 2 0
    rcases List.mem_cons.mp hmem with rfl | hmem
    · exact hp 1 1
    rcases List.mem_cons.mp hmem with rfl | hmem
    · exact hp 1 0
    rcases List.mem_cons.mp hmem with rfl | hmem
    · exact hp 0 1
    rcases List.mem_cons.mp hmem with rfl | hmem
    · exact hp 0 0
    exact absurd hmem List.not_mem_nil
  · intro q k
    have key : ∀ (q : Fin 4) (k : Fin 2), ∃ (off : Fin 3 → ℕ) (inb : ∀ a, off a + S16x2x128.size a ≤ S2048x2x512.size a),
        Rect.unit (s := S2048x2x512) _ S16x2x128.size (i10 q k) = Rect.unit (s := S2048x2x512) off S16x2x128.size inb ∧ off = ![128 * b.val + 32 * q.val + 16 * k.val, 0, 128 * c.val] :=
      fun q k => ⟨_, i10 q k, rfl, e10 q k⟩
    match q, k with
    | 3, 1 => exact ⟨_, List.mem_cons_self, key 3 1⟩
    | 3, 0 => exact ⟨_, List.mem_cons_of_mem _ List.mem_cons_self, key 3 0⟩
    | 2, 1 => exact ⟨_, List.mem_cons_of_mem _ (List.mem_cons_of_mem _ List.mem_cons_self), key 2 1⟩
    | 2, 0 => exact ⟨_, List.mem_cons_of_mem _ (List.mem_cons_of_mem _ (List.mem_cons_of_mem _ List.mem_cons_self)), key 2 0⟩
    | 1, 1 => exact ⟨_, List.mem_cons_of_mem _ (List.mem_cons_of_mem _ (List.mem_cons_of_mem _ (List.mem_cons_of_mem _ List.mem_cons_self))), key 1 1⟩
    | 1, 0 => exact ⟨_, List.mem_cons_of_mem _ (List.mem_cons_of_mem _ (List.mem_cons_of_mem _ (List.mem_cons_of_mem _ (List.mem_cons_of_mem _ List.mem_cons_self)))), key 1 0⟩
    | 0, 1 => exact ⟨_, List.mem_cons_of_mem _ (List.mem_cons_of_mem _ (List.mem_cons_of_mem _ (List.mem_cons_of_mem _ (List.mem_cons_of_mem _ (List.mem_cons_of_mem _ List.mem_cons_self))))), key 0 1⟩
    | 0, 0 => exact ⟨_, List.mem_cons_of_mem _ (List.mem_cons_of_mem _ (List.mem_cons_of_mem _ (List.mem_cons_of_mem _ (List.mem_cons_of_mem _ (List.mem_cons_of_mem _ (List.mem_cons_of_mem _ List.mem_cons_self)))))), key 0 0⟩

/-- The same with the eight payloads named one by one. -/
theorem trip_writes_each (D : DFn) (W : WFn) (mt st : TFn) (b : Fin 16) (c : Fin 4) (d : Vec F S1x128 .i16) (wa wb : IVec S8x128 32)
    (hd : ∀ n : Fin 128, d (ix2 0 n) = D (ix2 b ⟨128 * c.val + n.val, by omega⟩))
    (hwa : ∀ (i : Fin 8) (n : Fin 128), wa (ix2 i n) = W (ix3 ⟨8 * b.val + i.val, by omega⟩ ⟨2 * c.val, by omega⟩ n))
    (hwb : ∀ (i : Fin 8) (n : Fin 128), wb (ix2 i n) = W (ix3 ⟨8 * b.val + i.val, by omega⟩ ⟨2 * c.val + 1, by omega⟩ n))
    {κ8 : Kind} {sp8 : Space} (v8 : View sg κ8 sp8 S3x128x2x512 .bf16) (v9 : View sg κ sp S2048x2x512 .bf16) (f9 : v9.ty.Contents (Elt F))
    (h9 : Upto v9 f9 (WF D W mt st) (4 * b.val + c.val))
    (o4 o5 o6 : Fin 4 → ℕ) (e4 : o4 = ![0, 8 * b.val, 0, 128 * c.val]) (e5 : o5 = ![1, 8 * b.val, 0, 128 * c.val]) (e6 : o6 = ![2, 8 * b.val, 0, 128 * c.val])
    (i4 : ∀ a, o4 a + S1x8x2x128.size a ≤ S3x128x2x512.size a) (i5 : ∀ a, o5 a + S1x8x2x128.size a ≤ S3x128x2x512.size a) (i6 : ∀ a, o6 a + S1x8x2x128.size a ≤ S3x128x2x512.size a)
    (o7 o8 o9 : BitVec 32 → BitVec 32 → Fin 4 → ℕ)
    (e7 : ∀ (q : Fin 4) (k : Fin 2), o7 (BitVec.ofNat 32 (2 * q.val)) (BitVec.ofNat 32 k.val) = ![0, 8 * b.val + 2 * q.val + k.val, 0, 128 * c.val])
    (e8 : ∀ (q : Fin 4) (k : Fin 2), o8 (BitVec.ofNat 32 (2 * q.val)) (BitVec.ofNat 32 k.val) = ![2, 8 * b.val + 2 * q.val + k.val, 0, 128 * c.val])
    (e9 : ∀ (q : Fin 4) (k : Fin 2), o9 (BitVec.ofNat 32 (2 * q.val)) (BitVec.ofNat 32 k.val) = ![1, 8 * b.val + 2 * q.val + k.val, 0, 128 * c.val])
    (i7 : ∀ (q : Fin 4) (k : Fin 2) a, o7 (BitVec.ofNat 32 (2 * q.val)) (BitVec.ofNat 32 k.val) a + S1x1x2x128.size a ≤ S3x128x2x512.size a)
    (i8 : ∀ (q : Fin 4) (k : Fin 2) a, o8 (BitVec.ofNat 32 (2 * q.val)) (BitVec.ofNat 32 k.val) a + S1x1x2x128.size a ≤ S3x128x2x512.size a)
    (i9 : ∀ (q : Fin 4) (k : Fin 2) a, o9 (BitVec.ofNat 32 (2 * q.val)) (BitVec.ofNat 32 k.val) a + S1x1x2x128.size a ≤ S3x128x2x512.size a)
    (o10 : BitVec 32 → BitVec 32 → Fin 3 → ℕ)
    (e10 : ∀ (q : Fin 4) (k : Fin 2), o10 (BitVec.ofNat 32 (2 * q.val)) (BitVec.ofNat 32 k.val) = ![128 * b.val + 32 * q.val + 16 * k.val, 0, 128 * c.val])
    (i10 : ∀ (q : Fin 4) (k : Fin 2) a, o10 (BitVec.ofNat 32 (2 * q.val)) (BitVec.ofNat 32 k.val) a + S16x2x128.size a ≤ S2048x2x512.size a)
    (L8 : List (View.Piece (Elt F) S3x128x2x512 .bf16))
    (hL8 : L8 = [⟨Rect.unit o6 S1x8x2x128.size i6, spreadV (scaleV 0x412C0000#32 d wb)⟩, ⟨Rect.unit o5 S1x8x2x128.size i5, spreadV (scaleV 0x40C80000#32 d wb)⟩,
      ⟨Rect.unit o4 S1x8x2x128.size i4, spreadV (scaleV 0x40000000#32 d wb)⟩])
    (p31 p30 p21 p20 p11 p10 p01 p00 : Vec F S16x2x128 .bf16)
    (h31 : p31 = pairV (blkV (nibV (magV mt (k0_pay20 wa) (k0_pay21 wa) ![24, 0] slices_S32x128_o24_0_S8x128)) (nibV (sgnV st (k0_pay22 (k0_pay10 d) wb) ![24, 0] slices_S32x128_o24_0_S8x128)) ![32, 0] slices_S64x128_o32_0_S32x128
        (v8.readCov L8 (Rect.unit (s := S3x128x2x512) _ S1x1x2x128.size (i7 3 1)).toLoadRect) (v8.readCov L8 (Rect.unit (s := S3x128x2x512) _ S1x1x2x128.size (i8 3 1)).toLoadRect)
        (v8.readCov L8 (Rect.unit (s := S3x128x2x512) _ S1x1x2x128.size (i9 3 1)).toLoadRect)))
    (h30 : p30 = pairV (blkV (nibV (magV mt (k0_pay20 wa) (k0_pay21 wa) ![24, 0] slices_S32x128_o24_0_S8x128)) (nibV (sgnV st (k0_pay22 (k0_pay10 d) wb) ![24, 0] slices_S32x128_o24_0_S8x128)) ![0, 0] slices_S64x128_o0_0_S32x128
        (v8.readCov L8 (Rect.unit (s := S3x128x2x512) _ S1x1x2x128.size (i7 3 0)).toLoadRect) (v8.readCov L8 (Rect.unit (s := S3x128x2x512) _ S1x1x2x128.size (i8 3 0)).toLoadRect)
        (v8.readCov L8 (Rect.unit (s := S3x128x2x512) _ S1x1x2x128.size (i9 3 0)).toLoadRect)))
    (h21 : p21 = pairV (blkV (nibV (magV mt (k0_pay20 wa) (k0_pay21 wa) ![16, 0] slices_S32x128_o16_0_S8x128)) (nibV (sgnV st (k0_pay22 (k0_pay10 d) wb) ![16, 0] slices_S32x128_o16_0_S8x128)) ![32, 0] slices_S64x128_o32_0_S32x128
        (v8.readCov L8 (Rect.unit (s := S3x128x2x512) _ S1x1x2x128.size (i7 2 1)).toLoadRect) (v8.readCov L8 (Rect.unit (s := S3x128x2x512) _ S1x1x2x128.size (i8 2 1)).toLoadRect)
        (v8.readCov L8 (Rect.unit (s := S3x128x2x512) _ S1x1x2x128.size (i9 2 1)).toLoadRect)))
    (h20 : p20 = pairV (blkV (nibV (magV mt (k0_pay20 wa) (k0_pay21 wa) ![16, 0] slices_S32x128_o16_0_S8x128)) (nibV (sgnV st (k0_pay22 (k0_pay10 d) wb) ![16, 0] slices_S32x128_o16_0_S8x128)) ![0, 0] slices_S64x128_o0_0_S32x128
        (v8.readCov L8 (Rect.unit (s := S3x128x2x512) _ S1x1x2x128.size (i7 2 0)).toLoadRect) (v8.readCov L8 (Rect.unit (s := S3x128x2x512) _ S1x1x2x128.size (i8 2 0)).toLoadRect)
        (v8.readCov L8 (Rect.unit (s := S3x128x2x512) _ S1x1x2x128.size (i9 2 0)).toLoadRect)))
    (h11 : p11 = pairV (blkV (nibV (magV mt (k0_pay20 wa) (k0_pay21 wa) ![8, 0] slices_S32x128_o8_0_S8x128)) (nibV (sgnV st (k0_pay22 (k0_pay10 d) wb) ![8, 0] slices_S32x128_o8_0_S8x128)) ![32, 0] slices_S64x128_o32_0_S32x128
        (v8.readCov L8 (Rect.unit (s := S3x128x2x512) _ S1x1x2x128.size (i7 1 1)).toLoadRect) (v8.readCov L8 (Rect.unit (s := S3x128x2x512) _ S1x1x2x128.size (i8 1 1)).toLoadRect)
        (v8.readCov L8 (Rect.unit (s := S3x128x2x512) _ S1x1x2x128.size (i9 1 1)).toLoadRect)))
    (h10 : p10 = pairV (blkV (nibV (magV mt (k0_pay20 wa) (k0_pay21 wa) ![8, 0] slices_S32x128_o8_0_S8x128)) (nibV (sgnV st (k0_pay22 (k0_pay10 d) wb) ![8, 0] slices_S32x128_o8_0_S8x128)) ![0, 0] slices_S64x128_o0_0_S32x128
        (v8.readCov L8 (Rect.unit (s := S3x128x2x512) _ S1x1x2x128.size (i7 1 0)).toLoadRect) (v8.readCov L8 (Rect.unit (s := S3x128x2x512) _ S1x1x2x128.size (i8 1 0)).toLoadRect)
        (v8.readCov L8 (Rect.unit (s := S3x128x2x512) _ S1x1x2x128.size (i9 1 0)).toLoadRect)))
    (h01 : p01 = pairV (blkV (nibV (magV mt (k0_pay20 wa) (k0_pay21 wa) ![0, 0] slices_S32x128_o0_0_S8x128)) (nibV (sgnV st (k0_pay22 (k0_pay10 d) wb) ![0, 0] slices_S32x128_o0_0_S8x128)) ![32, 0] slices_S64x128_o32_0_S32x128
        (v8.readCov L8 (Rect.unit (s := S3x128x2x512) _ S1x1x2x128.size (i7 0 1)).toLoadRect) (v8.readCov L8 (Rect.unit (s := S3x128x2x512) _ S1x1x2x128.size (i8 0 1)).toLoadRect)
        (v8.readCov L8 (Rect.unit (s := S3x128x2x512) _ S1x1x2x128.size (i9 0 1)).toLoadRect)))
    (h00 : p00 = pairV (blkV (nibV (magV mt (k0_pay20 wa) (k0_pay21 wa) ![0, 0] slices_S32x128_o0_0_S8x128)) (nibV (sgnV st (k0_pay22 (k0_pay10 d) wb) ![0, 0] slices_S32x128_o0_0_S8x128)) ![0, 0] slices_S64x128_o0_0_S32x128
        (v8.readCov L8 (Rect.unit (s := S3x128x2x512) _ S1x1x2x128.size (i7 0 0)).toLoadRect) (v8.readCov L8 (Rect.unit (s := S3x128x2x512) _ S1x1x2x128.size (i8 0 0)).toLoadRect)
        (v8.readCov L8 (Rect.unit (s := S3x128x2x512) _ S1x1x2x128.size (i9 0 0)).toLoadRect))) :
    Upto v9 (v9.writes (Elt F) f9 [⟨Rect.unit (s := S2048x2x512) _ S16x2x128.size (i10 3 1), p31⟩,
      ⟨Rect.unit (s := S2048x2x512) _ S16x2x128.size (i10 3 0), p30⟩,
      ⟨Rect.unit (s := S2048x2x512) _ S16x2x128.size (i10 2 1), p21⟩,
      ⟨Rect.unit (s := S2048x2x512) _ S16x2x128.size (i10 2 0), p20⟩,
      ⟨Rect.unit (s := S2048x2x512) _ S16x2x128.size (i10 1 1), p11⟩,
      ⟨Rect.unit (s := S2048x2x512) _ S16x2x128.size (i10 1 0), p10⟩,
      ⟨Rect.unit (s := S2048x2x512) _ S16x2x128.size (i10 0 1), p01⟩,
      ⟨Rect.unit (s := S2048x2x512) _ S16x2x128.size (i10 0 0), p00⟩])
      (WF D W mt st) (4 * b.val + c.val + 1) :=
  trip_writes D W mt st b c d wa wb hd hwa hwb v8 v9 f9 h9 o4 o5 o6 e4 e5 e6 i4 i5 i6 o7 o8 o9 e7 e8 e9 i7 i8 i9 o10 e10 i10 L8 hL8
    (fun q k => match q, k with | 3, 1 => p31 | 3, 0 => p30 | 2, 1 => p21 | 2, 0 => p20 | 1, 1 => p11 | 1, 0 => p10 | 0, 1 => p01 | 0, 0 => p00)
    (fun q k => match q, k with
      | 3, 1 => ⟨_, _, _, h31⟩
      | 3, 0 => ⟨_, _, _, h30⟩
      | 2, 1 => ⟨_, _, _, h21⟩
      | 2, 0 => ⟨_, _, _, h20⟩
      | 1, 1 => ⟨_, _, _, h11⟩
      | 1, 0 => ⟨_, _, _, h10⟩
      | 0, 1 => ⟨_, _, _, h01⟩
      | 0, 0 => ⟨_, _, _, h00⟩)

end Cert.Proof.KernelIdeal

end
-- ==== Proof.KILoops.lean ====
/- The loops of the kernel's body: a trip carries the weights written so far one block further. -/
module

public import proofs.«01_k».proof.Proof.Gen.KernelIdeal.Loops
public import proofs.«01_k».proof.Proof.Gen.KernelIdeal.Launch
public import proofs.«01_k».proof.Proof.Trip

@[expose] public section

set_option warn.classDefReducibility false
set_option warn.classDefReducibility false
set_option maxRecDepth 16384

noncomputable section

namespace Cert.Proof.KernelIdeal

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The algebra the invariants below are stated at: the frame kit's (Gen/<Name>/Frame.lean,
   Gen/<Name>/Loops.lean `𝕄G`) — no counters beside the points-tos, no variants, no bound, every
   name enabled. A proof that threads more through the loop (a ring's cells, a semaphore ledger)
   restates `UU` and the stubs' `𝒱₀ c none Set.univ`. -/
abbrev UU (nD : Nat) (τ : Topo) : Type := UR sig nD τ
abbrev 𝒱₀ : Variants := Variants.none

/-! ## What a trip reads -/

theorem words_read {sg : RefSig} {κ : Kind} {sp : Space} (v : View sg κ sp S128x8x128 .i32) (h : S1024x128.numel = S128x8x128.numel) (f : v.ty.Contents (Elt F))
    (b : Fin 16) (w : Fin 8) (off : Fin 2 → ℕ) (hoff : off = ![64 * b.val + w.val, 0])
    (inb : ∀ a, S8x128.size a = 0 ∨ off a + (![8, 1] : Fin 2 → Nat) a * (S8x128.size a - 1) < S1024x128.size a) (i : Fin 8) (n : Fin 128) :
    (v.reshape S1024x128 h).readAt (Elt F) { off := off, size := S8x128.size, stride := ![8, 1], inb := inb } f (ix2 i n)
      = v.read (Elt F) f (ix3 (⟨8 * b.val + i.val, by omega⟩ : Fin 128) w n) := by
  subst hoff
  rw [View.readAt_apply]
  show v.read (Elt F) f (Shape.reshapeEquiv h _) = _
  refine congrArg (v.read (Elt F) f) (Shape.reshapeEquiv_eq_of_rowMajor h ?_)
  rw [Shape.rowMajor_val_three, Shape.rowMajor_val_two]
  show ((8 * b.val + i.val) * 8 + w.val) * 128 + n.val = (64 * b.val + w.val + 8 * i.val) * 128 + (0 + 1 * n.val)
  omega

theorem scales_read {sg : RefSig} {κ : Kind} {sp : Space} (v : View sg κ sp S16x512 .i16) (f : v.ty.Contents (Elt F))
    (b : Fin 16) (c : Fin 4) (off : Fin 2 → ℕ) (hoff : off = ![b.val, 128 * c.val]) (inb : ∀ a, off a + S1x128.size a ≤ S16x512.size a) (n : Fin 128) :
    v.readAt (Elt F) (Rect.unit (s := S16x512) off S1x128.size inb).toLoadRect f (ix2 0 n) = v.read (Elt F) f (ix2 b (⟨128 * c.val + n.val, by omega⟩ : Fin 512)) := by
  subst hoff
  rw [View.readAt_apply]
  refine congrArg (v.read (Elt F) f) (funext fun a => Fin.ext (match a with
    | ⟨0, _⟩ => ?_
    | ⟨1, _⟩ => ?_))
  · show b.val + 1 * 0 = b.val; omega
  · show 128 * c.val + 1 * n.val = 128 * c.val + n.val; omega

/-! ## The loops -/

/-- The four buffers a trip touches: the packed words and the scales at fixed contents, the candidate magnitudes at any, and
    the weights with every block before number `n` written. -/
abbrev Held (c : Dev nD) (arg3 : Memref sig .tc .vmem S128x8x128 .i32) (arg4 : Memref sig .tc .vmem S16x512 .i16) (f3 : Buf (Elt F) (arg3.view.loc (c : Thread nD τ))) (f4 : Buf (Elt F) (arg4.view.loc (c : Thread nD τ)))
    (arg8 : Memref sig .tc .vmem S3x128x2x512 .bf16) (arg9 : Memref sig .tc .vmem S2048x2x512 .bf16) (mt st : TFn) (n : ℕ) : sProp (MT nD τ sig Unit (Elt F) ℕ (UU nD τ) ℕ) :=
  iprop((arg3.view.loc (c : Thread nD τ) ↦[arg3.view.set]{fullShare} f3) ∗ (arg4.view.loc (c : Thread nD τ) ↦[arg4.view.set]{fullShare} f4) ∗ (∃ f, (arg8.view.loc (c : Thread nD τ) ↦[arg8.view.set]{fullShare} f))
    ∗ (∃ f, (arg9.view.loc (c : Thread nD τ) ↦[arg9.view.set]{fullShare} f) ∗ ⌜n ≠ 0 → Upto arg9.view f (WF (arg4.view.read (Elt F) f4) (arg3.view.read (Elt F) f3) mt st) n⌝))

/-- The inner loop of the first point. -/
@[sl_loop] noncomputable def loopInv_k0_t2 (c : Dev nD) (i : grid0.Coords) (arg1 : Memref sig .tc .vmem S256x4096 .bf16) (harg1 : arg1.IsWhole) (arg2 : Memref sig .tc .vmem S8x256 .i8) (harg2 : arg2.IsWhole) (arg3 : Memref sig .tc .vmem S128x8x128 .i32) (harg3 : arg3.IsWhole) (arg4 : Memref sig .tc .vmem S16x512 .i16) (harg4 : arg4.IsWhole) (arg5 : Memref sig .tc .vmem S256x512 .bf16) (harg5 : arg5.IsWhole) (arg6 : Memref sig .tc .vmem S2x8x128 .i32) (harg6 : arg6.IsWhole) (arg7 : Memref sig .tc .vmem S128x2x4096 .bf16) (harg7 : arg7.IsWhole) (arg8 : Memref sig .tc .vmem S3x128x2x512 .bf16) (harg8 : arg8.IsWhole) (arg9 : Memref sig .tc .vmem S2048x2x512 .bf16) (harg9 : arg9.IsWhole) (k0_h1 : k0_cond1 i = 1#1) (v81 : IVec S8x128 32) (v82 : Vec F S1x8x128 .i32) (k0_t1 : Fin k0_t1_loop.trips) (v86 : BitVec 32) (f3 : Buf (Elt F) (arg3.view.loc (c : Thread nD τ))) (f4 : Buf (Elt F) (arg4.view.loc (c : Thread nD τ))) :
    Cert.KernelIdeal.Gen.LoopInvTy_k0_t2 (F := F) Unit ℕ (UU nD τ) ℕ 𝒱₀ c none Set.univ i arg1 harg1 arg2 harg2 arg3 harg3 arg4 harg4 arg5 harg5 arg6 harg6 arg7 harg7 arg8 harg8 arg9 harg9 k0_h1 v81 v82 k0_t1 v86 where
  inv := fun k acc => Held c arg3 arg4 f3 f4 arg8 arg9 v81 (Gen.k0_pay1 v82) (4 * k0_t1.val + k)
  step := fun k acc => by
    unfold Gen.k0_t2_body
    iintro ⟨H3, H4, ⟨%f8, H8⟩, ⟨%f9, H9, %h9⟩⟩
    simp only [Gen.k0_part1_eq_skeleton, Gen.k0_part2_eq_skeleton, Gen.k0_part3_eq_skeleton, Gen.k0_part4_eq_skeleton, Gen.k0_part5_eq_skeleton, Gen.k0_part6_eq_skeleton, Gen.k0_part7_eq_skeleton, Gen.k0_part8_eq_skeleton, Gen.k0_part9_eq_skeleton, Gen.k0_part10_eq_skeleton, Gen.k0_part11_eq_skeleton, Gen.k0_part12_eq_skeleton, Gen.k0_part13_eq_skeleton, Gen.k0_part14_eq_skeleton]
    sl_exec
    sl_step
    isplitl [H3]
    · iexact H3
    isplitl [H4]
    · iexact H4
    isplitl [H8]
    · iexists _; iexact H8
    iexists _
    isplitl [H9]
    · iexact H9
    ipureintro
    replace h9 := Upto.of_pos h9
    refine fun _ => ?_
    exact trip_writes_each (arg4.view.read (Elt F) f4) (arg3.view.read (Elt F) f3) v81 (Gen.k0_pay1 v82) (k0_t1.cast (by decide)) (k.cast (by decide))
      (View.readAt (Elt F) arg4.view (Rect.unit (s := S16x512) (k0_off1 k0_t1 k) S1x128.size (Gen.k0_off1_inb i k0_t1 k k0_h1)).toLoadRect f4)
      (Gen.k0_pay11 (F := F) (View.readAt (Elt F) (arg3.view.reshape S1024x128 rfl) { off := k0_off2 k0_t1 k, size := S8x128.size, stride := ![8, 1], inb := (Gen.k0_off2_inb i k0_t1 k k0_h1) } f3))
      (Gen.k0_pay12 (F := F) (View.readAt (Elt F) (arg3.view.reshape S1024x128 rfl) { off := k0_off3 k0_t1 k, size := S8x128.size, stride := ![8, 1], inb := (Gen.k0_off3_inb i k0_t1 k k0_h1) } f3))
      (fun n => scales_read arg4.view f4 (k0_t1.cast (by decide)) (k.cast (by decide)) _ (Gen.k0_off1_eq k0_t1 k) _ n)
      (fun a n => (congrFun (shapeCast_self _ _) _).trans (words_read arg3.view rfl f3 (k0_t1.cast (by decide)) ⟨2 * k.val, by have h4 : k.val < 4 := lt_of_lt_of_eq k.isLt (by decide); omega⟩ _ (Gen.k0_off2_eq k0_t1 k) _ a n))
      (fun a n => (congrFun (shapeCast_self _ _) _).trans (words_read arg3.view rfl f3 (k0_t1.cast (by decide)) ⟨2 * k.val + 1, by have h4 : k.val < 4 := lt_of_lt_of_eq k.isLt (by decide); omega⟩ _ (Gen.k0_off3_eq k0_t1 k) _ a n))
      arg8.view arg9.view f9 h9 _ _ _ (Gen.k0_off4_eq k0_t1 k) (Gen.k0_off5_eq k0_t1 k) (Gen.k0_off6_eq k0_t1 k) (Gen.k0_off4_inb i k0_t1 k k0_h1) (Gen.k0_off5_inb i k0_t1 k k0_h1) (Gen.k0_off6_inb i k0_t1 k k0_h1) _ _ _ (Gen.k0_off7_eq k0_t1 k) (Gen.k0_off8_eq k0_t1 k) (Gen.k0_off9_eq k0_t1 k) (Gen.k0_off7_inb i k0_t1 k k0_h1) (Gen.k0_off8_inb i k0_t1 k k0_h1) (Gen.k0_off9_inb i k0_t1 k k0_h1) _ (Gen.k0_off10_eq k0_t1 k) (Gen.k0_off10_inb i k0_t1 k k0_h1) _ rfl
      _ _ _ _ _ _ _ _ rfl rfl rfl rfl rfl rfl rfl rfl

/-- The outer loop of the first point. -/
@[sl_loop] noncomputable def loopInv_k0_t1 (c : Dev nD) (i : grid0.Coords) (arg1 : Memref sig .tc .vmem S256x4096 .bf16) (harg1 : arg1.IsWhole) (arg2 : Memref sig .tc .vmem S8x256 .i8) (harg2 : arg2.IsWhole) (arg3 : Memref sig .tc .vmem S128x8x128 .i32) (harg3 : arg3.IsWhole) (arg4 : Memref sig .tc .vmem S16x512 .i16) (harg4 : arg4.IsWhole) (arg5 : Memref sig .tc .vmem S256x512 .bf16) (harg5 : arg5.IsWhole) (arg6 : Memref sig .tc .vmem S2x8x128 .i32) (harg6 : arg6.IsWhole) (arg7 : Memref sig .tc .vmem S128x2x4096 .bf16) (harg7 : arg7.IsWhole) (arg8 : Memref sig .tc .vmem S3x128x2x512 .bf16) (harg8 : arg8.IsWhole) (arg9 : Memref sig .tc .vmem S2048x2x512 .bf16) (harg9 : arg9.IsWhole) (k0_h1 : k0_cond1 i = 1#1) (v81 : IVec S8x128 32) (v82 : Vec F S1x8x128 .i32) (f3 : Buf (Elt F) (arg3.view.loc (c : Thread nD τ))) (f4 : Buf (Elt F) (arg4.view.loc (c : Thread nD τ))) :
    Cert.KernelIdeal.Gen.LoopInvTy_k0_t1 (F := F) Unit ℕ (UU nD τ) ℕ 𝒱₀ c none Set.univ i arg1 harg1 arg2 harg2 arg3 harg3 arg4 harg4 arg5 harg5 arg6 harg6 arg7 harg7 arg8 harg8 arg9 harg9 k0_h1 v81 v82 where
  inv := fun k acc => Held c arg3 arg4 f3 f4 arg8 arg9 v81 (Gen.k0_pay1 v82) (4 * k)
  step := fun k acc => by
    unfold Gen.k0_t1_body
    iintro ⟨H3, H4, ⟨%f8, H8⟩, ⟨%f9, H9, %h9⟩⟩
    sl_exec
    sl_step
    isplitl [H3]
    · iexact H3
    isplitl [H4]
    · iexact H4
    isplitl [H8]
    · iexists _; iexact H8
    iexists _
    isplitl [H9]
    · iexact H9
    ipureintro
    assumption

/-- The inner loop of the later points. -/
@[sl_loop] noncomputable def loopInv_k0_t4 (c : Dev nD) (i : grid0.Coords) (arg1 : Memref sig .tc .vmem S256x4096 .bf16) (harg1 : arg1.IsWhole) (arg2 : Memref sig .tc .vmem S8x256 .i8) (harg2 : arg2.IsWhole) (arg3 : Memref sig .tc .vmem S128x8x128 .i32) (harg3 : arg3.IsWhole) (arg4 : Memref sig .tc .vmem S16x512 .i16) (harg4 : arg4.IsWhole) (arg5 : Memref sig .tc .vmem S256x512 .bf16) (harg5 : arg5.IsWhole) (arg6 : Memref sig .tc .vmem S2x8x128 .i32) (harg6 : arg6.IsWhole) (arg7 : Memref sig .tc .vmem S128x2x4096 .bf16) (harg7 : arg7.IsWhole) (arg8 : Memref sig .tc .vmem S3x128x2x512 .bf16) (harg8 : arg8.IsWhole) (arg9 : Memref sig .tc .vmem S2048x2x512 .bf16) (harg9 : arg9.IsWhole) (k0_h2 : k0_cond2 i = 1#1) (v18 : Vec F S1x8x128 .i32) (v20 : Vec F S1x8x128 .i32) (k0_t3 : Fin k0_t3_loop.trips) (v24 : BitVec 32) (f3 : Buf (Elt F) (arg3.view.loc (c : Thread nD τ))) (f4 : Buf (Elt F) (arg4.view.loc (c : Thread nD τ))) :
    Cert.KernelIdeal.Gen.LoopInvTy_k0_t4 (F := F) Unit ℕ (UU nD τ) ℕ 𝒱₀ c none Set.univ i arg1 harg1 arg2 harg2 arg3 harg3 arg4 harg4 arg5 harg5 arg6 harg6 arg7 harg7 arg8 harg8 arg9 harg9 k0_h2 v18 v20 k0_t3 v24 where
  inv := fun k acc => Held c arg3 arg4 f3 f4 arg8 arg9 (Gen.k0_pay4 v18) (Gen.k0_pay5 v20) (4 * k0_t3.val + k)
  step := fun k acc => by
    unfold Gen.k0_t4_body
    iintro ⟨H3, H4, ⟨%f8, H8⟩, ⟨%f9, H9, %h9⟩⟩
    simp only [Gen.k0_part17_eq_skeleton, Gen.k0_part18_eq_skeleton, Gen.k0_part19_eq_skeleton, Gen.k0_part20_eq_skeleton, Gen.k0_part21_eq_skeleton, Gen.k0_part22_eq_skeleton, Gen.k0_part23_eq_skeleton, Gen.k0_part24_eq_skeleton, Gen.k0_part25_eq_skeleton, Gen.k0_part26_eq_skeleton, Gen.k0_part27_eq_skeleton, Gen.k0_part28_eq_skeleton, Gen.k0_part29_eq_skeleton, Gen.k0_part30_eq_skeleton]
    sl_exec
    sl_step
    isplitl [H3]
    · iexact H3
    isplitl [H4]
    · iexact H4
    isplitl [H8]
    · iexists _; iexact H8
    iexists _
    isplitl [H9]
    · iexact H9
    ipureintro
    replace h9 := Upto.of_pos h9
    refine fun _ => ?_
    exact trip_writes_each (arg4.view.read (Elt F) f4) (arg3.view.read (Elt F) f3) (Gen.k0_pay4 v18) (Gen.k0_pay5 v20) (k0_t3.cast (by decide)) (k.cast (by decide))
      (View.readAt (Elt F) arg4.view (Rect.unit (s := S16x512) (k0_off11 k0_t3 k) S1x128.size (Gen.k0_off11_inb i k0_t3 k k0_h2)).toLoadRect f4)
      (Gen.k0_pay72 (F := F) (View.readAt (Elt F) (arg3.view.reshape S1024x128 rfl) { off := k0_off12 k0_t3 k, size := S8x128.size, stride := ![8, 1], inb := (Gen.k0_off12_inb i k0_t3 k k0_h2) } f3))
      (Gen.k0_pay73 (F := F) (View.readAt (Elt F) (arg3.view.reshape S1024x128 rfl) { off := k0_off13 k0_t3 k, size := S8x128.size, stride := ![8, 1], inb := (Gen.k0_off13_inb i k0_t3 k k0_h2) } f3))
      (fun n => scales_read arg4.view f4 (k0_t3.cast (by decide)) (k.cast (by decide)) _ (Gen.k0_off11_eq k0_t3 k) _ n)
      (fun a n => (congrFun (shapeCast_self _ _) _).trans (words_read arg3.view rfl f3 (k0_t3.cast (by decide)) ⟨2 * k.val, by have h4 : k.val < 4 := lt_of_lt_of_eq k.isLt (by decide); omega⟩ _ (Gen.k0_off12_eq k0_t3 k) _ a n))
      (fun a n => (congrFun (shapeCast_self _ _) _).trans (words_read arg3.view rfl f3 (k0_t3.cast (by decide)) ⟨2 * k.val + 1, by have h4 : k.val < 4 := lt_of_lt_of_eq k.isLt (by decide); omega⟩ _ (Gen.k0_off13_eq k0_t3 k) _ a n))
      arg8.view arg9.view f9 h9 _ _ _ (Gen.k0_off14_eq k0_t3 k) (Gen.k0_off15_eq k0_t3 k) (Gen.k0_off16_eq k0_t3 k) (Gen.k0_off14_inb i k0_t3 k k0_h2) (Gen.k0_off15_inb i k0_t3 k k0_h2) (Gen.k0_off16_inb i k0_t3 k k0_h2) _ _ _ (Gen.k0_off17_eq k0_t3 k) (Gen.k0_off18_eq k0_t3 k) (Gen.k0_off19_eq k0_t3 k) (Gen.k0_off17_inb i k0_t3 k k0_h2) (Gen.k0_off18_inb i k0_t3 k k0_h2) (Gen.k0_off19_inb i k0_t3 k k0_h2) _ (Gen.k0_off20_eq k0_t3 k) (Gen.k0_off20_inb i k0_t3 k k0_h2) _ rfl
      _ _ _ _ _ _ _ _ rfl rfl rfl rfl rfl rfl rfl rfl

/-- The outer loop of the later points. -/
@[sl_loop] noncomputable def loopInv_k0_t3 (c : Dev nD) (i : grid0.Coords) (arg1 : Memref sig .tc .vmem S256x4096 .bf16) (harg1 : arg1.IsWhole) (arg2 : Memref sig .tc .vmem S8x256 .i8) (harg2 : arg2.IsWhole) (arg3 : Memref sig .tc .vmem S128x8x128 .i32) (harg3 : arg3.IsWhole) (arg4 : Memref sig .tc .vmem S16x512 .i16) (harg4 : arg4.IsWhole) (arg5 : Memref sig .tc .vmem S256x512 .bf16) (harg5 : arg5.IsWhole) (arg6 : Memref sig .tc .vmem S2x8x128 .i32) (harg6 : arg6.IsWhole) (arg7 : Memref sig .tc .vmem S128x2x4096 .bf16) (harg7 : arg7.IsWhole) (arg8 : Memref sig .tc .vmem S3x128x2x512 .bf16) (harg8 : arg8.IsWhole) (arg9 : Memref sig .tc .vmem S2048x2x512 .bf16) (harg9 : arg9.IsWhole) (k0_h2 : k0_cond2 i = 1#1) (v18 : Vec F S1x8x128 .i32) (v20 : Vec F S1x8x128 .i32) (f3 : Buf (Elt F) (arg3.view.loc (c : Thread nD τ))) (f4 : Buf (Elt F) (arg4.view.loc (c : Thread nD τ))) :
    Cert.KernelIdeal.Gen.LoopInvTy_k0_t3 (F := F) Unit ℕ (UU nD τ) ℕ 𝒱₀ c none Set.univ i arg1 harg1 arg2 harg2 arg3 harg3 arg4 harg4 arg5 harg5 arg6 harg6 arg7 harg7 arg8 harg8 arg9 harg9 k0_h2 v18 v20 where
  inv := fun k acc => Held c arg3 arg4 f3 f4 arg8 arg9 (Gen.k0_pay4 v18) (Gen.k0_pay5 v20) (4 * k)
  step := fun k acc => by
    unfold Gen.k0_t3_body
    iintro ⟨H3, H4, ⟨%f8, H8⟩, ⟨%f9, H9, %h9⟩⟩
    sl_exec
    sl_step
    isplitl [H3]
    · iexact H3
    isplitl [H4]
    · iexact H4
    isplitl [H8]
    · iexists _; iexact H8
    iexists _
    isplitl [H9]
    · iexact H9
    ipureintro
    assumption

end Cert.Proof.KernelIdeal

end
-- ==== Proof.KIRun.lean ====
/- The runs of the kernel body's floats: it runs, ends with every argument unchanged and every counter at
   zero. Nothing is named of what its scratch buffers and its output hold. -/
module

public import proofs.«01_k».proof.Proof.Gen.KernelIdeal.Frame
public import proofs.«01_k».proof.Proof.Gen.KernelIdeal.Points
public import proofs.«01_k».proof.Proof.KILoops
public import Idealize.ShloMosaic.Lib.Pipeline.FrameBody
public import Idealize.ShloMosaic.Lib.Ring
public import Idealize.ShloMosaic.Lib.WritesUnit
public import Idealize.ShloMosaic.Lib.VecWindow
public import Idealize.ShloMosaic.Lib.WordCmp
public import Idealize.ShloMosaic.Lib.Claim

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only. -/
theorem hcond0_0 : ∀ t : Fin cfg0.N, cond0_0 (grid0.coords t) ↔ t.val % 29 = 0 :=
  (by decide +kernel : ∀ t : Fin grid0.N, cond0_0 (grid0.coords t) ↔ t.val % 29 = 0)

/-- The condition of the body's `scf.if` 1 (`k0_h2`), from the grid coordinates (the skeleton's scalar
    chain substituted). -/
abbrev cond0_1 (i : grid0.Coords) : Prop := k0_cond2 i = 1#1
/-- It holds at the points whose coordinates have 1 ≤ i0 and i0 ≤ 27 — decided over the grid. -/
theorem hcond0_1 : ∀ t : Fin cfg0.N, cond0_1 (grid0.coords t) ↔ (1 ≤ t.val % 29 ∧ t.val % 29 ≤ 27) :=
  (by decide +kernel : ∀ t : Fin grid0.N, cond0_1 (grid0.coords t) ↔ (1 ≤ t.val % 29 ∧ t.val % 29 ≤ 27))

/-- The condition of the body's `scf.if` 2 (`k0_h3`), from the grid coordinates (the skeleton's scalar
    chain substituted). -/
abbrev cond0_2 (i : grid0.Coords) : Prop := k0_cond3 i = 1#1
/-- It holds at the last point only — by arithmetic of the point. -/
theorem hcond0_2 : ∀ t : Fin cfg0.N, cond0_2 (grid0.coords t) ↔ t.val % 29 = 28 :=
  (by decide +kernel : ∀ t : Fin grid0.N, cond0_2 (grid0.coords t) ↔ t.val % 29 = 28)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S256x4096 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x256 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x8x128 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S16x512 .i16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x512 .bf16 := win0_4.stage (cfg0.slots t 4)
abbrev hs0_4 (t : Fin cfg0.N) : (ms0_4 t).IsWhole := hstage0_4 ((cfg0.slots t 4).cast nbuf0_4)
/-- The scratch operands: whole scoped buffers of the kernel's own, passed beside the windows. -/
abbrev scM0_0 : Memref sig .tc .vmem S2x8x128 .i32 := Memref.whole cc0_scratch0
abbrev scM0_1 : Memref sig .tc .vmem S128x2x4096 .bf16 := Memref.whole cc0_scratch1
abbrev scM0_2 : Memref sig .tc .vmem S3x128x2x512 .bf16 := Memref.whole cc0_scratch2
abbrev scM0_3 : Memref sig .tc .vmem S2048x2x512 .bf16 := Memref.whole cc0_scratch3

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

/-- One plane of the pair of tables. -/
def plane (T : Vec F S2x8x128 .i32) (p : Fin 2) : TFn := fun j => T (ValueIdx.ix3 p (⟨(j 0).val, (j 0).isLt⟩ : Fin 8) (⟨(j 1).val, (j 1).isLt⟩ : Fin 128))

/-- The pair of tables the first point builds from the grid: the magnitudes, then the signs. -/
def TAB (g : Vec F S8x256 .i8) : Vec F S2x8x128 .i32 := fun y =>
  if (y 0).val = 0 then k0_pay65 g (ValueIdx.ix3 (0 : Fin 1) (⟨(y 1).val, (y 1).isLt⟩ : Fin 8) (⟨(y 2).val, (y 2).isLt⟩ : Fin 128))
  else k0_pay66 (iota .tc S8x128 32 [0] iota_S8x128_d0_w32) (iota .tc S8x128 32 [1] iota_S8x128_d1_w32) (ValueIdx.ix3 (0 : Fin 1) (⟨(y 1).val, (y 1).isLt⟩ : Fin 8) (⟨(y 2).val, (y 2).isLt⟩ : Fin 128))

/-- The two stores that leave the tables. -/
def LT (g : Vec F S8x256 .i8) : List (View.Piece (Elt F) S2x8x128 .i32) :=
  [⟨Rect.unit ![1, 0, 0] S1x8x128.size inb_S2x8x128_S1x8x128_1_0_0, k0_pay66 (iota .tc S8x128 32 [0] iota_S8x128_d0_w32) (iota .tc S8x128 32 [1] iota_S8x128_d1_w32)⟩,
   ⟨Rect.unit ![0, 0, 0] S1x8x128.size inb_S2x8x128_S1x8x128_0_0_0, k0_pay65 g⟩]

theorem read_LT {sg : RefSig} {κ : Kind} {sp : Space} (v : View sg κ sp S2x8x128 .i32) (f : v.ty.Contents (Elt F)) (g : Vec F S8x256 .i8) :
    v.read (Elt F) (v.writes (Elt F) f (LT g)) = TAB g := by
  funext y
  have h0 : (y 0).val < 2 := (y 0).isLt
  have h1 : (y 1).val < 8 := (y 1).isLt
  have h2 : (y 2).val < 128 := (y 2).isLt
  unfold LT TAB
  by_cases h : (y 0).val = 0
  · rw [if_pos h, View.read_writes_cons_unit_of_not_mem v f _ _ _ y rfl (0 : Fin 3) (by left; show (y 0).val < 1; omega)]
    exact View.read_writes_cons_unit_of_mem v f _ _ _ y (ValueIdx.ix3 (0 : Fin 1) (⟨(y 1).val, h1⟩ : Fin 8) (⟨(y 2).val, h2⟩ : Fin 128)) rfl (fun a => match a with
      | ⟨0, _⟩ => by show (y 0).val = 0 + 0; omega
      | ⟨1, _⟩ => by show (y 1).val = 0 + (y 1).val; omega
      | ⟨2, _⟩ => by show (y 2).val = 0 + (y 2).val; omega)
  · rw [if_neg h]
    exact View.read_writes_cons_unit_of_mem v f _ _ _ y (ValueIdx.ix3 (0 : Fin 1) (⟨(y 1).val, h1⟩ : Fin 8) (⟨(y 2).val, h2⟩ : Fin 128)) rfl (fun a => match a with
      | ⟨0, _⟩ => by show (y 0).val = 1 + 0; omega
      | ⟨1, _⟩ => by show (y 1).val = 0 + (y 1).val; omega
      | ⟨2, _⟩ => by show (y 2).val = 0 + (y 2).val; omega)

/-- A plane of the tables, loaded and read as two-dimensional. -/
theorem plane_read {sg : RefSig} {κ : Kind} {sp : Space} (v : View sg κ sp S2x8x128 .i32) (f : v.ty.Contents (Elt F)) (p : Fin 2)
    (off : Fin 3 → ℕ) (hoff : off = ![p.val, 0, 0]) (inb : ∀ a, off a + S1x8x128.size a ≤ S2x8x128.size a) :
    shapeCast S8x128 (v.readAt (Elt F) (Rect.unit (s := S2x8x128) off S1x8x128.size inb).toLoadRect f) shapeCasts_S1x8x128_S8x128 = plane (v.read (Elt F) f) p := by
  subst hoff
  funext j
  have h0 : (j 0).val < 8 := (j 0).isLt
  have h1 : (j 1).val < 128 := (j 1).isLt
  rw [shapeCast_apply _ _ _ (ValueIdx.ix3 (0 : Fin 1) (⟨(j 0).val, h0⟩ : Fin 8) (⟨(j 1).val, h1⟩ : Fin 128)) (by
    rw [Shape.rowMajor_val_three, Shape.rowMajor_val_two]; show (0 * 8 + (j 0).val) * 128 + (j 1).val = (j 0).val * 128 + (j 1).val; omega)]
  rw [View.readAt_apply]
  refine congrArg (v.read (Elt F) f) (funext fun a => Fin.ext (match a with
    | ⟨0, _⟩ => ?_
    | ⟨1, _⟩ => ?_
    | ⟨2, _⟩ => ?_))
  · show p.val + 1 * 0 = p.val; omega
  · show 0 + 1 * (j 0).val = (j 0).val; omega
  · show 0 + 1 * (j 1).val = (j 1).val; omega

theorem plane_read0 {sg : RefSig} {κ : Kind} {sp : Space} (v : View sg κ sp S2x8x128 .i32) (f : v.ty.Contents (Elt F)) :
    shapeCast S8x128 (v.readAt (Elt F) (Rect.unit (s := S2x8x128) ![0, 0, 0] S1x8x128.size inb_S2x8x128_S1x8x128_0_0_0).toLoadRect f) shapeCasts_S1x8x128_S8x128 = plane (v.read (Elt F) f) 0 :=
  plane_read v f 0 _ rfl _

theorem plane_read1 {sg : RefSig} {κ : Kind} {sp : Space} (v : View sg κ sp S2x8x128 .i32) (f : v.ty.Contents (Elt F)) :
    shapeCast S8x128 (v.readAt (Elt F) (Rect.unit (s := S2x8x128) ![1, 0, 0] S1x8x128.size inb_S2x8x128_S1x8x128_1_0_0).toLoadRect f) shapeCasts_S1x8x128_S8x128 = plane (v.read (Elt F) f) 1 :=
  plane_read v f 1 _ rfl _

-- (the run's proof term is large: checking it walks past the default budget)
set_option maxHeartbeats 1000000 in
/-- The body at a middle point. -/
theorem kernelRun0_B (c : Dev nD) (i : grid0.Coords) (arg1 : Memref sig .tc .vmem S256x4096 .bf16) (harg1 : arg1.IsWhole) (arg2 : Memref sig .tc .vmem S8x256 .i8) (harg2 : arg2.IsWhole) (arg3 : Memref sig .tc .vmem S128x8x128 .i32) (harg3 : arg3.IsWhole) (arg4 : Memref sig .tc .vmem S16x512 .i16) (harg4 : arg4.IsWhole) (arg5 : Memref sig .tc .vmem S256x512 .bf16) (harg5 : arg5.IsWhole) (arg6 : Memref sig .tc .vmem S2x8x128 .i32) (harg6 : arg6.IsWhole) (arg7 : Memref sig .tc .vmem S128x2x4096 .bf16) (harg7 : arg7.IsWhole) (arg8 : Memref sig .tc .vmem S3x128x2x512 .bf16) (harg8 : arg8.IsWhole) (arg9 : Memref sig .tc .vmem S2048x2x512 .bf16) (harg9 : arg9.IsWhole) (hc0 : ¬cond0_0 i) (hc1 : cond0_1 i) (hc2 : ¬cond0_2 i)
    (x0 : Vec F S256x4096 .bf16) (x1 : Vec F S8x256 .i8) (x2 : Vec F S128x8x128 .i32) (x3 : Vec F S16x512 .i16) (xT : Vec F S2x8x128 .i32) (xS : Vec F S128x2x4096 .bf16) (xW : Vec F S2048x2x512 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xT ∗ owns (c : Thread nD τ) arg7 fullShare xS ∗ (∃ d, owns (c : Thread nD τ) arg8 fullShare d) ∗ owns (c : Thread nD τ) arg9 fullShare xW
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (k0_pay3 xW xS) ∗ owns (c : Thread nD τ) arg6 fullShare xT ∗ owns (c : Thread nD τ) arg7 fullShare xS ∗ (∃ d, owns (c : Thread nD τ) arg8 fullShare d) ∗ owns (c : Thread nD τ) arg9 fullShare (WF x3 x2 (plane xT 0) (plane xT 1))) -∗ K ⟨⟩))
      ⊢ wp frame (wpE (defs₀ (F := F)) Variants.none c none) Set.univ (cc0_iq2_matmul i arg1 harg1 arg2 harg2 arg3 harg3 arg4 harg4 arg5 harg5 arg6 harg6 arg7 harg7 arg8 harg8 arg9 harg9) K := by
    simp only [cc0_iq2_matmul_eq_skeleton]; unfold cc0_iq2_matmul_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hs0, HS0⟩, ⟨%fs1, %hs1, HS1⟩, ⟨%ds2, %fs2, -, HS2⟩, ⟨%fs3, %hs3, HS3⟩, Hk⟩
    obtain rfl := harg1.eq_unread hf0; obtain rfl := harg2.eq_unread hf1; obtain rfl := harg3.eq_unread hf2; obtain rfl := harg4.eq_unread hf3
    obtain rfl := harg6.eq_unread hs0; obtain rfl := harg7.eq_unread hs1; obtain rfl := harg9.eq_unread hs3
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; swap; · iexact H4
      ipureintro
      show View.read (Elt F) arg5.view (arg5.view.writes (Elt F) arg5.view.junk [⟨Rect.unit ![0, 0] S256x512.size inb_S256x512_S256x512_0_0,
          k0_pay3 (View.readAt (Elt F) arg9.view (Rect.unit (s := S2048x2x512) ![0, 0, 0] S2048x2x512.size inb_S2048x2x512_S2048x2x512_0_0_0).toLoadRect (harg9.unread xW))
            (View.readAt (Elt F) arg7.view (Rect.unit (s := S128x2x4096) ![0, 0, 0] S128x2x4096.size inb_S128x2x4096_S128x2x4096_0_0_0).toLoadRect (harg7.unread xS))⟩]) = k0_pay3 xW xS
      rw [View.readAt_full, View.readAt_full, hs1, hs3]; exact View.read_writes_full _ _ _ _ _
    isplitl [HS0]
    · iexists _; isplitr; · ipureintro; exact hs0
      iexact HS0
    isplitl [HS1]
    · iexists _; isplitr; · ipureintro; exact hs1
      iexact HS1
    isplitl [HS2]
    · iexists _, _; isplitr; swap; · iexact HS2
      ipureintro; rfl
    iexists _; isplitr; swap; · iexact HS3
    ipureintro
    have hL : Upto arg9.view fL1 (WF (View.read (Elt F) arg4.view (harg4.unread x3)) (View.read (Elt F) arg3.view (harg3.unread x2))
        (shapeCast S8x128 (View.readAt (Elt F) arg6.view (Rect.unit (s := S2x8x128) ![0, 0, 0] S1x8x128.size inb_S2x8x128_S1x8x128_0_0_0).toLoadRect (harg6.unread xT)) shapeCasts_S1x8x128_S8x128)
        (shapeCast S8x128 (View.readAt (Elt F) arg6.view (Rect.unit (s := S2x8x128) ![1, 0, 0] S1x8x128.size inb_S2x8x128_S1x8x128_1_0_0).toLoadRect (harg6.unread xT)) shapeCasts_S1x8x128_S8x128)) 64 :=
      hL4 (by decide)
    rw [hf2, hf3, plane_read0, plane_read1, hs0] at hL
    exact funext hL.all

-- (the run's proof term is large: checking it walks past the default budget)
set_option maxHeartbeats 1000000 in
/-- The body at the first point. -/
theorem kernelRun0_A (c : Dev nD) (i : grid0.Coords) (arg1 : Memref sig .tc .vmem S256x4096 .bf16) (harg1 : arg1.IsWhole) (arg2 : Memref sig .tc .vmem S8x256 .i8) (harg2 : arg2.IsWhole) (arg3 : Memref sig .tc .vmem S128x8x128 .i32) (harg3 : arg3.IsWhole) (arg4 : Memref sig .tc .vmem S16x512 .i16) (harg4 : arg4.IsWhole) (arg5 : Memref sig .tc .vmem S256x512 .bf16) (harg5 : arg5.IsWhole) (arg6 : Memref sig .tc .vmem S2x8x128 .i32) (harg6 : arg6.IsWhole) (arg7 : Memref sig .tc .vmem S128x2x4096 .bf16) (harg7 : arg7.IsWhole) (arg8 : Memref sig .tc .vmem S3x128x2x512 .bf16) (harg8 : arg8.IsWhole) (arg9 : Memref sig .tc .vmem S2048x2x512 .bf16) (harg9 : arg9.IsWhole) (hc0 : cond0_0 i) (hc1 : ¬cond0_1 i) (hc2 : ¬cond0_2 i)
    (x0 : Vec F S256x4096 .bf16) (x1 : Vec F S8x256 .i8) (x2 : Vec F S128x8x128 .i32) (x3 : Vec F S16x512 .i16) (x4 : Vec F S256x512 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (TAB x1) ∗ owns (c : Thread nD τ) arg7 fullShare (k0_pay67 x0) ∗ (∃ d, owns (c : Thread nD τ) arg8 fullShare d) ∗ owns (c : Thread nD τ) arg9 fullShare (WF x3 x2 (plane (TAB x1) 0) (plane (TAB x1) 1))) -∗ K ⟨⟩))
      ⊢ wp frame (wpE (defs₀ (F := F)) Variants.none c none) Set.univ (cc0_iq2_matmul i arg1 harg1 arg2 harg2 arg3 harg3 arg4 harg4 arg5 harg5 arg6 harg6 arg7 harg7 arg8 harg8 arg9 harg9) K := by
    simp only [cc0_iq2_matmul_eq_skeleton]; unfold cc0_iq2_matmul_skel
    simp only [k0_part15_eq_skeleton, k0_part16_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact hf4
      iexact H4
    have hg : View.readAt (Elt F) arg2.view (Rect.unit (s := S8x256) ![0, 0] S8x256.size inb_S8x256_S8x256_0_0).toLoadRect (harg2.unread x1) = x1 := by
      rw [View.readAt_full, hf1]
    isplitl [HS0]
    · iexists _; isplitr; swap; · iexact HS0
      ipureintro
      show View.read (Elt F) arg6.view (arg6.view.writes (Elt F) arg6.view.junk (LT (View.readAt (Elt F) arg2.view (Rect.unit (s := S8x256) ![0, 0] S8x256.size inb_S8x256_S8x256_0_0).toLoadRect (harg2.unread x1)))) = TAB x1
      rw [hg, read_LT]
    isplitl [HS1]
    · iexists _; isplitr; swap; · iexact HS1
      ipureintro
      show View.read (Elt F) arg7.view (arg7.view.writes (Elt F) arg7.view.junk [⟨Rect.unit ![0, 0, 0] S128x2x4096.size inb_S128x2x4096_S128x2x4096_0_0_0,
          k0_pay67 (View.readAt (Elt F) arg1.view (Rect.unit (s := S256x4096) ![0, 0] S256x4096.size inb_S256x4096_S256x4096_0_0).toLoadRect (harg1.unread x0))⟩]) = k0_pay67 x0
      rw [View.readAt_full, hf0]; exact View.read_writes_full _ _ _ _ _
    isplitl [HS2]
    · iexists _, _; isplitr; swap; · iexact HS2
      ipureintro; rfl
    iexists _; isplitr; swap; · iexact HS3
    ipureintro
    have hL : Upto arg9.view fL1 (WF (View.read (Elt F) arg4.view (harg4.unread x3)) (View.read (Elt F) arg3.view (harg3.unread x2))
        (shapeCast S8x128 (View.readAt (Elt F) arg6.view (Rect.unit (s := S2x8x128) ![0, 0, 0] S1x8x128.size inb_S2x8x128_S1x8x128_0_0_0).toLoadRect
          (arg6.view.writes (Elt F) arg6.view.junk (LT (View.readAt (Elt F) arg2.view (Rect.unit (s := S8x256) ![0, 0] S8x256.size inb_S8x256_S8x256_0_0).toLoadRect (harg2.unread x1))))) shapeCasts_S1x8x128_S8x128)
        (shapeCast S8x128 (View.readAt (Elt F) arg6.view (Rect.unit (s := S2x8x128) ![1, 0, 0] S1x8x128.size inb_S2x8x128_S1x8x128_1_0_0).toLoadRect
          (arg6.view.writes (Elt F) arg6.view.junk (LT (View.readAt (Elt F) arg2.view (Rect.unit (s := S8x256) ![0, 0] S8x256.size inb_S8x256_S8x256_0_0).toLoadRect (harg2.unread x1))))) shapeCasts_S1x8x128_S8x128)) 64 :=
      hL4 (by decide)
    rw [hg, hf2, hf3, plane_read0, plane_read1, read_LT] at hL
    exact funext hL.all

-- (the run's proof term is large: checking it walks past the default budget)
set_option maxHeartbeats 1000000 in
/-- The body at the last point. -/
theorem kernelRun0_C (c : Dev nD) (i : grid0.Coords) (arg1 : Memref sig .tc .vmem S256x4096 .bf16) (harg1 : arg1.IsWhole) (arg2 : Memref sig .tc .vmem S8x256 .i8) (harg2 : arg2.IsWhole) (arg3 : Memref sig .tc .vmem S128x8x128 .i32) (harg3 : arg3.IsWhole) (arg4 : Memref sig .tc .vmem S16x512 .i16) (harg4 : arg4.IsWhole) (arg5 : Memref sig .tc .vmem S256x512 .bf16) (harg5 : arg5.IsWhole) (arg6 : Memref sig .tc .vmem S2x8x128 .i32) (harg6 : arg6.IsWhole) (arg7 : Memref sig .tc .vmem S128x2x4096 .bf16) (harg7 : arg7.IsWhole) (arg8 : Memref sig .tc .vmem S3x128x2x512 .bf16) (harg8 : arg8.IsWhole) (arg9 : Memref sig .tc .vmem S2048x2x512 .bf16) (harg9 : arg9.IsWhole) (hc0 : ¬cond0_0 i) (hc1 : ¬cond0_1 i) (hc2 : cond0_2 i)
    (x0 : Vec F S256x4096 .bf16) (x1 : Vec F S8x256 .i8) (x2 : Vec F S128x8x128 .i32) (x3 : Vec F S16x512 .i16) (xT : Vec F S2x8x128 .i32) (xS : Vec F S128x2x4096 .bf16) (xW : Vec F S2048x2x512 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xT ∗ owns (c : Thread nD τ) arg7 fullShare xS ∗ (∃ d, owns (c : Thread nD τ) arg8 fullShare d) ∗ owns (c : Thread nD τ) arg9 fullShare xW
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (k0_pay3 xW xS) ∗ owns (c : Thread nD τ) arg6 fullShare xT ∗ owns (c : Thread nD τ) arg7 fullShare xS ∗ (∃ d, owns (c : Thread nD τ) arg8 fullShare d) ∗ owns (c : Thread nD τ) arg9 fullShare xW) -∗ K ⟨⟩))
      ⊢ wp frame (wpE (defs₀ (F := F)) Variants.none c none) Set.univ (cc0_iq2_matmul i arg1 harg1 arg2 harg2 arg3 harg3 arg4 harg4 arg5 harg5 arg6 harg6 arg7 harg7 arg8 harg8 arg9 harg9) K := by
    simp only [cc0_iq2_matmul_eq_skeleton]; unfold cc0_iq2_matmul_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hs0, HS0⟩, ⟨%fs1, %hs1, HS1⟩, ⟨%ds2, %fs2, -, HS2⟩, ⟨%fs3, %hs3, HS3⟩, Hk⟩
    obtain rfl := harg1.eq_unread hf0; obtain rfl := harg2.eq_unread hf1; obtain rfl := harg3.eq_unread hf2; obtain rfl := harg4.eq_unread hf3
    obtain rfl := harg6.eq_unread hs0; obtain rfl := harg7.eq_unread hs1; obtain rfl := harg9.eq_unread hs3
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; swap; · iexact H4
      ipureintro
      rw [View.readAt_full, View.readAt_full, hs1, hs3]; exact View.read_writes_full _ _ _ _ _
    isplitl [HS0]
    · iexists _; isplitr; · ipureintro; exact hs0
      iexact HS0
    isplitl [HS1]
    · iexists _; isplitr; · ipureintro; exact hs1
      iexact HS1
    isplitl [HS2]
    · iexists _, _; isplitr; swap; · iexact HS2
      ipureintro; rfl
    iexists _; isplitr; · ipureintro; exact hs3
    iexact HS3

end Cert.Proof.KernelIdeal

end
-- ==== Proof.Bits.lean ====
/-
  Hand-written, untrusted. The kernel's word arithmetic read as numbers: bytes, nibbles and fields of a word as quotients and
  remainders of its value, and the two tables' entries as sums of eight nibbles.
-/
module

public import proofs.«01_k».proof.Proof.KIRun
public import Idealize.ShloMosaic.Lib.Pointwise
public import Idealize.ShloMosaic.Lib.ValueIdx
public import Idealize.ShloMosaic.Lib.WordSum
public import Idealize.ShloMosaic.PureOps.Ideal.Laws

@[expose] public section

noncomputable section

namespace Cert.Proof.KernelIdeal

open Idealize.ShloMosaic Idealize.SL.Sem Cert.KernelIdeal
open Cert.KernelIdeal.Gen Idealize.ShloMosaic.TcCoe

theorem shr_nat (u : ArithUnit) (x c : BitVec 32) (k : ℕ) (hk : k < 32) (hc : c.toNat = k) :
    (IntOp.shrui u x c).toNat = x.toNat / 2 ^ k := by
  unfold IntOp.shrui
  rw [if_pos (by omega), BitVec.ushiftRight_eq', BitVec.toNat_ushiftRight, Nat.shiftRight_eq_div_pow, hc]

theorem shl_nat (u : ArithUnit) (x c : BitVec 32) (k : ℕ) (hk : k < 32) (hc : c.toNat = k) :
    (IntOp.shli u x c).toNat = x.toNat * 2 ^ k % 2 ^ 32 := by
  unfold IntOp.shli
  rw [if_pos (by omega), BitVec.shiftLeft_eq', BitVec.toNat_shiftLeft, Nat.shiftLeft_eq, hc]

theorem and_nat (x y : BitVec 32) : (IntOp.andi x y).toNat = x.toNat &&& y.toNat := BitVec.toNat_and ..

theorem sx_mod : ∀ b : BitVec 8, (b.signExtend 32).toNat % 128 = b.toNat % 128 := by decide +kernel

theorem sx_small : ∀ b : BitVec 8, b.toNat < 2 → (b.signExtend 32).toNat = b.toNat := by decide +kernel

theorem byteS_nat (v : BitVec 32) (l : ℕ) : (byteS v l).toNat = v.toNat / 2 ^ (8 * l) % 2 ^ 8 := by
  unfold byteS
  rw [BitVec.extractLsb'_toNat, Nat.shiftRight_eq_div_pow]

/-- The low seven bits of byte `l`. -/
theorem low_nat (wa : BitVec 32) (l : ℕ) (hl : l < 4) :
    ((byteS (IntOp.andi wa 2139062143#32) l).signExtend 32).toNat % 128 = wa.toNat / 2 ^ (8 * l) % 128 := by
  rw [sx_mod, byteS_nat, and_nat, Nat.and_div_two_pow, Nat.and_mod_two_pow]
  have hm : (2139062143#32).toNat / 2 ^ (8 * l) % 2 ^ 8 = 2 ^ 7 - 1 := by interval_cases l <;> decide
  rw [hm, Nat.and_two_pow_sub_one_eq_mod]
  omega

/-- The high bit of byte `l`. -/
theorem half_nat (wa : BitVec 32) (l : ℕ) (hl : l < 4) :
    ((byteS (IntOp.andi (IntOp.shrui .vector wa 7#32) 16843009#32) l).signExtend 32).toNat = wa.toNat / 2 ^ (8 * l) / 128 % 2 := by
  have hb : (byteS (IntOp.andi (IntOp.shrui .vector wa 7#32) 16843009#32) l).toNat = wa.toNat / 2 ^ (8 * l) / 128 % 2 := by
    rw [byteS_nat, and_nat, shr_nat _ _ _ 7 (by decide) (by decide), Nat.and_div_two_pow, Nat.and_mod_two_pow]
    have hm : (16843009#32).toNat / 2 ^ (8 * l) % 2 ^ 8 = 2 ^ 1 - 1 := by interval_cases l <;> decide
    rw [hm, Nat.and_two_pow_sub_one_eq_mod, Nat.div_div_eq_div_mul, Nat.mul_comm, ← Nat.div_div_eq_div_mul]
    generalize wa.toNat / 2 ^ (8 * l) = y
    omega
  rw [sx_small _ (by rw [hb]; omega), hb]

/-- Nibble `j` of a word read as a signed number. -/
def nibI (n : ℕ) : ℤ := if n < 8 then n else n - 16

theorem nib_toInt (x : BitVec 32) (j : ℕ) (hj : j < 8) :
    (IntOp.shrsi .vector (IntOp.shli .vector x (IntOp.subi 28#32 (IntOp.muli 4#32 (BitVec.ofNat 32 j)))) 28#32).toInt
      = nibI (x.toNat / 16 ^ j % 16) := by
  have hc : (IntOp.subi 28#32 (IntOp.muli 4#32 (BitVec.ofNat 32 j))).toNat = 28 - 4 * j := by interval_cases j <;> decide
  have hs := shl_nat .vector x _ (28 - 4 * j) (by omega) hc
  have hx := x.isLt
  generalize IntOp.shli .vector x (IntOp.subi 28#32 (IntOp.muli 4#32 (BitVec.ofNat 32 j))) = y at hs
  unfold IntOp.shrsi nibI
  rw [if_pos (by decide), BitVec.sshiftRight_eq', BitVec.toInt_sshiftRight, Int.shiftRight_eq_div_pow, BitVec.toInt_eq_toNat_cond]
  have h28 : (28#32).toNat = 28 := by decide
  rw [h28]
  interval_cases j <;> norm_num at hs ⊢ <;> split <;> split <;> omega

/-- The nibble of a magnitude word that the high index bit picks. -/
theorem mag_nat (T : BitVec 32) (hb : BitVec 32) (b j : ℕ) (hj : j < 8) (hB : hb.toNat = b) (h2 : b < 2) :
    (IntOp.andi (IntOp.shrui .vector T hb) 1431655765#32).toNat / 16 ^ j % 16 = (T.toNat / 16 ^ j % 16 / 2 ^ b) &&& 5 := by
  have e16 : (16 : ℕ) ^ j = 2 ^ (4 * j) := by rw [pow_mul]; norm_num
  rw [and_nat, shr_nat _ _ _ b (by omega) hB, e16, Nat.and_div_two_pow, show (16 : ℕ) = 2 ^ 4 from rfl, Nat.and_mod_two_pow]
  have hm : (1431655765#32).toNat / 2 ^ (4 * j) % 2 ^ 4 = 5 := by interval_cases j <;> decide
  rw [hm, Nat.div_div_eq_div_mul, Nat.mul_comm, ← Nat.div_div_eq_div_mul]
  generalize T.toNat / 2 ^ (4 * j) = y
  have key : ∀ u : Fin 32, ∀ c : Fin 2, (u.val / 2 ^ c.val % 2 ^ 4 &&& 5) = (u.val % 2 ^ 4 / 2 ^ c.val) &&& 5 := by decide +kernel
  have := key ⟨y % 32, by omega⟩ ⟨b, h2⟩
  have e1 : y / 2 ^ b % 2 ^ 4 = y % 32 / 2 ^ b % 2 ^ 4 := by interval_cases b <;> omega
  have e2 : y % 2 ^ 4 = y % 32 % 2 ^ 4 := by omega
  rw [e1, e2]
  exact this

/-- Eight nibbles summed at their places: the word's nibbles are them. -/
theorem nibbles (n : Fin 8 → ℕ) (hn : ∀ j, n j < 16) (j : Fin 8) : (∑ i : Fin 8, n i * 16 ^ i.val) / 16 ^ j.val % 16 = n j := by
  have h0 := hn 0; have h1 := hn 1; have h2 := hn 2; have h3 := hn 3; have h4 := hn 4; have h5 := hn 5; have h6 := hn 6; have h7 := hn 7
  rw [Fin.sum_univ_eight]
  fin_cases j <;> simp <;> omega

/-- The word of eight nibbles that the tables' row sum builds. -/
theorem rowSum_nat (u : IVec S8x128 32) (n : Fin 128 → Fin 8 → ℕ) (hn : ∀ c j, n c j < 16)
    (hu : ∀ c j, (u (ix2 j c)).toNat = n c j * 16 ^ j.val) (c : Fin 128) (j : Fin 8) :
    (multiReductionI .add [0] S128 u 0#32 reduces_S8x128_S128 rfl (ix1 c)).toNat / 16 ^ j.val % 16 = n c j := by
  have hsum : ∑ i ∈ Finset.univ.filter (fun i => (reduces_S8x128_S128).drop i = ix1 c), (u i).toNat = ∑ i : Fin 8, n c i * 16 ^ i.val := by
    rw [Shape.Reduces.sum_fiber_r2_a0 reduces_S8x128_S128 (ix1 c) (fun i => (u i).toNat)]
    exact Finset.sum_congr rfl fun i _ => hu c i
  have hlt : ∑ i : Fin 8, n c i * 16 ^ i.val < 2 ^ 32 := by
    have h0 := hn c 0; have h1 := hn c 1; have h2 := hn c 2; have h3 := hn c 3; have h4 := hn c 4; have h5 := hn c 5
    have h6 := hn c 6; have h7 := hn c 7
    rw [Fin.sum_univ_eight]; simp; omega
  rw [WordSum.toNat_multiReductionI_add u reduces_S8x128_S128 rfl (ix1 c) (by rw [hsum]; exact hlt), hsum]
  exact nibbles (n c) (hn c) j

theorem spread_apply (v : IVec S128 32) (r : Fin 8) (c : Fin 128) :
    shapeCast S1x8x128 (broadcastTo S8x128 (shapeCast S1x128 (shapeCast S1x128 v shapeCasts_S128_S1x128) shapeCasts_S1x128_S1x128)
      broadcasts_S1x128_S8x128) shapeCasts_S8x128_S1x8x128 (ix3 (0 : Fin 1) r c) = v (ix1 c) := by
  simp only [pointwise]
  rfl

end Cert.Proof.KernelIdeal

end
-- ==== Proof.Tables.lean ====
/-
  Hand-written, untrusted. The kernel's two tables: nibble `j` of entry `c` is a magnitude code of the grid's rows `c` and
  `c + 128`, or plus or minus one by bit `j` of the sign code `c` with its parity.
-/
module

public import proofs.«01_k».proof.Proof.Bits

@[expose] public section

noncomputable section

namespace Cert.Proof.KernelIdeal

open Idealize.ShloMosaic Idealize.SL.Sem Cert.KernelIdeal
open Cert.KernelIdeal.Gen Idealize.ShloMosaic.TcCoe

/-- Two grid values as one nibble: bits 0 and 1 say which is 25, bits 2 and 3 which is 43. -/
def nibW (lo hi : BitVec 8) : BitVec 32 :=
  IntOp.ori (IntOp.ori (IntOp.ori
    (Scalar.select (IntOp.cmpi CmpIPredicate.eq (lo.setWidth 32) 25#32) 1#32 0#32)
    (Scalar.select (IntOp.cmpi CmpIPredicate.eq (hi.setWidth 32) 25#32) 2#32 0#32))
    (Scalar.select (IntOp.cmpi CmpIPredicate.eq (lo.setWidth 32) 43#32) 4#32 0#32))
    (Scalar.select (IntOp.cmpi CmpIPredicate.eq (hi.setWidth 32) 43#32) 8#32 0#32)

theorem nibW_lt (lo hi : BitVec 8) : (nibW lo hi).toNat < 16 := by
  have h : ∀ a b c d : BitVec 1, (IntOp.ori (IntOp.ori (IntOp.ori (Scalar.select a 1#32 0#32) (Scalar.select b 2#32 0#32))
    (Scalar.select c 4#32 0#32)) (Scalar.select d 8#32 0#32)).toNat < 16 := by decide +kernel
  exact h _ _ _ _

/-- Bit `j` of the sign code `c` with its parity. -/
def negW (c : BitVec 32) (j : BitVec 32) : BitVec 32 :=
  IntOp.andi (IntOp.shrui .vector (IntOp.ori c (IntOp.shli .vector (IntOp.andi (IntOp.ctpop c) 1#32) 7#32)) j) 1#32

/-- A sign as a nibble: 1, or 15, which is minus one. -/
def sgW (c : BitVec 32) (j : BitVec 32) : BitVec 32 := IntOp.addi 1#32 (IntOp.muli 14#32 (negW c j))

theorem and_one (x : BitVec 32) : IntOp.andi x 1#32 = 0#32 ∨ IntOp.andi x 1#32 = 1#32 := by
  have : (IntOp.andi x 1#32).toNat < 2 := by
    rw [and_nat]; exact lt_of_le_of_lt Nat.and_le_right (by decide)
  rcases (by omega : (IntOp.andi x 1#32).toNat = 0 ∨ (IntOp.andi x 1#32).toNat = 1) with h | h
  · exact Or.inl (BitVec.eq_of_toNat_eq h)
  · exact Or.inr (BitVec.eq_of_toNat_eq h)

theorem sgW_lt (c j : BitVec 32) : (sgW c j).toNat < 16 := by
  unfold sgW negW
  rcases and_one (IntOp.shrui .vector (IntOp.ori c (IntOp.shli .vector (IntOp.andi (IntOp.ctpop c) 1#32) 7#32)) j) with h | h <;>
  · rw [h]; decide

theorem shift4 (x : BitVec 32) (hx : x.toNat < 16) (j : Fin 8) :
    (IntOp.shli .vector x (IntOp.muli 4#32 (BitVec.ofNat 32 j.val))).toNat = x.toNat * 16 ^ j.val := by
  have hc : (IntOp.muli 4#32 (BitVec.ofNat 32 j.val)).toNat = 4 * j.val := by fin_cases j <;> decide
  rw [shl_nat _ _ _ (4 * j.val) (by omega) hc]
  fin_cases j <;> simp <;> omega

theorem mag_entry (gT : IVec S8x256 8) (r : Fin 8) (c : Fin 128) (j : Fin 8) :
    (plane (TAB (F := Ideal) gT) 0 (ix2 r c)).toNat / 16 ^ j.val % 16
      = (nibW (gT (ix2 j ⟨c.val, by omega⟩)) (gT (ix2 j ⟨c.val + 128, by omega⟩))).toNat := by
  have e : plane (TAB (F := Ideal) gT) 0 (ix2 r c) = k0_pay65 (F := Ideal) gT (ix3 (0 : Fin 1) r c) := rfl
  rw [e]
  unfold k0_pay65
  rw [spread_apply]
  refine rowSum_nat _ (fun c j => (nibW (gT (ix2 j ⟨c.val, by omega⟩)) (gT (ix2 j ⟨c.val + 128, by omega⟩))).toNat)
    (fun c j => nibW_lt _ _) (fun c j => ?_) c j
  rw [← shift4 _ (nibW_lt _ _)]
  have hi : iota .tc S8x128 32 [0] iota_S8x128_d0_w32 (ix2 j c) = BitVec.ofNat 32 j.val := iota_single_apply _ _ _ _ _ _
  have hlo : extractStridedSlice S8x128 ![0, 0] (extui 32 (shapeCast S8x256 gT shapeCasts_S8x256_S8x256) natLt_8_32) slices_S8x256_o0_0_S8x128 (ix2 j c)
      = (gT (ix2 j ⟨c.val, by omega⟩)).setWidth 32 := by
    rw [shapeCast_id, Idealize.ShloMosaic.extractStridedSlice_apply _ _ _ _ (ix2 j ⟨c.val, by omega⟩)
      (fun a => by match a with | ⟨0, _⟩ => exact (Nat.zero_add _).symm | ⟨1, _⟩ => exact (Nat.zero_add _).symm)]
    rfl
  have hhi : extractStridedSlice S8x128 ![0, 128] (extui 32 (shapeCast S8x256 gT shapeCasts_S8x256_S8x256) natLt_8_32) slices_S8x256_o0_128_S8x128 (ix2 j c)
      = (gT (ix2 j ⟨c.val + 128, by omega⟩)).setWidth 32 := by
    rw [shapeCast_id, Idealize.ShloMosaic.extractStridedSlice_apply _ _ _ _ (ix2 j ⟨c.val + 128, by omega⟩)
      (fun a => by match a with | ⟨0, _⟩ => exact (Nat.zero_add _).symm | ⟨1, _⟩ => exact Nat.add_comm _ _)]
    rfl
  simp only [shli, ori, muli, select, cmpi, broadcast, hi, hlo, hhi]
  rfl

theorem sgn_entry (gT : IVec S8x256 8) (r : Fin 8) (c : Fin 128) (j : Fin 8) :
    (plane (TAB (F := Ideal) gT) 1 (ix2 r c)).toNat / 16 ^ j.val % 16 = (sgW (BitVec.ofNat 32 c.val) (BitVec.ofNat 32 j.val)).toNat := by
  have e : plane (TAB (F := Ideal) gT) 1 (ix2 r c)
      = k0_pay66 (iota .tc S8x128 32 [0] iota_S8x128_d0_w32) (iota .tc S8x128 32 [1] iota_S8x128_d1_w32) (ix3 (0 : Fin 1) r c) := rfl
  rw [e]
  unfold k0_pay66
  rw [spread_apply]
  refine rowSum_nat _ (fun c j => (sgW (BitVec.ofNat 32 c.val) (BitVec.ofNat 32 j.val)).toNat) (fun c j => sgW_lt _ _) (fun c j => ?_) c j
  rw [← shift4 _ (sgW_lt _ _)]
  have hi : iota .tc S8x128 32 [0] iota_S8x128_d0_w32 (ix2 j c) = BitVec.ofNat 32 j.val := iota_single_apply _ _ _ _ _ _
  have hk : iota .tc S8x128 32 [1] iota_S8x128_d1_w32 (ix2 j c) = BitVec.ofNat 32 c.val := iota_single_apply _ _ _ _ _ _
  simp only [shli, ori, muli, addi, andi, shrui, ctpop, broadcast, hi, hk]
  rfl

/-- The magnitude code of a grid value. -/
def codeOf (v : BitVec 8) : ℕ := if v = 8#8 then 0 else if v = 25#8 then 1 else 4

theorem nibW_pick (lo hi : BitVec 8) (hlo : lo = 8#8 ∨ lo = 25#8 ∨ lo = 43#8) (hhi : hi = 8#8 ∨ hi = 25#8 ∨ hi = 43#8) :
    ((nibW lo hi).toNat &&& 5) = codeOf lo ∧ ((nibW lo hi).toNat / 2 &&& 5) = codeOf hi := by
  rcases hlo with rfl | rfl | rfl <;> rcases hhi with rfl | rfl | rfl <;> decide +kernel

/-- The complement of a seven-bit code has the opposite signs. -/
theorem neg_flip : ∀ (c : Fin 128) (j : Fin 8), negW (BitVec.ofNat 32 (127 - c.val)) (BitVec.ofNat 32 j.val)
    = IntOp.subi 1#32 (negW (BitVec.ofNat 32 c.val) (BitVec.ofNat 32 j.val)) := by decide +kernel

end Cert.Proof.KernelIdeal

end
-- ==== Proof.Codes.lean ====
/-
  Hand-written, untrusted. The kernel's sign codes as numbers: byte `l` of the spread word is the seven-bit field `l` of the packed
  word, complemented when the scale is negative.
-/
module

public import proofs.«01_k».proof.Proof.Bits

@[expose] public section

noncomputable section

namespace Cert.Proof.KernelIdeal

open Idealize.ShloMosaic Idealize.SL.Sem Cert.KernelIdeal
open Cert.KernelIdeal.Gen Idealize.ShloMosaic.TcCoe

/-- A bitwise and, split at bit `k`. -/
theorem and_split (x m k : ℕ) : x &&& m = (x % 2 ^ k &&& m % 2 ^ k) + 2 ^ k * (x / 2 ^ k &&& m / 2 ^ k) := by
  rw [← Nat.and_mod_two_pow, ← Nat.and_div_two_pow]
  exact (Nat.mod_add_div _ _).symm

theorem and_full (x k : ℕ) (m : ℕ) (hm : m = 2 ^ k - 1) : x &&& m = x % 2 ^ k := by rw [hm, Nat.and_two_pow_sub_one_eq_mod]

theorem and_low (w : ℕ) : w &&& 16383 = w % 16384 := and_full w 14 _ rfl

theorem and_high (w : ℕ) : w &&& 268419072 = 16384 * (w / 16384 % 16384) := by
  rw [and_split w _ 14, show 268419072 % 2 ^ 14 = 0 from rfl, Nat.and_zero, show 268419072 / 2 ^ 14 = 2 ^ 14 - 1 from rfl,
    Nat.and_two_pow_sub_one_eq_mod]
  norm_num

theorem and_mid (y : ℕ) (hy : y < 2 ^ 30) :
    y &&& 1065369472 = 128 * (y / 128 % 128) + 8388608 * (y / 8388608 % 128) := by
  rw [and_split y _ 7, show 1065369472 % 2 ^ 7 = 0 from rfl, Nat.and_zero, show 1065369472 / 2 ^ 7 = 8323199 from rfl,
    and_split _ 8323199 7, show 8323199 % 2 ^ 7 = 2 ^ 7 - 1 from rfl, Nat.and_two_pow_sub_one_eq_mod,
    show 8323199 / 2 ^ 7 = 65024 from rfl, and_split _ 65024 9, show 65024 % 2 ^ 9 = 0 from rfl, Nat.and_zero,
    show 65024 / 2 ^ 9 = 2 ^ 7 - 1 from rfl, Nat.and_two_pow_sub_one_eq_mod]
  norm_num
  omega

/-- The seven-bit fields spread to bytes. -/
theorem spread_nat (wb : BitVec 32) (l : ℕ) (hl : l < 4) :
    (IntOp.addi (IntOp.ori (IntOp.andi wb 16383#32) (IntOp.shli .vector (IntOp.andi wb 268419072#32) 2#32))
      (IntOp.andi (IntOp.ori (IntOp.andi wb 16383#32) (IntOp.shli .vector (IntOp.andi wb 268419072#32) 2#32)) 1065369472#32)).toNat
        / 2 ^ (8 * l) % 128 = wb.toNat / 2 ^ (7 * l) % 128 := by
  have hy : (IntOp.ori (IntOp.andi wb 16383#32) (IntOp.shli .vector (IntOp.andi wb 268419072#32) 2#32)).toNat
      = wb.toNat % 16384 + 65536 * (wb.toNat / 16384 % 16384) := by
    show (IntOp.andi wb 16383#32 ||| IntOp.shli .vector (IntOp.andi wb 268419072#32) 2#32).toNat = _
    rw [BitVec.toNat_or, shl_nat _ _ _ 2 (by decide) (by decide), and_nat, and_nat, show (16383#32).toNat = 16383 from rfl,
      show (268419072#32).toNat = 268419072 from rfl, and_low, and_high]
    have e : 16384 * (wb.toNat / 16384 % 16384) * 2 ^ 2 % 2 ^ 32 = 2 ^ 16 * (wb.toNat / 16384 % 16384) := by omega
    rw [e, Nat.or_comm, ← Nat.two_pow_add_eq_or_of_lt (by omega)]
    omega
  generalize IntOp.ori (IntOp.andi wb 16383#32) (IntOp.shli .vector (IntOp.andi wb 268419072#32) 2#32) = y at hy
  have hw := wb.isLt
  have ha : (IntOp.andi y 1065369472#32).toNat = 128 * (y.toNat / 128 % 128) + 8388608 * (y.toNat / 8388608 % 128) := by
    rw [and_nat]; exact and_mid _ (by omega)
  have hs : (IntOp.addi y (IntOp.andi y 1065369472#32)).toNat
      = y.toNat + (128 * (y.toNat / 128 % 128) + 8388608 * (y.toNat / 8388608 % 128)) := by
    show (y + IntOp.andi y 1065369472#32).toNat = _
    rw [BitVec.toNat_add, ha]
    omega
  obtain ⟨c0, hc0⟩ : ∃ c, c = wb.toNat % 128 := ⟨_, rfl⟩
  obtain ⟨c1, hc1⟩ : ∃ c, c = wb.toNat / 128 % 128 := ⟨_, rfl⟩
  obtain ⟨c2, hc2⟩ : ∃ c, c = wb.toNat / 16384 % 128 := ⟨_, rfl⟩
  obtain ⟨c3, hc3⟩ : ∃ c, c = wb.toNat / 2097152 % 128 := ⟨_, rfl⟩
  have e1 : wb.toNat % 16384 = c0 + 128 * c1 := by omega
  have e0 : wb.toNat / 2097152 = wb.toNat / 16384 / 128 := by rw [Nat.div_div_eq_div_mul]
  have e2 : wb.toNat / 16384 % 16384 = c2 + 128 * c3 := by omega
  rw [e1, e2] at hy
  have b0 : c0 < 128 := by omega
  have b1 : c1 < 128 := by omega
  have b2 : c2 < 128 := by omega
  have b3 : c3 < 128 := by omega
  have e3 : y.toNat / 128 % 128 = c1 := by clear hc0 hc1 hc2 hc3 e1 e2 hs ha; omega
  have e4 : y.toNat / 8388608 % 128 = c3 := by clear hc0 hc1 hc2 hc3 e1 e2 hs ha e3; omega
  have e5 : (IntOp.addi y (IntOp.andi y 1065369472#32)).toNat = c0 + 256 * c1 + 65536 * c2 + 16777216 * c3 := by
    rw [hs, e3, e4, hy]; ring
  rw [e5]
  have hcs : wb.toNat / 2 ^ (7 * l) % 128 = if l = 0 then c0 else if l = 1 then c1 else if l = 2 then c2 else c3 := by
    clear hy hs ha e1 e2 e3 e4 e5
    interval_cases l <;> norm_num [hc0, hc1, hc2, hc3]
  rw [hcs]
  clear hcs hc0 hc1 hc2 hc3 e1 e2 e3 e4 e5 hy hs ha
  interval_cases l <;> norm_num <;> omega

theorem flipS_eq (h : BitVec 16) : flipS (F := Ideal) h = if 32768 ≤ h.toNat then 2139062143#32 else 0#32 := by
  show Scalar.select (IntOp.cmpi CmpIPredicate.slt (h.signExtend 32) 0#32) 2139062143#32 0#32 = _
  have hs : (h.signExtend 32).toInt = h.toInt := BitVec.toInt_signExtend_of_le (by decide)
  have hc : IntOp.cmpi CmpIPredicate.slt (h.signExtend 32) 0#32 = BitVec.ofBool (decide (h.toInt < 0)) := by
    show BitVec.ofBool ((h.signExtend 32).slt 0#32) = _
    rw [BitVec.slt, hs]; rfl
  have hi : h.toInt < 0 ↔ 32768 ≤ h.toNat := by
    rw [BitVec.toInt_eq_toNat_cond]; have := h.isLt; split <;> omega
  rw [hc]
  by_cases hn : 32768 ≤ h.toNat
  · rw [if_pos hn, decide_eq_true (hi.2 hn)]; rfl
  · rw [if_neg hn, decide_eq_false (fun e => hn (hi.1 e))]; rfl

theorem xor_low : ∀ c : Fin 128, c.val ^^^ 127 = 127 - c.val := by decide +kernel

theorem code_nat (h : BitVec 16) (wb : BitVec 32) (l : ℕ) (hl : l < 4) :
    ((byteS (codeS (F := Ideal) h wb) l).signExtend 32).toNat % 128
      = if 32768 ≤ h.toNat then 127 - wb.toNat / 2 ^ (7 * l) % 128 else wb.toNat / 2 ^ (7 * l) % 128 := by
  have hsp := spread_nat wb l hl
  rw [sx_mod, byteS_nat]
  unfold codeS
  dsimp only
  rw [flipS_eq]
  generalize IntOp.addi (IntOp.ori (IntOp.andi wb 16383#32) (IntOp.shli .vector (IntOp.andi wb 268419072#32) 2#32))
      (IntOp.andi (IntOp.ori (IntOp.andi wb 16383#32) (IntOp.shli .vector (IntOp.andi wb 268419072#32) 2#32)) 1065369472#32) = y at hsp ⊢
  have hx : ∀ f : BitVec 32, (IntOp.xori y f).toNat / 2 ^ (8 * l) % 2 ^ 8 % 128
      = (y.toNat / 2 ^ (8 * l) % 128) ^^^ (f.toNat / 2 ^ (8 * l) % 128) := by
    intro f
    have e : ∀ z : ℕ, z % 2 ^ 8 % 128 = z % 2 ^ 7 := by intro z; omega
    rw [e]
    show (y ^^^ f).toNat / 2 ^ (8 * l) % 2 ^ 7 = _
    rw [BitVec.toNat_xor, Nat.xor_div_two_pow, Nat.xor_mod_two_pow]
  rw [hx, hsp]
  by_cases hn : 32768 ≤ h.toNat
  · rw [if_pos hn, if_pos hn]
    have hm : (2139062143#32).toNat / 2 ^ (8 * l) % 128 = 127 := by interval_cases l <;> decide
    rw [hm]
    exact xor_low ⟨wb.toNat / 2 ^ (7 * l) % 128, Nat.mod_lt _ (by decide)⟩
  · rw [if_neg hn, if_neg hn]
    have hm : (0#32).toNat / 2 ^ (8 * l) % 128 = 0 := by simp
    rw [hm, Nat.xor_zero]

end Cert.Proof.KernelIdeal

end
-- ==== Proof.Scales.lean ====
/-
  Hand-written, untrusted. A finite f16 as a sign and an absolute value, and the kernel's decoding of the absolute value.
-/
module

public import proofs.«01_k».proof.Proof.Bits

@[expose] public section

noncomputable section

namespace Cert.Proof.KernelIdeal

open Idealize.ShloMosaic Idealize.SL.Sem Cert.KernelIdeal
open Cert.KernelIdeal.Gen Idealize.ShloMosaic.TcCoe

/-- The absolute value that the low fifteen bits `m` of an f16 name. -/
def absR (m : ℕ) : ℝ :=
  if m / 1024 = 0 then (m % 1024 : ℕ) * (2 : ℝ) ^ (-24 : ℤ) else (1024 + m % 1024 : ℕ) * (2 : ℝ) ^ ((m / 1024 : ℕ) - 25 : ℤ)

theorem absR_nonneg (m : ℕ) : 0 ≤ absR m := by unfold absR; split <;> positivity

theorem bit_eq {w : ℕ} (b : BitVec w) (k : ℕ) : (b.extractLsb' k 1 == 1#1) = decide (b.toNat / 2 ^ k % 2 = 1) := by
  have h := BitVec.extractLsb'_toNat k 1 b
  rw [Nat.shiftRight_eq_div_pow] at h
  rw [Bool.eq_iff_iff, beq_iff_eq, decide_eq_true_iff]
  constructor
  · intro e; rw [e] at h; simpa using h.symm
  · intro e; exact BitVec.eq_of_toNat_eq (by rw [h]; simpa using e)

theorem f16_value (h : BitVec 16) (hf : h.toNat / 1024 % 32 < 31) :
    Ideal.ofBits .f16 h = ((if 32768 ≤ h.toNat then -absR (h.toNat % 32768) else absR (h.toNat % 32768) : ℝ) : EReal) := by
  have hl := h.isLt
  have hs : decide (h.toNat / 2 ^ (5 + 10) % 2 = 1) = decide (32768 ≤ h.toNat) := decide_eq_decide.2 (by omega)
  have h1 : (h.extractLsb' 10 5).toNat = h.toNat % 32768 / 1024 := by
    rw [BitVec.extractLsb'_toNat, Nat.shiftRight_eq_div_pow]; omega
  have h2 : (h.extractLsb' 0 10).toNat = h.toNat % 32768 % 1024 := by
    rw [BitVec.extractLsb'_toNat, Nat.shiftRight_eq_div_pow]; omega
  show Ideal.ieee 5 10 h = _
  unfold Ideal.ieee absR
  rw [bit_eq, hs, h1, h2]
  dsimp only
  rw [if_neg (by omega)]
  by_cases hn : 32768 ≤ h.toNat <;> by_cases hz : h.toNat % 32768 / 1024 = 0
  · simp only [hn, hz, decide_true, if_true]; norm_num
  · simp only [hn, hz, decide_true, if_true, if_false]; push_cast; congr 2 <;> norm_num; ring_nf
  · simp only [hn, hz, decide_false, if_true, if_false]; norm_num
  · simp only [hn, hz, decide_false, if_false]; push_cast; congr 2 <;> norm_num; ring_nf

theorem f32_value (b : BitVec 32) (h31 : b.toNat < 2 ^ 31) (h0 : b.toNat / 2 ^ 23 ≠ 0) (h1 : b.toNat / 2 ^ 23 < 255) :
    Ideal.ofBits .f32 b = (((2 ^ 23 + b.toNat % 2 ^ 23 : ℕ) * (2 : ℝ) ^ ((b.toNat / 2 ^ 23 : ℕ) - 150 : ℤ) : ℝ) : EReal) := by
  have hs : decide (b.toNat / 2 ^ (8 + 23) % 2 = 1) = false := decide_eq_false (by omega)
  have e1 : (b.extractLsb' 23 8).toNat = b.toNat / 2 ^ 23 := by
    rw [BitVec.extractLsb'_toNat, Nat.shiftRight_eq_div_pow]; omega
  have e2 : (b.extractLsb' 0 23).toNat = b.toNat % 2 ^ 23 := by
    rw [BitVec.extractLsb'_toNat, Nat.shiftRight_eq_div_pow]; omega
  show Ideal.ieee 8 23 b = _
  unfold Ideal.ieee
  rw [bit_eq, hs, e1, e2]
  dsimp only
  rw [if_neg (by omega), if_neg h0]
  simp only [Bool.false_eq_true, if_false, one_mul]
  congr 3
  norm_num; ring_nf

theorem low15 (h : BitVec 16) : (IntOp.andi (h.signExtend 32) 32767#32).toNat = h.toNat % 32768 := by
  rw [and_nat, show (32767#32).toNat = 2 ^ 15 - 1 from rfl, Nat.and_two_pow_sub_one_eq_mod, BitVec.toNat_signExtend, BitVec.toNat_setWidth]
  have := h.isLt
  split <;> omega

theorem rescale (e r : ℕ) : ((2 ^ 23 + r * 8192 : ℕ) : ℝ) * (2 : ℝ) ^ ((e + 112 : ℕ) - 150 : ℤ) = ((1024 + r : ℕ) : ℝ) * (2 : ℝ) ^ ((e : ℕ) - 25 : ℤ) := by
  have h : ((e + 112 : ℕ) - 150 : ℤ) = ((e : ℕ) - 25 : ℤ) + (-13 : ℤ) := by push_cast; ring
  have h2 : (2 : ℝ) ^ (-13 : ℤ) = 1 / 8192 := by norm_num
  rw [h, zpow_add₀ (by norm_num), h2]
  push_cast
  ring

theorem absS_eq (h : BitVec 16) : absS (F := Ideal) h
    = Scalar.select (IntOp.cmpi CmpIPredicate.slt (IntOp.andi (h.signExtend 32) 32767#32) 1024#32)
      ((((IntOp.andi (h.signExtend 32) 32767#32).toInt : ℝ) : EReal) * Ideal.ofBits .f32 0x33800000#32)
      (Ideal.ofBits .f32 (IntOp.addi (IntOp.shli .vector (IntOp.andi (h.signExtend 32) 32767#32) 13#32) 939524096#32)) := rfl

theorem normal_value (v : BitVec 32) (h1 : 1024 ≤ v.toNat) (h2 : v.toNat < 31744) :
    Ideal.ofBits .f32 (IntOp.addi (IntOp.shli .vector v 13#32) 939524096#32) = ((absR v.toNat : ℝ) : EReal) := by
  have hv : (IntOp.addi (IntOp.shli .vector v 13#32) 939524096#32).toNat = v.toNat * 8192 + 939524096 := by
    unfold IntOp.addi
    rw [BitVec.toNat_add, shl_nat _ _ _ 13 (by decide) (by decide), BitVec.toNat_ofNat]
    omega
  generalize IntOp.addi (IntOp.shli .vector v 13#32) 939524096#32 = b at hv
  have e1 : b.toNat / 2 ^ 23 = v.toNat / 1024 + 112 := by rw [hv]; omega
  have e2 : b.toNat % 2 ^ 23 = v.toNat % 1024 * 8192 := by rw [hv]; omega
  rw [f32_value b (by omega) (by omega) (by omega), e1, e2, rescale, absR, if_neg (by omega)]

theorem small_const : Ideal.ofBits .f32 0x33800000#32 = (((2 : ℝ) ^ (-24 : ℤ) : ℝ) : EReal) := by
  simp [Ideal.ofBits, Ideal.ieee, -EReal.coe_mul]; norm_num

theorem absS_value (h : BitVec 16) (hf : h.toNat / 1024 % 32 < 31) : absS (F := Ideal) h = ((absR (h.toNat % 32768) : ℝ) : EReal) := by
  have hb := low15 h
  rw [absS_eq, small_const]
  generalize IntOp.andi (h.signExtend 32) 32767#32 = v at hb
  have hl := h.isLt
  have hi : v.toInt = (v.toNat : ℤ) := by rw [BitVec.toInt_eq_toNat_cond, if_pos (by omega)]
  have hc : IntOp.cmpi CmpIPredicate.slt v 1024#32 = BitVec.ofBool (decide (v.toNat < 1024)) := by
    unfold IntOp.cmpi
    congr 1
    show v.slt 1024#32 = _
    rw [BitVec.slt, hi, decide_eq_decide, show (1024#32).toInt = 1024 from by decide]
    omega
  rw [hc, hi, ← hb]
  by_cases hz : v.toNat < 1024
  · rw [decide_eq_true hz, absR, if_pos (by omega), Nat.mod_eq_of_lt hz, EReal.coe_mul, Int.cast_natCast]
    exact if_pos rfl
  · rw [decide_eq_false hz, normal_value v (by omega) (by omega)]
    exact if_neg (by decide)

/-- The exponent field of a finite f16. -/
theorem finite_nat (h : BitVec 16) (hf : IntOp.andi (h.signExtend 32) 31744#32 ≠ 31744#32) : h.toNat / 1024 % 32 < 31 := by
  by_contra hc
  apply hf
  apply BitVec.eq_of_toNat_eq
  have hl := h.isLt
  have hx : (h.signExtend 32).toNat / 2 ^ 10 % 2 ^ 5 = 31 := by
    rw [BitVec.toNat_signExtend, BitVec.toNat_setWidth]; split <;> omega
  rw [and_nat]
  show _ &&& 31744 = 31744
  have h1 := Nat.and_div_two_pow (a := (h.signExtend 32).toNat) (b := 31744) (n := 10)
  have h2 := Nat.and_mod_two_pow (a := (h.signExtend 32).toNat) (b := 31744) (n := 10)
  rw [show 31744 / 2 ^ 10 = 2 ^ 5 - 1 from rfl, Nat.and_two_pow_sub_one_eq_mod] at h1
  rw [show 31744 % 2 ^ 10 = 0 from rfl, Nat.and_zero] at h2
  omega

end Cert.Proof.KernelIdeal

end
-- ==== Proof.RefRun.lean ====
/-
  Hand-written, untrusted. The reference's run with its value: the result array as one term of the four arguments. The term is
  built from named whole-array pieces: the scale array, one field's weight array, one field's product.
-/
module

public import proofs.«01_k».proof.Defs
public import proofs.«01_k».proof.Proof.Gen.ReferenceIdeal.Frame
public import Idealize.ShloMosaic.Lib.Pipeline.Value
public import Idealize.ShloMosaic.Lib.Claim

@[expose] public section

noncomputable section

namespace Cert.Proof.ReferenceIdeal

open Idealize.ShloMosaic Idealize.SL.Sem Cert.ReferenceIdeal
open Cert.ReferenceIdeal.Gen Idealize.ShloMosaic.TcCoe

variable {F : FTy → Type} [FloatOps F]
variable (m : (ℓ : Loc nD τ sig) → Buf (Elt F) ℓ) (ρ : Dev nD → PrngReg)

/-- One 32-bit number at every entry of a words array. -/
abbrev allW (c : BitVec 32) : IVec S128x14336 32 := broadcastInDim S128x14336 ![] bcast_S_S128x14336 (constantI S_ 32 c)

/-- The row numbers 0 … 7 along the middle axis. -/
def jcol : IVec S1x8x1 32 := broadcastInDim S1x8x1 ![1] bcast_S8_S1x8x1_1 (iotaInDim S8 32 0)

/-- The sub-block scales: the super-block's scale times (one half plus the sub-block's four bits), times a quarter. -/
def dbA (v4 : IVec S128x14336 32) (v5 : FVec F S16x14336 .f32) : FVec F S128x14336 .f32 :=
  shapeCast S128x14336
    (mulf
      (mulf
        (broadcastInDim S16x8x14336 ![0, 1, 2] bcast_S16x1x14336_S16x8x14336_0_1_2
          (broadcastInDim S16x1x14336 ![0, 2] bcast_S16x14336_S16x1x14336_0_2 v5))
        (addf (broadcastInDim S16x8x14336 ![] bcast_S_S16x8x14336 (constant S_ FTy.f32 1056964608#32))
          (shapeCast S16x8x14336 (uitofp FTy.f32 (Host.shrui v4 (allW 28#32))) shapeCasts_S128x14336_S16x8x14336)))
      (broadcastInDim S16x8x14336 ![] bcast_S_S16x8x14336 (constant S_ FTy.f32 1048576000#32)))
    shapeCasts_S16x8x14336_S128x14336

/-- One field's grid rows: the byte of the index word that the shift `c8` brings down. -/
def idxA (c8 : BitVec 32) (v2 : IVec S128x14336 32) : IVec S128x1x14336 32 :=
  broadcastInDim S128x1x14336 ![0, 2] bcast_S128x14336_S128x1x14336_0_2 (andi (Host.shrui v2 (allW c8)) (allW 255#32))

/-- One field's grid values. -/
def gridA (c8 : BitVec 32) (v2 : IVec S128x14336 32) (v19 : IVec S1x8x1 32) (g : IVec S256x8 8) : IVec S128x8x14336 8 :=
  Host.gather gather_S256x8_S128x8x14336x2_S128x8x14336_n_01_n_n_01_3_11 g
    (concatenate S128x8x14336x2 3
      [⟨S128x8x14336x1, broadcastInDim S128x8x14336x1 ![0, 1, 2] bcast_S128x8x14336_S128x8x14336x1_0_1_2
          (broadcastInDim S128x8x14336 ![0, 1, 2] bcast_S128x1x14336_S128x8x14336_0_1_2
            (select
              (cmpi CmpIPredicate.slt (idxA c8 v2) (broadcastInDim S128x1x14336 ![] bcast_S_S128x1x14336 (constantI S_ 32 0#32)))
              (addi (idxA c8 v2) (broadcastInDim S128x1x14336 ![] bcast_S_S128x1x14336 (constantI S_ 32 256#32)))
              (idxA c8 v2)))⟩,
        ⟨S128x8x14336x1, broadcastInDim S128x8x14336x1 ![0, 1, 2] bcast_S128x8x14336_S128x8x14336x1_0_1_2
          (broadcastInDim S128x8x14336 ![0, 1, 2] bcast_S1x8x1_S128x8x14336_0_1_2
            (select
              (cmpi CmpIPredicate.slt v19 (broadcastInDim S1x8x1 ![] bcast_S_S1x8x1 (constantI S_ 32 0#32)))
              (addi v19 (broadcastInDim S1x8x1 ![] bcast_S_S1x8x1 (constantI S_ 32 8#32)))
              v19))⟩]
      concatenates_S128x8x14336x1_S128x8x14336x1_S128x8x14336x2_d3)

/-- One field's seven-bit sign code. -/
def codeA (c7 : BitVec 32) (v4 : IVec S128x14336 32) : IVec S128x14336 32 := andi (Host.shrui v4 (allW c7)) (allW 127#32)

/-- One field's signs: the code with its parity as the eighth bit, bit `j` for row `j`. -/
def negA (c7 : BitVec 32) (v4 : IVec S128x14336 32) (v21 : IVec S1x8x1 32) : IVec S128x8x14336 1 :=
  cmpi CmpIPredicate.eq
    (andi
      (Host.shrui
        (broadcastInDim S128x8x14336 ![0, 1, 2] bcast_S128x1x14336_S128x8x14336_0_1_2
          (broadcastInDim S128x1x14336 ![0, 2] bcast_S128x14336_S128x1x14336_0_2
            (ori (codeA c7 v4) (Host.shli (andi (ctpop (codeA c7 v4)) (allW 1#32)) (allW 7#32)))))
        (broadcastInDim S128x8x14336 ![0, 1, 2] bcast_S1x8x1_S128x8x14336_0_1_2 v21))
      (broadcastInDim S128x8x14336 ![] bcast_S_S128x8x14336 (constantI S_ 32 1#32)))
    (broadcastInDim S128x8x14336 ![] bcast_S_S128x8x14336 (constantI S_ 32 1#32))

/-- One field's magnitudes. -/
def magA (c8 : BitVec 32) (v2 : IVec S128x14336 32) (v17 : FVec F S128x14336 .f32) (v19 : IVec S1x8x1 32) (g : IVec S256x8 8) :
    FVec F S128x8x14336 .f32 :=
  mulf
    (broadcastInDim S128x8x14336 ![0, 1, 2] bcast_S128x1x14336_S128x8x14336_0_1_2
      (broadcastInDim S128x1x14336 ![0, 2] bcast_S128x14336_S128x1x14336_0_2 v17))
    (sitofp FTy.f32 (extui 32 (gridA c8 v2 v19 g) natLt_8_32))

/-- One field's weights. -/
def wA (c8 c7 : BitVec 32) (v2 v4 : IVec S128x14336 32) (v17 : FVec F S128x14336 .f32) (v19 v21 : IVec S1x8x1 32)
    (g : IVec S256x8 8) : FVec F S128x8x14336 .f32 :=
  select (negA c7 v4 v21) (Host.negf (magA c8 v2 v17 v19 g)) (magA c8 v2 v17 v19 g)

/-- One field's product: a four-index slice of the activations against the field's weights, summed over sub-block and row. -/
def yA (s : FVec F S1x256x128x1x8 .bf16) (w : FVec F S128x8x14336 .f32) : FVec F S1x256x14336 .f32 :=
  Host.dotGeneral dot_S1x256x128x8_S128x8x14336_S1x256x14336_32_10_01_2_n_n none
    (shapeCast S1x256x128x8 s shapeCasts_S1x256x128x1x8_S1x256x128x8) (truncf .bf16 w bitsLt_bf16_f32)

/-- The result from the activations and the four weight arrays. -/
def outA (v0 : FVec F S1x256x128x4x8 .bf16) (w0 w1 w2 w3 : FVec F S128x8x14336 .f32) : FVec F S256x14336 .bf16 :=
  shapeCast S256x14336
    (truncf .bf16
      (addf
        (addf
          (addf
            (yA (extractStridedSlice S1x256x128x1x8 ![0, 0, 0, 0, 0] v0 slices_S1x256x128x4x8_S1x256x128x1x8_0_0_0_0_0) w0)
            (yA (extractStridedSlice S1x256x128x1x8 ![0, 0, 0, 1, 0] v0 slices_S1x256x128x4x8_S1x256x128x1x8_0_0_0_1_0) w1))
          (yA (extractStridedSlice S1x256x128x1x8 ![0, 0, 0, 2, 0] v0 slices_S1x256x128x4x8_S1x256x128x1x8_0_0_0_2_0) w2))
        (yA (extractStridedSlice S1x256x128x1x8 ![0, 0, 0, 3, 0] v0 slices_S1x256x128x4x8_S1x256x128x1x8_0_0_0_3_0) w3))
      bitsLt_bf16_f32)
    shapeCasts_S1x256x14336_S256x14336

/-- The contents after the host lines `hostOps1`. -/
def T0 (W : Valuation τ sig (Elt F)) : Valuation τ sig (Elt F) := StableHlo.after hostOps1 W

/-- The contents after the host lines `hostOps1_1`. -/
def T1 (W : Valuation τ sig (Elt F)) : Valuation τ sig (Elt F) := StableHlo.after hostOps1_1 W

/-- The contents after the host lines `hostOps1_2`. -/
def T2 (W : Valuation τ sig (Elt F)) : Valuation τ sig (Elt F) := StableHlo.after hostOps1_2 W

/-- The contents after the host lines `hostOps1_3`. -/
def T3 (W : Valuation τ sig (Elt F)) : Valuation τ sig (Elt F) := StableHlo.after hostOps1_3 W

/-- The contents after the host lines `hostOps1_4`. -/
def T4 (W : Valuation τ sig (Elt F)) : Valuation τ sig (Elt F) := StableHlo.after hostOps1_4 W

/-- The contents after the host lines `hostOps1_5`. -/
def T5 (W : Valuation τ sig (Elt F)) : Valuation τ sig (Elt F) := StableHlo.after hostOps1_5 W

/-- The contents after the host lines `hostOps1_6`. -/
def T6 (W : Valuation τ sig (Elt F)) : Valuation τ sig (Elt F) := StableHlo.after hostOps1_6 W

/-- The contents after the host lines `hostOps1_7`. -/
def T7 (W : Valuation τ sig (Elt F)) : Valuation τ sig (Elt F) := StableHlo.after hostOps1_7 W

/-- The contents after the host lines `hostOps1_8`. -/
def T8 (W : Valuation τ sig (Elt F)) : Valuation τ sig (Elt F) := StableHlo.after hostOps1_8 W

theorem t0_neg (W : Valuation τ sig (Elt F)) : T0 W (Proc.devRef .tc main_v61) = negA 0#32 (W (Proc.devRef .tc main_v4)) jcol := by
  unfold T0
  after_results
  rfl

theorem t0_db (W : Valuation τ sig (Elt F)) : T0 W (Proc.devRef .tc main_v17) = (dbA (W (Proc.devRef .tc main_v4)) (W (Proc.devRef .tc main_v5))) := by
  unfold T0
  after_results
  rfl

theorem t0_j (W : Valuation τ sig (Elt F)) : T0 W (Proc.devRef .tc main_v19) = jcol := by
  unfold T0
  after_results
  rfl

theorem t0_jb (W : Valuation τ sig (Elt F)) : T0 W (Proc.devRef .tc main_v21) = jcol := by
  unfold T0
  after_results
  rfl

theorem t0_mag (W : Valuation τ sig (Elt F)) : T0 W (Proc.devRef .tc main_v66) = magA 0#32 (W (Proc.devRef .tc main_v2)) (dbA (W (Proc.devRef .tc main_v4)) (W (Proc.devRef .tc main_v5))) jcol (W (Proc.devRef .tc main_arg3)) := by
  unfold T0
  after_results
  rfl

theorem t0_nmag (W : Valuation τ sig (Elt F)) : T0 W (Proc.devRef .tc main_v67) = Host.negf (magA 0#32 (W (Proc.devRef .tc main_v2)) (dbA (W (Proc.devRef .tc main_v4)) (W (Proc.devRef .tc main_v5))) jcol (W (Proc.devRef .tc main_arg3))) := by
  unfold T0
  after_results
  rfl

theorem t1_w (W : Valuation τ sig (Elt F)) : T1 W (Proc.devRef .tc main_v68) = select (W (Proc.devRef .tc main_v61)) (W (Proc.devRef .tc main_v67)) (W (Proc.devRef .tc main_v66)) := by
  unfold T1
  after_results
  rfl

theorem t3_w (W : Valuation τ sig (Elt F)) : T3 W (Proc.devRef .tc main_v119) = select (W (Proc.devRef .tc main_v112)) (W (Proc.devRef .tc main_v118)) (W (Proc.devRef .tc main_v117)) := by
  unfold T3
  after_results
  rfl

theorem t5_w (W : Valuation τ sig (Elt F)) : T5 W (Proc.devRef .tc main_v171) = select (W (Proc.devRef .tc main_v164)) (W (Proc.devRef .tc main_v170)) (W (Proc.devRef .tc main_v169)) := by
  unfold T5
  after_results
  rfl

theorem t7_w (W : Valuation τ sig (Elt F)) : T7 W (Proc.devRef .tc main_v223) = select (W (Proc.devRef .tc main_v216)) (W (Proc.devRef .tc main_v222)) (W (Proc.devRef .tc main_v221)) := by
  unfold T7
  after_results
  rfl

theorem t2_neg (W : Valuation τ sig (Elt F)) : T2 W (Proc.devRef .tc main_v112) = negA 7#32 (W (Proc.devRef .tc main_v4)) (W (Proc.devRef .tc main_v21)) := by
  unfold T2
  after_results
  rfl

theorem t2_mag (W : Valuation τ sig (Elt F)) : T2 W (Proc.devRef .tc main_v117) = magA 8#32 (W (Proc.devRef .tc main_v2)) (W (Proc.devRef .tc main_v17)) (W (Proc.devRef .tc main_v19)) (W (Proc.devRef .tc main_arg3)) := by
  unfold T2
  after_results
  rfl

theorem t2_nmag (W : Valuation τ sig (Elt F)) : T2 W (Proc.devRef .tc main_v118) = Host.negf (magA 8#32 (W (Proc.devRef .tc main_v2)) (W (Proc.devRef .tc main_v17)) (W (Proc.devRef .tc main_v19)) (W (Proc.devRef .tc main_arg3))) := by
  unfold T2
  after_results
  rfl

theorem t2_acc (W : Valuation τ sig (Elt F)) : T2 W (Proc.devRef .tc main_v72) = yA (extractStridedSlice S1x256x128x1x8 ![0, 0, 0, 0, 0] (W (Proc.devRef .tc main_v0)) slices_S1x256x128x4x8_S1x256x128x1x8_0_0_0_0_0) (W (Proc.devRef .tc main_v68)) := by
  unfold T2
  after_results
  rfl

theorem t4_neg (W : Valuation τ sig (Elt F)) : T4 W (Proc.devRef .tc main_v164) = negA 14#32 (W (Proc.devRef .tc main_v4)) (W (Proc.devRef .tc main_v21)) := by
  unfold T4
  after_results
  rfl

theorem t4_mag (W : Valuation τ sig (Elt F)) : T4 W (Proc.devRef .tc main_v169) = magA 16#32 (W (Proc.devRef .tc main_v2)) (W (Proc.devRef .tc main_v17)) (W (Proc.devRef .tc main_v19)) (W (Proc.devRef .tc main_arg3)) := by
  unfold T4
  after_results
  rfl

theorem t4_nmag (W : Valuation τ sig (Elt F)) : T4 W (Proc.devRef .tc main_v170) = Host.negf (magA 16#32 (W (Proc.devRef .tc main_v2)) (W (Proc.devRef .tc main_v17)) (W (Proc.devRef .tc main_v19)) (W (Proc.devRef .tc main_arg3))) := by
  unfold T4
  after_results
  rfl

theorem t4_acc (W : Valuation τ sig (Elt F)) : T4 W (Proc.devRef .tc main_v124) = addf (W (Proc.devRef .tc main_v72)) (yA (extractStridedSlice S1x256x128x1x8 ![0, 0, 0, 1, 0] (W (Proc.devRef .tc main_v0)) slices_S1x256x128x4x8_S1x256x128x1x8_0_0_0_1_0) (W (Proc.devRef .tc main_v119))) := by
  unfold T4
  after_results
  rfl

theorem t6_neg (W : Valuation τ sig (Elt F)) : T6 W (Proc.devRef .tc main_v216) = negA 21#32 (W (Proc.devRef .tc main_v4)) (W (Proc.devRef .tc main_v21)) := by
  unfold T6
  after_results
  rfl

theorem t6_mag (W : Valuation τ sig (Elt F)) : T6 W (Proc.devRef .tc main_v221) = magA 24#32 (W (Proc.devRef .tc main_v2)) (W (Proc.devRef .tc main_v17)) (W (Proc.devRef .tc main_v19)) (W (Proc.devRef .tc main_arg3)) := by
  unfold T6
  after_results
  rfl

theorem t6_nmag (W : Valuation τ sig (Elt F)) : T6 W (Proc.devRef .tc main_v222) = Host.negf (magA 24#32 (W (Proc.devRef .tc main_v2)) (W (Proc.devRef .tc main_v17)) (W (Proc.devRef .tc main_v19)) (W (Proc.devRef .tc main_arg3))) := by
  unfold T6
  after_results
  rfl

theorem t6_acc (W : Valuation τ sig (Elt F)) : T6 W (Proc.devRef .tc main_v176) = addf (W (Proc.devRef .tc main_v124)) (yA (extractStridedSlice S1x256x128x1x8 ![0, 0, 0, 2, 0] (W (Proc.devRef .tc main_v0)) slices_S1x256x128x4x8_S1x256x128x1x8_0_0_0_2_0) (W (Proc.devRef .tc main_v171))) := by
  unfold T6
  after_results
  rfl

theorem t8_out (W : Valuation τ sig (Elt F)) : T8 W (Proc.devRef .tc main_v230) = shapeCast S256x14336 (truncf .bf16 (addf (W (Proc.devRef .tc main_v176)) (yA (extractStridedSlice S1x256x128x1x8 ![0, 0, 0, 3, 0] (W (Proc.devRef .tc main_v0)) slices_S1x256x128x4x8_S1x256x128x1x8_0_0_0_3_0) (W (Proc.devRef .tc main_v223)))) bitsLt_bf16_f32) shapeCasts_S1x256x14336_S256x14336 := by
  unfold T8
  after_results
  rfl

theorem k0_v0 (W : Valuation τ sig (Elt F)) : T0 W (Proc.devRef .tc main_v0) = W (Proc.devRef .tc main_v0) :=
  StableHlo.after_of_writes_sub (r := main_v0) hostOps1 W hostOps1_writes (by decide +kernel)

theorem k0_v2 (W : Valuation τ sig (Elt F)) : T0 W (Proc.devRef .tc main_v2) = W (Proc.devRef .tc main_v2) :=
  StableHlo.after_of_writes_sub (r := main_v2) hostOps1 W hostOps1_writes (by decide +kernel)

theorem k0_v4 (W : Valuation τ sig (Elt F)) : T0 W (Proc.devRef .tc main_v4) = W (Proc.devRef .tc main_v4) :=
  StableHlo.after_of_writes_sub (r := main_v4) hostOps1 W hostOps1_writes (by decide +kernel)

theorem k0_arg3 (W : Valuation τ sig (Elt F)) : T0 W (Proc.devRef .tc main_arg3) = W (Proc.devRef .tc main_arg3) :=
  StableHlo.after_of_writes_sub (r := main_arg3) hostOps1 W hostOps1_writes (by decide +kernel)

theorem k1_v0 (W : Valuation τ sig (Elt F)) : T1 W (Proc.devRef .tc main_v0) = W (Proc.devRef .tc main_v0) :=
  StableHlo.after_of_writes_sub (r := main_v0) hostOps1_1 W hostOps1_1_writes (by decide +kernel)

theorem k1_v2 (W : Valuation τ sig (Elt F)) : T1 W (Proc.devRef .tc main_v2) = W (Proc.devRef .tc main_v2) :=
  StableHlo.after_of_writes_sub (r := main_v2) hostOps1_1 W hostOps1_1_writes (by decide +kernel)

theorem k1_v4 (W : Valuation τ sig (Elt F)) : T1 W (Proc.devRef .tc main_v4) = W (Proc.devRef .tc main_v4) :=
  StableHlo.after_of_writes_sub (r := main_v4) hostOps1_1 W hostOps1_1_writes (by decide +kernel)

theorem k1_v17 (W : Valuation τ sig (Elt F)) : T1 W (Proc.devRef .tc main_v17) = W (Proc.devRef .tc main_v17) :=
  StableHlo.after_of_writes_sub (r := main_v17) hostOps1_1 W hostOps1_1_writes (by decide +kernel)

theorem k1_v19 (W : Valuation τ sig (Elt F)) : T1 W (Proc.devRef .tc main_v19) = W (Proc.devRef .tc main_v19) :=
  StableHlo.after_of_writes_sub (r := main_v19) hostOps1_1 W hostOps1_1_writes (by decide +kernel)

theorem k1_v21 (W : Valuation τ sig (Elt F)) : T1 W (Proc.devRef .tc main_v21) = W (Proc.devRef .tc main_v21) :=
  StableHlo.after_of_writes_sub (r := main_v21) hostOps1_1 W hostOps1_1_writes (by decide +kernel)

theorem k1_arg3 (W : Valuation τ sig (Elt F)) : T1 W (Proc.devRef .tc main_arg3) = W (Proc.devRef .tc main_arg3) :=
  StableHlo.after_of_writes_sub (r := main_arg3) hostOps1_1 W hostOps1_1_writes (by decide +kernel)

theorem k2_v0 (W : Valuation τ sig (Elt F)) : T2 W (Proc.devRef .tc main_v0) = W (Proc.devRef .tc main_v0) :=
  StableHlo.after_of_writes_sub (r := main_v0) hostOps1_2 W hostOps1_2_writes (by decide +kernel)

theorem k2_v2 (W : Valuation τ sig (Elt F)) : T2 W (Proc.devRef .tc main_v2) = W (Proc.devRef .tc main_v2) :=
  StableHlo.after_of_writes_sub (r := main_v2) hostOps1_2 W hostOps1_2_writes (by decide +kernel)

theorem k2_v4 (W : Valuation τ sig (Elt F)) : T2 W (Proc.devRef .tc main_v4) = W (Proc.devRef .tc main_v4) :=
  StableHlo.after_of_writes_sub (r := main_v4) hostOps1_2 W hostOps1_2_writes (by decide +kernel)

theorem k2_v17 (W : Valuation τ sig (Elt F)) : T2 W (Proc.devRef .tc main_v17) = W (Proc.devRef .tc main_v17) :=
  StableHlo.after_of_writes_sub (r := main_v17) hostOps1_2 W hostOps1_2_writes (by decide +kernel)

theorem k2_v19 (W : Valuation τ sig (Elt F)) : T2 W (Proc.devRef .tc main_v19) = W (Proc.devRef .tc main_v19) :=
  StableHlo.after_of_writes_sub (r := main_v19) hostOps1_2 W hostOps1_2_writes (by decide +kernel)

theorem k2_v21 (W : Valuation τ sig (Elt F)) : T2 W (Proc.devRef .tc main_v21) = W (Proc.devRef .tc main_v21) :=
  StableHlo.after_of_writes_sub (r := main_v21) hostOps1_2 W hostOps1_2_writes (by decide +kernel)

theorem k2_arg3 (W : Valuation τ sig (Elt F)) : T2 W (Proc.devRef .tc main_arg3) = W (Proc.devRef .tc main_arg3) :=
  StableHlo.after_of_writes_sub (r := main_arg3) hostOps1_2 W hostOps1_2_writes (by decide +kernel)

theorem k3_v0 (W : Valuation τ sig (Elt F)) : T3 W (Proc.devRef .tc main_v0) = W (Proc.devRef .tc main_v0) :=
  StableHlo.after_of_writes_sub (r := main_v0) hostOps1_3 W hostOps1_3_writes (by decide +kernel)

theorem k3_v2 (W : Valuation τ sig (Elt F)) : T3 W (Proc.devRef .tc main_v2) = W (Proc.devRef .tc main_v2) :=
  StableHlo.after_of_writes_sub (r := main_v2) hostOps1_3 W hostOps1_3_writes (by decide +kernel)

theorem k3_v4 (W : Valuation τ sig (Elt F)) : T3 W (Proc.devRef .tc main_v4) = W (Proc.devRef .tc main_v4) :=
  StableHlo.after_of_writes_sub (r := main_v4) hostOps1_3 W hostOps1_3_writes (by decide +kernel)

theorem k3_v17 (W : Valuation τ sig (Elt F)) : T3 W (Proc.devRef .tc main_v17) = W (Proc.devRef .tc main_v17) :=
  StableHlo.after_of_writes_sub (r := main_v17) hostOps1_3 W hostOps1_3_writes (by decide +kernel)

theorem k3_v19 (W : Valuation τ sig (Elt F)) : T3 W (Proc.devRef .tc main_v19) = W (Proc.devRef .tc main_v19) :=
  StableHlo.after_of_writes_sub (r := main_v19) hostOps1_3 W hostOps1_3_writes (by decide +kernel)

theorem k3_v21 (W : Valuation τ sig (Elt F)) : T3 W (Proc.devRef .tc main_v21) = W (Proc.devRef .tc main_v21) :=
  StableHlo.after_of_writes_sub (r := main_v21) hostOps1_3 W hostOps1_3_writes (by decide +kernel)

theorem k3_arg3 (W : Valuation τ sig (Elt F)) : T3 W (Proc.devRef .tc main_arg3) = W (Proc.devRef .tc main_arg3) :=
  StableHlo.after_of_writes_sub (r := main_arg3) hostOps1_3 W hostOps1_3_writes (by decide +kernel)

theorem k3_v72 (W : Valuation τ sig (Elt F)) : T3 W (Proc.devRef .tc main_v72) = W (Proc.devRef .tc main_v72) :=
  StableHlo.after_of_writes_sub (r := main_v72) hostOps1_3 W hostOps1_3_writes (by decide +kernel)

theorem k4_v0 (W : Valuation τ sig (Elt F)) : T4 W (Proc.devRef .tc main_v0) = W (Proc.devRef .tc main_v0) :=
  StableHlo.after_of_writes_sub (r := main_v0) hostOps1_4 W hostOps1_4_writes (by decide +kernel)

theorem k4_v2 (W : Valuation τ sig (Elt F)) : T4 W (Proc.devRef .tc main_v2) = W (Proc.devRef .tc main_v2) :=
  StableHlo.after_of_writes_sub (r := main_v2) hostOps1_4 W hostOps1_4_writes (by decide +kernel)

theorem k4_v4 (W : Valuation τ sig (Elt F)) : T4 W (Proc.devRef .tc main_v4) = W (Proc.devRef .tc main_v4) :=
  StableHlo.after_of_writes_sub (r := main_v4) hostOps1_4 W hostOps1_4_writes (by decide +kernel)

theorem k4_v17 (W : Valuation τ sig (Elt F)) : T4 W (Proc.devRef .tc main_v17) = W (Proc.devRef .tc main_v17) :=
  StableHlo.after_of_writes_sub (r := main_v17) hostOps1_4 W hostOps1_4_writes (by decide +kernel)

theorem k4_v19 (W : Valuation τ sig (Elt F)) : T4 W (Proc.devRef .tc main_v19) = W (Proc.devRef .tc main_v19) :=
  StableHlo.after_of_writes_sub (r := main_v19) hostOps1_4 W hostOps1_4_writes (by decide +kernel)

theorem k4_v21 (W : Valuation τ sig (Elt F)) : T4 W (Proc.devRef .tc main_v21) = W (Proc.devRef .tc main_v21) :=
  StableHlo.after_of_writes_sub (r := main_v21) hostOps1_4 W hostOps1_4_writes (by decide +kernel)

theorem k4_arg3 (W : Valuation τ sig (Elt F)) : T4 W (Proc.devRef .tc main_arg3) = W (Proc.devRef .tc main_arg3) :=
  StableHlo.after_of_writes_sub (r := main_arg3) hostOps1_4 W hostOps1_4_writes (by decide +kernel)

theorem k5_v0 (W : Valuation τ sig (Elt F)) : T5 W (Proc.devRef .tc main_v0) = W (Proc.devRef .tc main_v0) :=
  StableHlo.after_of_writes_sub (r := main_v0) hostOps1_5 W hostOps1_5_writes (by decide +kernel)

theorem k5_v2 (W : Valuation τ sig (Elt F)) : T5 W (Proc.devRef .tc main_v2) = W (Proc.devRef .tc main_v2) :=
  StableHlo.after_of_writes_sub (r := main_v2) hostOps1_5 W hostOps1_5_writes (by decide +kernel)

theorem k5_v4 (W : Valuation τ sig (Elt F)) : T5 W (Proc.devRef .tc main_v4) = W (Proc.devRef .tc main_v4) :=
  StableHlo.after_of_writes_sub (r := main_v4) hostOps1_5 W hostOps1_5_writes (by decide +kernel)

theorem k5_v17 (W : Valuation τ sig (Elt F)) : T5 W (Proc.devRef .tc main_v17) = W (Proc.devRef .tc main_v17) :=
  StableHlo.after_of_writes_sub (r := main_v17) hostOps1_5 W hostOps1_5_writes (by decide +kernel)

theorem k5_v19 (W : Valuation τ sig (Elt F)) : T5 W (Proc.devRef .tc main_v19) = W (Proc.devRef .tc main_v19) :=
  StableHlo.after_of_writes_sub (r := main_v19) hostOps1_5 W hostOps1_5_writes (by decide +kernel)

theorem k5_v21 (W : Valuation τ sig (Elt F)) : T5 W (Proc.devRef .tc main_v21) = W (Proc.devRef .tc main_v21) :=
  StableHlo.after_of_writes_sub (r := main_v21) hostOps1_5 W hostOps1_5_writes (by decide +kernel)

theorem k5_arg3 (W : Valuation τ sig (Elt F)) : T5 W (Proc.devRef .tc main_arg3) = W (Proc.devRef .tc main_arg3) :=
  StableHlo.after_of_writes_sub (r := main_arg3) hostOps1_5 W hostOps1_5_writes (by decide +kernel)

theorem k5_v124 (W : Valuation τ sig (Elt F)) : T5 W (Proc.devRef .tc main_v124) = W (Proc.devRef .tc main_v124) :=
  StableHlo.after_of_writes_sub (r := main_v124) hostOps1_5 W hostOps1_5_writes (by decide +kernel)

theorem k6_v0 (W : Valuation τ sig (Elt F)) : T6 W (Proc.devRef .tc main_v0) = W (Proc.devRef .tc main_v0) :=
  StableHlo.after_of_writes_sub (r := main_v0) hostOps1_6 W hostOps1_6_writes (by decide +kernel)

theorem k6_v2 (W : Valuation τ sig (Elt F)) : T6 W (Proc.devRef .tc main_v2) = W (Proc.devRef .tc main_v2) :=
  StableHlo.after_of_writes_sub (r := main_v2) hostOps1_6 W hostOps1_6_writes (by decide +kernel)

theorem k6_v4 (W : Valuation τ sig (Elt F)) : T6 W (Proc.devRef .tc main_v4) = W (Proc.devRef .tc main_v4) :=
  StableHlo.after_of_writes_sub (r := main_v4) hostOps1_6 W hostOps1_6_writes (by decide +kernel)

theorem k6_v17 (W : Valuation τ sig (Elt F)) : T6 W (Proc.devRef .tc main_v17) = W (Proc.devRef .tc main_v17) :=
  StableHlo.after_of_writes_sub (r := main_v17) hostOps1_6 W hostOps1_6_writes (by decide +kernel)

theorem k6_v19 (W : Valuation τ sig (Elt F)) : T6 W (Proc.devRef .tc main_v19) = W (Proc.devRef .tc main_v19) :=
  StableHlo.after_of_writes_sub (r := main_v19) hostOps1_6 W hostOps1_6_writes (by decide +kernel)

theorem k6_v21 (W : Valuation τ sig (Elt F)) : T6 W (Proc.devRef .tc main_v21) = W (Proc.devRef .tc main_v21) :=
  StableHlo.after_of_writes_sub (r := main_v21) hostOps1_6 W hostOps1_6_writes (by decide +kernel)

theorem k6_arg3 (W : Valuation τ sig (Elt F)) : T6 W (Proc.devRef .tc main_arg3) = W (Proc.devRef .tc main_arg3) :=
  StableHlo.after_of_writes_sub (r := main_arg3) hostOps1_6 W hostOps1_6_writes (by decide +kernel)

theorem k7_v0 (W : Valuation τ sig (Elt F)) : T7 W (Proc.devRef .tc main_v0) = W (Proc.devRef .tc main_v0) :=
  StableHlo.after_of_writes_sub (r := main_v0) hostOps1_7 W hostOps1_7_writes (by decide +kernel)

theorem k7_v2 (W : Valuation τ sig (Elt F)) : T7 W (Proc.devRef .tc main_v2) = W (Proc.devRef .tc main_v2) :=
  StableHlo.after_of_writes_sub (r := main_v2) hostOps1_7 W hostOps1_7_writes (by decide +kernel)

theorem k7_v4 (W : Valuation τ sig (Elt F)) : T7 W (Proc.devRef .tc main_v4) = W (Proc.devRef .tc main_v4) :=
  StableHlo.after_of_writes_sub (r := main_v4) hostOps1_7 W hostOps1_7_writes (by decide +kernel)

theorem k7_v17 (W : Valuation τ sig (Elt F)) : T7 W (Proc.devRef .tc main_v17) = W (Proc.devRef .tc main_v17) :=
  StableHlo.after_of_writes_sub (r := main_v17) hostOps1_7 W hostOps1_7_writes (by decide +kernel)

theorem k7_v19 (W : Valuation τ sig (Elt F)) : T7 W (Proc.devRef .tc main_v19) = W (Proc.devRef .tc main_v19) :=
  StableHlo.after_of_writes_sub (r := main_v19) hostOps1_7 W hostOps1_7_writes (by decide +kernel)

theorem k7_v21 (W : Valuation τ sig (Elt F)) : T7 W (Proc.devRef .tc main_v21) = W (Proc.devRef .tc main_v21) :=
  StableHlo.after_of_writes_sub (r := main_v21) hostOps1_7 W hostOps1_7_writes (by decide +kernel)

theorem k7_arg3 (W : Valuation τ sig (Elt F)) : T7 W (Proc.devRef .tc main_arg3) = W (Proc.devRef .tc main_arg3) :=
  StableHlo.after_of_writes_sub (r := main_arg3) hostOps1_7 W hostOps1_7_writes (by decide +kernel)

theorem k7_v176 (W : Valuation τ sig (Elt F)) : T7 W (Proc.devRef .tc main_v176) = W (Proc.devRef .tc main_v176) :=
  StableHlo.after_of_writes_sub (r := main_v176) hostOps1_7 W hostOps1_7_writes (by decide +kernel)

/-- The host lines after the decoding region, from any contents. -/
theorem tail_eq (W : Valuation τ sig (Elt F)) :
    StableHlo.after (List.flatten [hostOps1, hostOps1_1, hostOps1_2, hostOps1_3, hostOps1_4, hostOps1_5, hostOps1_6, hostOps1_7,
      hostOps1_8]) W (Proc.devRef .tc main_v230)
      = outA (W (Proc.devRef .tc main_v0))
          (wA 0#32 0#32 (W (Proc.devRef .tc main_v2)) (W (Proc.devRef .tc main_v4)) (dbA (W (Proc.devRef .tc main_v4)) (W (Proc.devRef .tc main_v5))) jcol jcol (W (Proc.devRef .tc main_arg3)))
          (wA 8#32 7#32 (W (Proc.devRef .tc main_v2)) (W (Proc.devRef .tc main_v4)) (dbA (W (Proc.devRef .tc main_v4)) (W (Proc.devRef .tc main_v5))) jcol jcol (W (Proc.devRef .tc main_arg3)))
          (wA 16#32 14#32 (W (Proc.devRef .tc main_v2)) (W (Proc.devRef .tc main_v4)) (dbA (W (Proc.devRef .tc main_v4)) (W (Proc.devRef .tc main_v5))) jcol jcol (W (Proc.devRef .tc main_arg3)))
          (wA 24#32 21#32 (W (Proc.devRef .tc main_v2)) (W (Proc.devRef .tc main_v4)) (dbA (W (Proc.devRef .tc main_v4)) (W (Proc.devRef .tc main_v5))) jcol jcol (W (Proc.devRef .tc main_arg3))) := by
  rw [List.flatten_cons, List.flatten_cons, List.flatten_cons, List.flatten_cons, List.flatten_cons, List.flatten_cons,
    List.flatten_cons, List.flatten_cons, List.flatten_cons, List.flatten_nil, List.append_nil, StableHlo.after_append,
    StableHlo.after_append, StableHlo.after_append, StableHlo.after_append, StableHlo.after_append, StableHlo.after_append,
    StableHlo.after_append, StableHlo.after_append]
  show T8 (T7 (T6 (T5 (T4 (T3 (T2 (T1 (T0 W)))))))) (Proc.devRef .tc main_v230) = _
  rw [t8_out, t7_w, k7_v176, k7_v0, t6_neg, t6_mag, t6_nmag, t6_acc, k6_v0, t5_w, k5_v124, k5_v0, k5_v2, k5_v4, k5_v17, k5_v19, k5_v21, k5_arg3, t4_neg, t4_mag, t4_nmag, t4_acc, k4_v0, k4_v2, k4_v4, k4_v17, k4_v19, k4_v21, k4_arg3, t3_w, k3_v72, k3_v0, k3_v2, k3_v4, k3_v17, k3_v19, k3_v21, k3_arg3, t2_neg, t2_mag, t2_nmag, t2_acc, k2_v0, k2_v2, k2_v4, k2_v17, k2_v19, k2_v21, k2_arg3, t1_w, k1_v0, k1_v2, k1_v4, k1_v17, k1_v19, k1_v21, k1_arg3, t0_neg, t0_mag, t0_nmag, t0_db, t0_j, t0_jb, k0_v0, k0_v2, k0_v4, k0_arg3]
  rfl

end Cert.Proof.ReferenceIdeal

end
-- ==== Proof.RefVal.lean ====
/-
  Hand-written, untrusted. The reference's run: the result array is the one term `outA` of the four arguments, which end unchanged.
-/
module

public import proofs.«01_k».proof.Proof.RefRun
public import Idealize.ShloMosaic.Lib.Affine

@[expose] public section

noncomputable section

namespace Cert.Proof.ReferenceIdeal

open Idealize.ShloMosaic Idealize.SL.Sem Cert.ReferenceIdeal
open Cert.ReferenceIdeal.Gen Idealize.ShloMosaic.TcCoe
open Idealize.ShloMosaic.Pipeline (Dat Cfg Window)

variable {F : FTy → Type} [FloatOps F]
variable (m : (ℓ : Loc nD τ sig) → Buf (Elt F) ℓ) (ρ : Dev nD → PrngReg)

/-- The one grid point. -/
def t₀ : Fin cfg0.N := ⟨0, by decide⟩

theorem final_out (c : Dev nD) :
    ((cfg0.win (1 : Fin 2)).blk t₀).view.read (Elt F) ((dats (F := F) m 0 c).arrAt (1 : Fin 2) cfg0.N)
      = (dats (F := F) m 0 c).flushed (1 : Fin 2) t₀ := by
  rw [show cfg0.N = (t₀ : Fin cfg0.N).val + 1 from rfl, (dats (F := F) m 0 c).arrAt_succ (1 : Fin 2) t₀]
  rw [show (cfg0.win (1 : Fin 2)).flush t₀ = true from by decide, if_pos rfl]
  exact View.read_write_univ _ _

theorem out_eq (x0 : Vec F S16x14336 .i16) : out0_1 (F := F) x0 = k0_pay1 x0 := by
  have hz0 : (![0, 0] : Fin S16x14336.rank → Nat) = fun _ => 0 := funext fun a => by fin_cases a <;> rfl
  unfold out0_1
  rw [View.canon_unit_zero hz0, View.ld_unit_zero hz0]

/-- The decoded scales: the payload of the scale argument as launched. -/
theorem final_value (c : Dev nD) :
    (dats (F := F) m 0 c).arrAt (1 : Fin 2) cfg0.N = k0_pay1 (m ((c : Thread nD τ).loc main_arg2)) := by
  have ho := final_out (F := F) m c
  have hz2 : (fun a => (win0_1.index t₀) a * main_v5.ty.shape.size a) = fun _ => 0 :=
    funext fun a => by fin_cases a <;> decide
  have hr2 := fun f => Memref.read_access_unit_zero (Elt F) main_v5 hz2 (fun a => by fin_cases a <;> decide) f
  have hz0 : (fun a => (win0_0.index t₀) a * main_arg2.ty.shape.size a) = fun _ => 0 :=
    funext fun a => by fin_cases a <;> decide
  have hr0 := fun f => Memref.read_access_unit_zero (Elt F) main_arg2 hz0 (fun a => by fin_cases a <;> decide) f
  rw [hr2] at ho
  rw [ho]
  show (cfg0.win (1 : Fin 2)).cut _ ((dats (F := F) m 0 c).after 1 t₀) = _
  rw [after0_1, out_eq]
  unfold iblk
  rw [hr0]
  exact congrArg k0_pay1 (V_main_arg2 m c)

/-- The contents at the region's exit. -/
abbrev WE (c : Dev nD) : Valuation τ sig (Elt F) :=
  Pipeline.withArrays (cfgs 0).spec c (V0 m c) fun w => (dats m 0 c).arrAt w (cfgs 0).N

theorem WE_v5 (c : Dev nD) : WE m c (Proc.devRef .tc main_v5) = k0_pay1 (m ((c : Thread nD τ).loc main_arg2)) :=
  (Pipeline.withArrays_arr spec0 (by decide) c (V0 m c) (fun w => (dats m 0 c).arrAt w cfg0.N) (1 : Fin 2)).trans (final_value m c)

theorem WE_arg3 (c : Dev nD) : WE m c (Proc.devRef .tc main_arg3) = m ((c : Thread nD τ).loc main_arg3) :=
  (Pipeline.withArrays_of_ne _ c (V0 m c) _ main_arg3 (by exact (by decide : ∀ w, Pipeline.arrRef spec0 w ≠ main_arg3))).trans
    (V_main_arg3 m c)

/-- The activations as five axes. -/
abbrev X5 (x : FVec F S1x256x4096 .bf16) : FVec F S1x256x128x4x8 .bf16 :=
  shapeCast S1x256x128x4x8 x shapeCasts_S1x256x4096_S1x256x128x4x8

/-- The index words. -/
abbrev QA (q : IVec S128x14336x2 32) : IVec S128x14336 32 :=
  shapeCast S128x14336 (extractStridedSlice S128x14336x1 ![0, 0, 0] q slices_S128x14336x2_S128x14336x1_0_0_0)
    shapeCasts_S128x14336x1_S128x14336

/-- The sign-and-scale words. -/
abbrev QB (q : IVec S128x14336x2 32) : IVec S128x14336 32 :=
  shapeCast S128x14336 (extractStridedSlice S128x14336x1 ![0, 0, 1] q slices_S128x14336x2_S128x14336x1_0_0_1)
    shapeCasts_S128x14336x1_S128x14336

theorem WE_v0 (c : Dev nD) : WE m c (Proc.devRef .tc main_v0) = X5 (m ((c : Thread nD τ).loc main_arg0)) := by
  refine (Pipeline.withArrays_of_ne _ c (V0 m c) _ main_v0 (by exact (by decide : ∀ w, Pipeline.arrRef spec0 w ≠ main_v0))).trans ?_
  show StableHlo.after hostOps0 (fun b => m (c, b)) (Proc.devRef .tc main_v0) = _
  after_results
  rfl

theorem WE_v2 (c : Dev nD) : WE m c (Proc.devRef .tc main_v2) = QA (m ((c : Thread nD τ).loc main_arg1)) := by
  refine (Pipeline.withArrays_of_ne _ c (V0 m c) _ main_v2 (by exact (by decide : ∀ w, Pipeline.arrRef spec0 w ≠ main_v2))).trans ?_
  show StableHlo.after hostOps0 (fun b => m (c, b)) (Proc.devRef .tc main_v2) = _
  after_results
  rfl

theorem WE_v4 (c : Dev nD) : WE m c (Proc.devRef .tc main_v4) = QB (m ((c : Thread nD τ).loc main_arg1)) := by
  refine (Pipeline.withArrays_of_ne _ c (V0 m c) _ main_v4 (by exact (by decide : ∀ w, Pipeline.arrRef spec0 w ≠ main_v4))).trans ?_
  show StableHlo.after hostOps0 (fun b => m (c, b)) (Proc.devRef .tc main_v4) = _
  after_results
  rfl

/-- One field's weights from the arguments. -/
def WR (c8 c7 : BitVec 32) (q : IVec S128x14336x2 32) (d : IVec S16x14336 16) (g : IVec S256x8 8) : FVec F S128x8x14336 .f32 :=
  wA c8 c7 (QA q) (QB q) (dbA (QB q) (k0_pay1 (F := F) d)) jcol jcol g

/-- The reference's result from the arguments. -/
def refOut (x : FVec F S1x256x4096 .bf16) (q : IVec S128x14336x2 32) (d : IVec S16x14336 16) (g : IVec S256x8 8) :
    FVec F S256x14336 .bf16 :=
  outA (X5 x) (WR 0#32 0#32 q d g) (WR 8#32 7#32 q d g) (WR 16#32 14#32 q d g) (WR 24#32 21#32 q d g)

theorem value (c : Dev nD) :
    Pipeline.afterTail₀ cfgs (dats m) 0 (V0 m) [hostOps1, hostOps1_1, hostOps1_2, hostOps1_3, hostOps1_4, hostOps1_5, hostOps1_6,
        hostOps1_7, hostOps1_8] c main_v230
      = refOut (F := F) (m ((c : Thread nD τ).loc main_arg0)) (m ((c : Thread nD τ).loc main_arg1))
          (m ((c : Thread nD τ).loc main_arg2)) (m ((c : Thread nD τ).loc main_arg3)) := by
  unfold Pipeline.afterTail₀
  refine (tail_eq (WE m c)).trans ?_
  rw [WE_v0, WE_v2, WE_v4, WE_v5, WE_arg3]
  rfl

/-- The run: the result is `refOut` of the arguments, and the arguments end unchanged. -/
theorem run : θ_run (defs (F := F)) (onTc (τ := τ) (main (F := F))) ⟨m, fun _ => 0, ρ⟩ (fun r => ∀ c : Dev nD,
    r.2.mem ((c.tc : Thread nD τ).loc main_v230)
      = refOut (F := F) (m ((c : Thread nD τ).loc main_arg0)) (m ((c : Thread nD τ).loc main_arg1))
          (m ((c : Thread nD τ).loc main_arg2)) (m ((c : Thread nD τ).loc main_arg3))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) := by
  refine (θ_run defs _ _).mono (fun r h c => ⟨?_, h.2 c⟩) (θ_run_and (run_main (F := F) m ρ) (unchanged m ρ))
  exact ((h.1 c).2 main_v230 (Pipeline.mem_restRefs_of main_v230 (by decide) (by decide))).trans (value m c)

end Cert.Proof.ReferenceIdeal

end
-- ==== Proof.RefPoint.lean ====
/-
  Hand-written, untrusted. The reference's result read at one entry: a sum over the four fields, the eight rows of a field and the
  128 sub-blocks of an activation times a weight; and the weight as a term of the numbers it is made of.
-/
module

public import proofs.«01_k».proof.Proof.RefVal
public import Idealize.ShloMosaic.Lib.Pointwise
public import Idealize.ShloMosaic.Lib.ValueIdx

@[expose] public section

noncomputable section

namespace Cert.Proof.ReferenceIdeal

open Idealize.ShloMosaic Idealize.SL.Sem Cert.ReferenceIdeal
open Cert.ReferenceIdeal.Gen Idealize.ShloMosaic.TcCoe

/-- The sign bit of row `j` as the reference computes it from the second word and a field's shift. -/
def negBit (wb c7 : BitVec 32) (j : ℕ) : BitVec 1 :=
  IntOp.cmpi CmpIPredicate.eq
    (IntOp.andi
      (IntOp.shrui ArithUnit.host
        (IntOp.ori (IntOp.andi (IntOp.shrui ArithUnit.host wb c7) 127#32)
          (IntOp.shli ArithUnit.host (IntOp.andi (IntOp.ctpop (IntOp.andi (IntOp.shrui ArithUnit.host wb c7) 127#32)) 1#32) 7#32))
        (BitVec.ofNat 32 j))
      1#32)
    1#32

/-- A magnitude of the reference: the super-block's scale, the sub-block's four bits, a quarter, the grid's value. -/
def magW (h : BitVec 16) (wb : BitVec 32) (gv : BitVec 8) : EReal :=
  Ideal.ofBits .f16 h * (Ideal.ofBits .f32 1056964608#32 + (((IntOp.shrui ArithUnit.host wb 28#32).toNat : ℝ) : EReal))
    * Ideal.ofBits .f32 1048576000#32 * (((gv.setWidth 32).toInt : ℝ) : EReal)

/-- A weight of the reference. -/
def wtR (h : BitVec 16) (wb c7 : BitVec 32) (gv : BitVec 8) (j : ℕ) : EReal :=
  if negBit wb c7 j = 1#1 then -magW h wb gv else magW h wb gv

/-- The grid row that a field's byte of the index word names. -/
def gridRow (wa c8 : BitVec 32) : Fin 256 := ⟨(IntOp.andi (IntOp.shrui ArithUnit.host wa c8) 255#32).toNat, by
  show (IntOp.shrui ArithUnit.host wa c8 &&& 255#32).toNat < 256
  rw [BitVec.toNat_and]
  exact lt_of_le_of_lt Nat.and_le_right (by decide)⟩

theorem dbA_apply (v4 : IVec S128x14336 32) (v5 : FVec Ideal S16x14336 .f32) (s : Fin 128) (n : Fin 14336) :
    dbA (F := Ideal) v4 v5 (ix2 s n)
      = v5 (ix2 ⟨s.val / 8, by omega⟩ n)
        * (Ideal.ofBits .f32 1056964608#32 + (((IntOp.shrui ArithUnit.host (v4 (ix2 s n)) 28#32).toNat : ℝ) : EReal))
        * Ideal.ofBits .f32 1048576000#32 := by
  unfold dbA
  rw [shapeCast_apply _ _ _ (ix3 (⟨s.val / 8, by omega⟩ : Fin 16) (⟨s.val % 8, by omega⟩ : Fin 8) n)
    (by rw [Shape.rowMajor_val_three, Shape.rowMajor_val_two]; simp; omega)]
  have e : shapeCast S16x8x14336 (uitofp (F := Ideal) FTy.f32 (Host.shrui v4 (allW 28#32))) shapeCasts_S128x14336_S16x8x14336
      (ix3 (⟨s.val / 8, by omega⟩ : Fin 16) (⟨s.val % 8, by omega⟩ : Fin 8) n)
      = (((IntOp.shrui ArithUnit.host (v4 (ix2 s n)) 28#32).toNat : ℝ) : EReal) := by
    rw [shapeCast_apply _ _ _ (ix2 s n) (by rw [Shape.rowMajor_val_three, Shape.rowMajor_val_two]; simp; omega)]
    rfl
  refine congrArg₂ (fun a b : EReal => a * b) (congrArg₂ (fun a b : EReal => a * b) (by simp only [pointwise]; rfl) (congrArg₂ (fun a b : EReal => a + b) rfl e)) rfl

theorem negA_apply (c7 : BitVec 32) (v4 : IVec S128x14336 32) (s : Fin 128) (j : Fin 8) (n : Fin 14336) :
    negA c7 v4 jcol (ix3 s j n) = negBit (v4 (ix2 s n)) c7 j.val := by
  unfold negA codeA jcol
  simp only [pointwise]
  rfl

theorem gather_apply (g : S256x8.Idx → BitVec 8) (I : IVec S128x8x14336x2 32) (s : Fin 128) (j : Fin 8) (n : Fin 14336) :
    Host.gather gather_S256x8_S128x8x14336x2_S128x8x14336_n_01_n_n_01_3_11 g I (ix3 s j n)
      = g (ix2 ⟨min (I (ix4 s j n 0)).toInt.toNat 255, by omega⟩ ⟨min (I (ix4 s j n 1)).toInt.toNat 7, by omega⟩) := by
  unfold Host.gather
  congr 1
  funext a
  refine Fin.ext ?_
  show (gather_S256x8_S128x8x14336x2_S128x8x14336_n_01_n_n_01_3_11).start (ix3 s j n) I a
    + (gather_S256x8_S128x8x14336x2_S128x8x14336_n_01_n_n_01_3_11).batchCoord (ix3 s j n) a
    + (gather_S256x8_S128x8x14336x2_S128x8x14336_n_01_n_n_01_3_11).offCoord (ix3 s j n) a = _
  have hm : ∀ a : Fin 2, a ∈ ([0, 1] : List (Fin 2)) := by decide
  rw [GatherDims.batchCoord_eq_zero _ _ _ List.not_mem_nil,
    GatherDims.offCoord_eq_zero _ _ _ (fun h => ((GatherDims.mem_sKept _ _).mp h).1 (hm a))]
  simp only [Nat.add_zero]
  unfold GatherDims.start
  rw [dif_pos (show a ∈ (gather_S256x8_S128x8x14336x2_S128x8x14336_n_01_n_n_01_3_11).startIndexMap from hm a)]
  match a with
  | ⟨0, _⟩ =>
    have hsi : (gather_S256x8_S128x8x14336x2_S128x8x14336_n_01_n_n_01_3_11).siIdx (ix3 s j n)
        ⟨List.idxOf (0 : Fin 2) (gather_S256x8_S128x8x14336x2_S128x8x14336_n_01_n_n_01_3_11).startIndexMap,
          List.idxOf_lt_length_iff.2 (hm 0)⟩ = ix4 s j n 0 := by
      funext b; refine Fin.ext ?_
      match b with
      | ⟨0, _⟩ => rfl
      | ⟨1, _⟩ => rfl
      | ⟨2, _⟩ => rfl
      | ⟨3, _⟩ => rfl
    exact congrArg (fun z => min (I z).toInt.toNat 255) hsi
  | ⟨1, _⟩ =>
    have hsi : (gather_S256x8_S128x8x14336x2_S128x8x14336_n_01_n_n_01_3_11).siIdx (ix3 s j n)
        ⟨List.idxOf (1 : Fin 2) (gather_S256x8_S128x8x14336x2_S128x8x14336_n_01_n_n_01_3_11).startIndexMap,
          List.idxOf_lt_length_iff.2 (hm 1)⟩ = ix4 s j n 1 := by
      funext b; refine Fin.ext ?_
      match b with
      | ⟨0, _⟩ => rfl
      | ⟨1, _⟩ => rfl
      | ⟨2, _⟩ => rfl
      | ⟨3, _⟩ => rfl
    exact congrArg (fun z => min (I z).toInt.toNat 7) hsi

/-- An index that is not negative is not wrapped. -/
theorem wrap_of_lt (x y : BitVec 32) (h : x.toNat < 256) :
    Scalar.select (IntOp.cmpi CmpIPredicate.slt x 0#32) y x = x ∧ x.toInt.toNat = x.toNat := by
  have hi : x.toInt = (x.toNat : ℤ) := by rw [BitVec.toInt_eq_toNat_cond, if_pos (by omega)]
  refine ⟨?_, by rw [hi]; rfl⟩
  have : IntOp.cmpi CmpIPredicate.slt x 0#32 = 0#1 := by
    show BitVec.ofBool (x.slt 0#32) = 0#1
    have : x.slt 0#32 = false := by
      rw [BitVec.slt, hi]; simp
    rw [this]; rfl
  rw [this]; rfl

theorem gridA_apply (c8 : BitVec 32) (v2 : IVec S128x14336 32) (g : IVec S256x8 8) (s : Fin 128) (j : Fin 8) (n : Fin 14336) :
    gridA c8 v2 jcol g (ix3 s j n) = g (ix2 (gridRow (v2 (ix2 s n)) c8) j) := by
  unfold gridA
  rw [gather_apply]
  have e0 := wrap_of_lt (IntOp.andi (IntOp.shrui ArithUnit.host (v2 (ix2 s n)) c8) 255#32)
    (IntOp.addi (IntOp.andi (IntOp.shrui ArithUnit.host (v2 (ix2 s n)) c8) 255#32) 256#32) (gridRow (v2 (ix2 s n)) c8).isLt
  have hj : (BitVec.ofNat 32 j.val).toNat = j.val := by rw [BitVec.toNat_ofNat]; omega
  have e1 := wrap_of_lt (BitVec.ofNat 32 j.val) (IntOp.addi (BitVec.ofNat 32 j.val) 8#32) (by rw [hj]; omega)
  refine congrArg g (congrArg₂ (fun a b => ix2 a b) (Fin.ext ?_) (Fin.ext ?_))
  · show min _ 255 = (gridRow (v2 (ix2 s n)) c8).val
    rw [concatenate_pair_apply_left (t := S128x8x14336x2) (s₁ := S128x8x14336x1) (s₂ := S128x8x14336x1) _ _ _ _ (ix4 s j n (0 : Fin 2)) rfl (ix4 s j n (0 : Fin 1))
      (fun b => by match b with | ⟨0, _⟩ => rfl | ⟨1, _⟩ => rfl | ⟨2, _⟩ => rfl | ⟨3, _⟩ => rfl)]
    have hv : broadcastInDim S128x8x14336x1 ![0, 1, 2] bcast_S128x8x14336_S128x8x14336x1_0_1_2
          (broadcastInDim S128x8x14336 ![0, 1, 2] bcast_S128x1x14336_S128x8x14336_0_1_2
            (select
              (cmpi CmpIPredicate.slt (idxA c8 v2) (broadcastInDim S128x1x14336 ![] bcast_S_S128x1x14336 (constantI S_ 32 0#32)))
              (addi (idxA c8 v2) (broadcastInDim S128x1x14336 ![] bcast_S_S128x1x14336 (constantI S_ 32 256#32)))
              (idxA c8 v2))) (ix4 s j n (0 : Fin 1))
        = IntOp.andi (IntOp.shrui ArithUnit.host (v2 (ix2 s n)) c8) 255#32 := by
      rw [← e0.1]
      unfold idxA
      simp only [pointwise]
      rfl
    rw [hv, e0.2]
    exact min_eq_left (Nat.le_of_lt_succ (gridRow (v2 (ix2 s n)) c8).isLt)
  · show min _ 7 = j.val
    rw [concatenate_pair_apply_right (t := S128x8x14336x2) (s₁ := S128x8x14336x1) (s₂ := S128x8x14336x1) _ _ _ _ (ix4 s j n (1 : Fin 2)) rfl rfl (ix4 s j n (0 : Fin 1))
      (fun b hb => by match b with | ⟨0, _⟩ => rfl | ⟨1, _⟩ => rfl | ⟨2, _⟩ => rfl | ⟨3, _⟩ => exact absurd rfl hb) rfl]
    have hv : broadcastInDim S128x8x14336x1 ![0, 1, 2] bcast_S128x8x14336_S128x8x14336x1_0_1_2
          (broadcastInDim S128x8x14336 ![0, 1, 2] bcast_S1x8x1_S128x8x14336_0_1_2
            (select
              (cmpi CmpIPredicate.slt jcol (broadcastInDim S1x8x1 ![] bcast_S_S1x8x1 (constantI S_ 32 0#32)))
              (addi jcol (broadcastInDim S1x8x1 ![] bcast_S_S1x8x1 (constantI S_ 32 8#32)))
              jcol)) (ix4 s j n (0 : Fin 1))
        = BitVec.ofNat 32 j.val := by
      rw [← e1.1]
      unfold jcol
      simp only [pointwise]
      rfl
    rw [hv, e1.2, hj]
    exact min_eq_left (by omega)

theorem WR_apply (c8 c7 : BitVec 32) (q : IVec S128x14336x2 32) (d : IVec S16x14336 16) (g : IVec S256x8 8)
    (s : Fin 128) (j : Fin 8) (n : Fin 14336) :
    WR (F := Ideal) c8 c7 q d g (ix3 s j n)
      = wtR (d (ix2 ⟨s.val / 8, by omega⟩ n)) (q (ix3 s n 1)) c7 (g (ix2 (gridRow (q (ix3 s n 0)) c8) j)) j.val := by
  have hA : QA q (ix2 s n) = q (ix3 s n 0) := by
    unfold QA
    rw [shapeCast_apply _ _ _ (ix3 s n (0 : Fin 1)) (by rw [Shape.rowMajor_val_three, Shape.rowMajor_val_two]; simp)]
    simp only [pointwise]
    refine congrArg q (congrArg₂ (fun a b => ix3 a b _) (Fin.ext ?_) (Fin.ext ?_)) <;> simp
  have hB : QB q (ix2 s n) = q (ix3 s n 1) := by
    unfold QB
    rw [shapeCast_apply _ _ _ (ix3 s n (0 : Fin 1)) (by rw [Shape.rowMajor_val_three, Shape.rowMajor_val_two]; simp)]
    simp only [pointwise]
    refine congrArg q (congrArg₂ (fun a b => ix3 a b _) (Fin.ext ?_) (Fin.ext ?_)) <;> simp
  have hm : magA (F := Ideal) c8 (QA q) (dbA (QB q) (k0_pay1 (F := Ideal) d)) jcol g (ix3 s j n)
      = magW (d (ix2 ⟨s.val / 8, by omega⟩ n)) (q (ix3 s n 1)) (g (ix2 (gridRow (q (ix3 s n 0)) c8) j)) := by
    have e1 := dbA_apply (QB q) (k0_pay1 (F := Ideal) d) s n
    have e2 := gridA_apply c8 (QA q) g s j n
    rw [hA] at e2
    rw [hB] at e1
    exact congrArg₂ (fun a b : EReal => a * b) e1 (congrArg (fun z : BitVec 8 => (((z.setWidth 32).toInt : ℝ) : EReal)) e2)
  have hn : negA c7 (QB q) jcol (ix3 s j n) = negBit (q (ix3 s n 1)) c7 j.val := by
    rw [negA_apply, hB]
  show (if negA c7 (QB q) jcol (ix3 s j n) = 1#1 then
      -(magA (F := Ideal) c8 (QA q) (dbA (QB q) (k0_pay1 (F := Ideal) d)) jcol g (ix3 s j n))
    else magA (F := Ideal) c8 (QA q) (dbA (QB q) (k0_pay1 (F := Ideal) d)) jcol g (ix3 s j n)) = _
  rw [hm, hn]
  rfl

theorem yA_apply (x : FVec Ideal S1x256x128x1x8 .bf16) (w : FVec Ideal S128x8x14336 .f32) (t : Fin 256) (n : Fin 14336) :
    yA (F := Ideal) x w (ix3 (0 : Fin 1) t n)
      = ∑ j : Fin 8, ∑ s : Fin 128, x (ix5 (0 : Fin 1) t s (0 : Fin 1) j) * w (ix3 s j n) := by
  unfold yA
  simp only [pointwise]
  exact zero_add _

theorem X5_apply (x : FVec Ideal S1x256x4096 .bf16) (t : Fin 256) (s : Fin 128) (l : Fin 4) (j : Fin 8) :
    X5 (F := Ideal) x (ix5 (0 : Fin 1) t s l j) = x (ix3 (0 : Fin 1) t ⟨32 * s.val + 8 * l.val + j.val, by omega⟩) := by
  unfold X5
  exact shapeCast_apply _ _ _ _ (by rw [Shape.rowMajor_val_three, Shape.rowMajor_val_five]; simp; omega)

/-- The reference's result at one entry. -/
theorem refOut_apply (x : FVec Ideal S1x256x4096 .bf16) (q : IVec S128x14336x2 32) (d : IVec S16x14336 16) (g : IVec S256x8 8)
    (t : Fin 256) (n : Fin 14336) :
    refOut (F := Ideal) x q d g (ix2 t n)
      = ∑ l : Fin 4, ∑ j : Fin 8, ∑ s : Fin 128, x (ix3 (0 : Fin 1) t ⟨32 * s.val + 8 * l.val + j.val, by omega⟩)
          * wtR (d (ix2 ⟨s.val / 8, by omega⟩ n)) (q (ix3 s n 1)) (BitVec.ofNat 32 (7 * l.val))
              (g (ix2 (gridRow (q (ix3 s n 0)) (BitVec.ofNat 32 (8 * l.val))) j)) j.val := by
  have h0 : ∀ (l : Fin 4) (sl : FVec Ideal S1x256x128x1x8 .bf16) (w : FVec Ideal S128x8x14336 .f32)
      (_ : ∀ (s : Fin 128) (j : Fin 8), sl (ix5 (0 : Fin 1) t s (0 : Fin 1) j) = X5 (F := Ideal) x (ix5 (0 : Fin 1) t s l j))
      (_ : w = WR (F := Ideal) (BitVec.ofNat 32 (8 * l.val)) (BitVec.ofNat 32 (7 * l.val)) q d g),
      yA (F := Ideal) sl w (ix3 (0 : Fin 1) t n)
        = ∑ j : Fin 8, ∑ s : Fin 128, x (ix3 (0 : Fin 1) t ⟨32 * s.val + 8 * l.val + j.val, by omega⟩)
          * wtR (d (ix2 ⟨s.val / 8, by omega⟩ n)) (q (ix3 s n 1)) (BitVec.ofNat 32 (7 * l.val))
              (g (ix2 (gridRow (q (ix3 s n 0)) (BitVec.ofNat 32 (8 * l.val))) j)) j.val := by
    intro l sl w hs hw
    rw [yA_apply]
    refine Finset.sum_congr rfl fun j _ => Finset.sum_congr rfl fun s _ => ?_
    rw [hs, X5_apply, hw, WR_apply]
  unfold refOut outA
  rw [shapeCast_apply _ _ _ (ix3 (0 : Fin 1) t n) (by rw [Shape.rowMajor_val_three, Shape.rowMajor_val_two]; simp)]
  rw [Fin.sum_univ_four]
  refine congrArg₂ (fun a b : EReal => a + b) (congrArg₂ (fun a b : EReal => a + b) (congrArg₂ (fun a b : EReal => a + b)
    (h0 0 _ _ (fun s j => ?_) rfl) (h0 1 _ _ (fun s j => ?_) rfl)) (h0 2 _ _ (fun s j => ?_) rfl)) (h0 3 _ _ (fun s j => ?_) rfl)
  all_goals
    simp only [pointwise]
    refine congrArg x (congrArg₂ (fun a b => ix3 _ a b) (Fin.ext ?_) (Fin.ext ?_)) <;> simp

end Cert.Proof.ReferenceIdeal

end
-- ==== Proof.Weight.lean ====
/-
  Hand-written, untrusted. One weight: what the kernel computes is what the reference computes, for a finite scale and grid values
  8, 25 and 43.
-/
module

public import proofs.«01_k».proof.Proof.Tables
public import proofs.«01_k».proof.Proof.Codes
public import proofs.«01_k».proof.Proof.Scales
public import proofs.«01_k».proof.Proof.RefPoint

@[expose] public section

noncomputable section

namespace Cert.Proof.KernelIdeal

open Idealize.ShloMosaic Idealize.SL.Sem Cert.KernelIdeal
open Cert.KernelIdeal.Gen Idealize.ShloMosaic.TcCoe
open Cert.Proof.ReferenceIdeal (wtR magW negBit gridRow)

/-- The sub-block's four scale bits. -/
def scN (wb : BitVec 32) : ℕ := wb.toNat / 2 ^ 28

theorem sc_toInt (wb : BitVec 32) : (IntOp.shrui .vector wb 28#32).toInt = (scN wb : ℤ) := by
  have h := shr_nat .vector wb 28#32 28 (by decide) (by decide)
  have := wb.isLt
  rw [BitVec.toInt_eq_toNat_cond, if_pos (by omega), h]; rfl

theorem half_const : Ideal.ofBits .f32 0x3F000000#32 = ((1 / 2 : ℝ) : EReal) := by
  simp [Ideal.ofBits, Ideal.ieee, -EReal.coe_mul]; norm_num

theorem two_const : Ideal.ofBits .f32 0x40000000#32 = ((2 : ℝ) : EReal) := by
  simp [Ideal.ofBits, Ideal.ieee, -EReal.coe_mul]; norm_num

theorem mid_const : Ideal.ofBits .f32 0x40C80000#32 = ((25 / 4 : ℝ) : EReal) := by
  simp [Ideal.ofBits, Ideal.ieee, -EReal.coe_mul]; norm_num

theorem top_const : Ideal.ofBits .f32 0x412C0000#32 = ((43 / 4 : ℝ) : EReal) := by
  simp [Ideal.ofBits, Ideal.ieee, -EReal.coe_mul]; norm_num

theorem quarter_const : Ideal.ofBits .f32 1048576000#32 = ((1 / 4 : ℝ) : EReal) := by
  simp [Ideal.ofBits, Ideal.ieee, -EReal.coe_mul]; norm_num

theorem scaleS_value (k : BitVec 32) (K : ℝ) (hK : Ideal.ofBits .f32 k = (K : EReal)) (h : BitVec 16)
    (hf : h.toNat / 1024 % 32 < 31) (wb : BitVec 32) :
    scaleS (F := Ideal) k h wb = ((((scN wb : ℝ) + 1 / 2) * (absR (h.toNat % 32768) * K) : ℝ) : EReal) := by
  have e : scaleS (F := Ideal) k h wb
      = ((((IntOp.shrui .vector wb 28#32).toInt : ℝ) : EReal) + Ideal.ofBits .f32 0x3F000000#32) * (absS (F := Ideal) h * Ideal.ofBits .f32 k) := rfl
  rw [e, sc_toInt, half_const, hK, absS_value h hf, Int.cast_natCast, ← EReal.coe_add, ← EReal.coe_mul, ← EReal.coe_mul]

theorem nibS_value (x : BitVec 32) (j : ℕ) (hj : j < 8) : nibS (F := Ideal) x j = ((nibI (x.toNat / 16 ^ j % 16) : ℝ) : EReal) := by
  have e : nibS (F := Ideal) x j
      = (((IntOp.shrsi .vector (IntOp.shli .vector x (IntOp.subi 28#32 (IntOp.muli 4#32 (BitVec.ofNat 32 j)))) 28#32).toInt : ℝ) : EReal) := rfl
  rw [e, nib_toInt x j hj]

/-- The grid value of a code, in quarters of the scale. -/
def gridR (v : BitVec 8) : ℝ := if v = 8#8 then 8 else if v = 25#8 then 25 else 43

theorem pick_real (v : BitVec 8) (P : ℝ) (hP : 0 ≤ P) :
    max (P * 2) (min (P * (43 / 4)) ((nibI (codeOf v) : ℝ) * (P * (25 / 4)))) = P * (1 / 4) * gridR v := by
  unfold codeOf gridR
  split
  · have : nibI 0 = 0 := rfl
    rw [this, Int.cast_zero, zero_mul, min_eq_right (by positivity), max_eq_left (by positivity)]; ring
  · split
    · have : nibI 1 = 1 := rfl
      rw [this, Int.cast_one, one_mul, min_eq_right (by nlinarith), max_eq_right (by nlinarith)]; ring
    · have : nibI 4 = 4 := rfl
      rw [this, min_eq_left (by push_cast; nlinarith), max_eq_right (by nlinarith)]; ring

/-- The reference's sign of a weight without the scale's own sign, as a number. -/
def sgR (n : BitVec 32) : ℝ := if n = 1#32 then -1 else 1

theorem sg_real (c j : BitVec 32) : ((nibI (sgW c j).toNat : ℤ) : ℝ) = sgR (negW c j) := by
  unfold sgW
  have h := and_one (IntOp.shrui .vector (IntOp.ori c (IntOp.shli .vector (IntOp.andi (IntOp.ctpop c) 1#32) 7#32)) j)
  change negW c j = 0#32 ∨ negW c j = 1#32 at h
  rcases h with h | h <;> rw [h]
  · have : nibI (IntOp.addi 1#32 (IntOp.muli 14#32 0#32)).toNat = 1 := by decide
    rw [this, sgR, if_neg (by decide)]; norm_num
  · have : nibI (IntOp.addi 1#32 (IntOp.muli 14#32 1#32)).toNat = -1 := by decide
    rw [this, sgR, if_pos rfl]; norm_num

theorem sg_flip (c : Fin 128) (j : Fin 8) :
    sgR (negW (BitVec.ofNat 32 (127 - c.val)) (BitVec.ofNat 32 j.val)) = -sgR (negW (BitVec.ofNat 32 c.val) (BitVec.ofNat 32 j.val)) := by
  rw [neg_flip]
  have h := and_one (IntOp.shrui .vector (IntOp.ori (BitVec.ofNat 32 c.val) (IntOp.shli .vector (IntOp.andi (IntOp.ctpop (BitVec.ofNat 32 c.val)) 1#32) 7#32)) (BitVec.ofNat 32 j.val))
  change negW (BitVec.ofNat 32 c.val) (BitVec.ofNat 32 j.val) = 0#32 ∨ negW (BitVec.ofNat 32 c.val) (BitVec.ofNat 32 j.val) = 1#32 at h
  rcases h with h | h <;> rw [h]
  · rw [sgR, sgR, if_pos (by decide), if_neg (by decide)]
  · rw [sgR, sgR, if_neg (by decide), if_pos (by decide)]; norm_num

theorem host_shr (x c : BitVec 32) (hc : c.toNat < 32) : IntOp.shrui .host x c = IntOp.shrui .vector x c := by
  unfold IntOp.shrui; rw [if_pos hc, if_pos hc]

theorem negBit_iff (wb : BitVec 32) (l : ℕ) (hl : l < 4) (j : Fin 8) :
    negBit wb (BitVec.ofNat 32 (7 * l)) j.val = 1#1
      ↔ negW (BitVec.ofNat 32 (wb.toNat / 2 ^ (7 * l) % 128)) (BitVec.ofNat 32 j.val) = 1#32 := by
  have hc : (BitVec.ofNat 32 (7 * l)).toNat = 7 * l := by rw [BitVec.toNat_ofNat]; omega
  have hk : IntOp.andi (IntOp.shrui .host wb (BitVec.ofNat 32 (7 * l))) 127#32 = BitVec.ofNat 32 (wb.toNat / 2 ^ (7 * l) % 128) := by
    apply BitVec.eq_of_toNat_eq
    rw [and_nat, shr_nat _ _ _ (7 * l) (by omega) hc, show (127#32).toNat = 2 ^ 7 - 1 from rfl, Nat.and_two_pow_sub_one_eq_mod,
      BitVec.toNat_ofNat]
    omega
  unfold negBit
  rw [hk, host_shr _ (BitVec.ofNat 32 j.val) (by rw [BitVec.toNat_ofNat]; omega)]
  show BitVec.ofBool (negW (BitVec.ofNat 32 (wb.toNat / 2 ^ (7 * l) % 128)) (BitVec.ofNat 32 j.val) == 1#32) = 1#1 ↔ _
  rcases hb : (negW (BitVec.ofNat 32 (wb.toNat / 2 ^ (7 * l) % 128)) (BitVec.ofNat 32 j.val) == 1#32)
  · simp [beq_eq_false_iff_ne.1 hb]
  · simp [eq_of_beq hb]

theorem grid_real (v : BitVec 8) (hv : v = 8#8 ∨ v = 25#8 ∨ v = 43#8) : (((v.setWidth 32).toInt : ℤ) : ℝ) = gridR v := by
  rcases hv with rfl | rfl | rfl
  · have : ((8#8).setWidth 32).toInt = 8 := by decide
    rw [this]; simp [gridR]
  · have : ((25#8).setWidth 32).toInt = 25 := by decide
    rw [this]; simp [gridR]
  · have : ((43#8).setWidth 32).toInt = 43 := by decide
    rw [this]; simp [gridR]

/-- The reference's weight as a real number. -/
theorem wtR_value (h : BitVec 16) (hf : h.toNat / 1024 % 32 < 31) (wb : BitVec 32) (l : ℕ) (hl : l < 4) (j : Fin 8)
    (v : BitVec 8) (hv : v = 8#8 ∨ v = 25#8 ∨ v = 43#8) :
    wtR h wb (BitVec.ofNat 32 (7 * l)) v j.val
      = (((if 32768 ≤ h.toNat then -1 else 1) * (((scN wb : ℝ) + 1 / 2) * absR (h.toNat % 32768) * (1 / 4) * gridR v)
          * sgR (negW (BitVec.ofNat 32 (wb.toNat / 2 ^ (7 * l) % 128)) (BitVec.ofNat 32 j.val)) : ℝ) : EReal) := by
  have hsc : ((IntOp.shrui ArithUnit.host wb 28#32).toNat : ℝ) = (scN wb : ℝ) := by
    rw [shr_nat _ _ _ 28 (by decide) (by decide)]; rfl
  have hm : magW h wb v = (((if 32768 ≤ h.toNat then -1 else 1) * (((scN wb : ℝ) + 1 / 2) * absR (h.toNat % 32768) * (1 / 4) * gridR v) : ℝ) : EReal) := by
    unfold magW
    rw [hsc, f16_value h hf, quarter_const, show Ideal.ofBits .f32 1056964608#32 = ((1 / 2 : ℝ) : EReal) from half_const, grid_real v hv,
      ← EReal.coe_add, ← EReal.coe_mul, ← EReal.coe_mul, ← EReal.coe_mul]
    by_cases hn : 32768 ≤ h.toNat
    · rw [if_pos hn, if_pos hn, show -absR (h.toNat % 32768) * (1 / 2 + (scN wb : ℝ)) * (1 / 4) * gridR v
        = -1 * (((scN wb : ℝ) + 1 / 2) * absR (h.toNat % 32768) * (1 / 4) * gridR v) from by ring]
    · rw [if_neg hn, if_neg hn, show absR (h.toNat % 32768) * (1 / 2 + (scN wb : ℝ)) * (1 / 4) * gridR v
        = 1 * (((scN wb : ℝ) + 1 / 2) * absR (h.toNat % 32768) * (1 / 4) * gridR v) from by ring]
  unfold wtR
  rw [hm]
  by_cases hb : negBit wb (BitVec.ofNat 32 (7 * l)) j.val = 1#1
  · rw [if_pos hb, sgR, if_pos ((negBit_iff wb l hl j).1 hb), mul_neg_one, EReal.coe_neg]
  · rw [if_neg hb, sgR, if_neg (fun e => hb ((negBit_iff wb l hl j).2 e)), mul_one]

theorem coe_max_min (a b c : ℝ) : max (a : EReal) (min (b : EReal) (c : EReal)) = ((max a (min b c) : ℝ) : EReal) := by
  rw [EReal.coe_strictMono.monotone.map_max, EReal.coe_strictMono.monotone.map_min]

/-- The magnitude nibble that the kernel picks. -/
theorem mag_value (g : IVec S256x8 8) (hg : ∀ i, g i = 8#8 ∨ g i = 25#8 ∨ g i = 43#8) (wa : BitVec 32) (r : Fin 8) (l : ℕ) (hl : l < 4)
    (j : Fin 8) :
    (magS (plane (TAB (F := Ideal) (transpose S8x256 [1, 0] g transposes_S256x8_S8x256_1_0)) 0) wa r l).toNat / 16 ^ j.val % 16
      = codeOf (g (ix2 (gridRow wa (BitVec.ofNat 32 (8 * l))) j)) := by
  have hT : ∀ i : Fin 256, transpose S8x256 [1, 0] g transposes_S256x8_S8x256_1_0 (ix2 j i) = g (ix2 i j) := by
    intro i; simp only [pointwise]
  have hc : (BitVec.ofNat 32 (8 * l)).toNat = 8 * l := by rw [BitVec.toNat_ofNat]; omega
  have hrow : (gridRow wa (BitVec.ofNat 32 (8 * l))).val = wa.toNat / 2 ^ (8 * l) % 256 := by
    show (IntOp.andi (IntOp.shrui ArithUnit.host wa (BitVec.ofNat 32 (8 * l))) 255#32).toNat = _
    rw [and_nat, shr_nat _ _ _ (8 * l) (by omega) hc, show (255#32).toNat = 2 ^ 8 - 1 from rfl, Nat.and_two_pow_sub_one_eq_mod]
  unfold magS
  rw [mag_nat _ _ (wa.toNat / 2 ^ (8 * l) / 128 % 2) j.val j.isLt (half_nat wa l hl) (Nat.mod_lt _ (by decide)), mag_entry, hT, hT]
  have hlow := low_nat wa l hl
  rcases (by omega : wa.toNat / 2 ^ (8 * l) / 128 % 2 = 0 ∨ wa.toNat / 2 ^ (8 * l) / 128 % 2 = 1) with hb | hb
  · rw [hb, pow_zero, Nat.div_one, (nibW_pick _ _ (hg _) (hg _)).1]
    refine congrArg (fun i => codeOf (g (ix2 i j))) (Fin.ext ?_)
    rw [hrow]
    exact hlow.trans (by omega)
  · rw [hb, pow_one, (nibW_pick _ _ (hg _) (hg _)).2]
    refine congrArg (fun i => codeOf (g (ix2 i j))) (Fin.ext ?_)
    rw [hrow]
    exact (congrArg (· + 128) hlow).trans (by show wa.toNat / 2 ^ (8 * l) % 128 + 128 = _; omega)

/-- The sign that the kernel picks: the reference's, times the sign of the scale. -/
theorem sgn_value (gT : IVec S8x256 8) (h : BitVec 16) (wb : BitVec 32) (r : Fin 8) (l : ℕ) (hl : l < 4) (j : Fin 8) :
    ((nibI ((sgnS (F := Ideal) (plane (TAB (F := Ideal) gT) 1) h wb r l).toNat / 16 ^ j.val % 16) : ℤ) : ℝ)
      = (if 32768 ≤ h.toNat then -1 else 1)
        * sgR (negW (BitVec.ofNat 32 (wb.toNat / 2 ^ (7 * l) % 128)) (BitVec.ofNat 32 j.val)) := by
  unfold sgnS
  rw [sgn_entry, sg_real]
  have hcode := code_nat h wb l hl
  dsimp only
  rw [hcode]
  by_cases hn : 32768 ≤ h.toNat
  · rw [if_pos hn, if_pos hn, sg_flip ⟨wb.toNat / 2 ^ (7 * l) % 128, Nat.mod_lt _ (by decide)⟩ j, neg_one_mul]
  · rw [if_neg hn, if_neg hn, one_mul]

/-- The kernel's weight is the reference's. -/
theorem weight_eq (g : IVec S256x8 8) (hg : ∀ i, g i = 8#8 ∨ g i = 25#8 ∨ g i = 43#8) (h : BitVec 16)
    (hf : h.toNat / 1024 % 32 < 31) (wa wb : BitVec 32) (r : Fin 8) (l : ℕ) (hl : l < 4) (j : Fin 8) :
    wElt (F := Ideal) (plane (TAB (F := Ideal) (transpose S8x256 [1, 0] g transposes_S256x8_S8x256_1_0)) 0)
      (plane (TAB (F := Ideal) (transpose S8x256 [1, 0] g transposes_S256x8_S8x256_1_0)) 1) h wa wb r l j.val
      = wtR h wb (BitVec.ofNat 32 (7 * l)) (g (ix2 (gridRow wa (BitVec.ofNat 32 (8 * l))) j)) j.val := by
  rw [wtR_value h hf wb l hl j _ (hg _)]
  unfold wElt
  rw [scaleS_value _ _ two_const h hf, scaleS_value _ _ mid_const h hf, scaleS_value _ _ top_const h hf, nibS_value _ _ j.isLt,
    nibS_value _ _ j.isLt, mag_value g hg wa r l hl j, sgn_value _ h wb r l hl j]
  generalize g (ix2 (gridRow wa (BitVec.ofNat 32 (8 * l))) j) = v
  generalize sgR (negW (BitVec.ofNat 32 (wb.toNat / 2 ^ (7 * l) % 128)) (BitVec.ofNat 32 j.val)) = σ
  have hP : 0 ≤ ((scN wb : ℝ) + 1 / 2) * absR (h.toNat % 32768) := mul_nonneg (by positivity) (absR_nonneg _)
  have key := pick_real v _ hP
  show max _ (min _ (_ * _)) * _ = _
  rw [← EReal.coe_mul, coe_max_min, ← EReal.coe_mul, ← mul_assoc ((scN wb : ℝ) + 1 / 2),
    ← mul_assoc ((scN wb : ℝ) + 1 / 2), ← mul_assoc ((scN wb : ℝ) + 1 / 2), key]
  congr 1
  ring

end Cert.Proof.KernelIdeal

end
-- ==== Proof.KIBody.lean ====
/- What the kernel's pipeline leaves at every point, and its run. -/
module

public import proofs.«01_k».proof.Proof.Gen.KernelIdeal.Frame
public import proofs.«01_k».proof.Proof.Gen.KernelIdeal.Points
public import proofs.«01_k».proof.Proof.KIRun
public import Idealize.ShloMosaic.Lib.Pipeline.FrameBody
public import Idealize.ShloMosaic.Lib.Ring
public import Idealize.ShloMosaic.Lib.WordCmp
public import Idealize.ShloMosaic.Lib.Claim

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents after each point -/

/-- Point `n`, the last from there on. -/
def pt (n : ℕ) : Fin cfg0.N := ⟨min n 28, by rw [show cfg0.N = 29 from N_0]; omega⟩

theorem pt_val (t : Fin cfg0.N) : pt t.val = t := Fin.ext (by
  have h : t.val < 29 := lt_of_lt_of_eq t.isLt (show cfg0.N = 29 from N_0)
  show min t.val 28 = t.val; omega)

/-- The tables, from the first point on. -/
def TT (c : Dev nD) : Vec F S2x8x128 .i32 := TAB (iblk m c 1 (pt 0))

/-- The packed `x`, from the first point on. -/
def SS (c : Dev nD) : Vec F S128x2x4096 .bf16 := k0_pay67 (iblk m c 0 (pt 0))

/-- The weights of tile `n`. -/
def WW (c : Dev nD) (n : ℕ) : Vec F S2048x2x512 .bf16 :=
  WF (F := F) (iblk m c 3 (pt n)) (iblk m c 2 (pt n)) (plane (F := F) (TT m c) 0) (plane (F := F) (TT m c) 1)

/-- The output block after point `n`, for `n ≠ 0`. -/
def OO (c : Dev nD) (n : ℕ) : Vec F S256x512 .bf16 := k0_pay3 (WW m c (n - 1)) (SS m c)

theorem idleAt0_4_A : ∀ t : Fin cfg0.N, cond0_0 (grid0.coords t) → ¬cond0_1 (grid0.coords t) → ¬cond0_2 (grid0.coords t) → cfg0.idle 4 (grid0.coords t) = true := by decide +kernel
theorem noFlush0_4_A : ∀ t : Fin cfg0.N, cond0_0 (grid0.coords t) → ¬cond0_1 (grid0.coords t) → ¬cond0_2 (grid0.coords t) → (cfg0.win 4).flush t = false := by decide +kernel
theorem liveAt0_4_B : ∀ t : Fin cfg0.N, ¬cond0_0 (grid0.coords t) → cond0_1 (grid0.coords t) → ¬cond0_2 (grid0.coords t) → cfg0.idle 4 (grid0.coords t) = false := by decide +kernel
theorem liveAt0_4_C : ∀ t : Fin cfg0.N, ¬cond0_0 (grid0.coords t) → ¬cond0_1 (grid0.coords t) → cond0_2 (grid0.coords t) → cfg0.idle 4 (grid0.coords t) = false := by decide +kernel

/-- What holds between the points: at the start nothing is known of the scratch; later the tables, the packed `x` and the
    last dequantized tile. -/
def PhiS (c : Dev nD) : (n : ℕ) → n ≤ cfg0.N → sProp 𝕄
  | 0, _ => Pipeline.ΦA spec0 c
  | n + 1, hn => iprop(iprop(owns (c : Thread nD τ) scM0_0 fullShare (TT m c) ∗ owns (c : Thread nD τ) scM0_1 fullShare (SS m c) ∗ (∃ d, owns (c : Thread nD τ) scM0_2 fullShare d) ∗ owns (c : Thread nD τ) scM0_3 fullShare (WW m c (min n 27))) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (TT m c) ∗ owns (c : Thread nD τ) scM0_1 fullShare (SS m c) ∗ (∃ d, owns (c : Thread nD τ) scM0_2 fullShare d) ∗ owns (c : Thread nD τ) scM0_3 fullShare (WW m c (min n 27))) ∗ (∃ r, prngReg c r)) := rfl

theorem PhiS_pos (c : Dev nD) (n : ℕ) (h : n ≤ cfg0.N) (hz : n ≠ 0) :
    PhiS m c n h = iprop(iprop(owns (c : Thread nD τ) scM0_0 fullShare (TT m c) ∗ owns (c : Thread nD τ) scM0_1 fullShare (SS m c) ∗ (∃ d, owns (c : Thread nD τ) scM0_2 fullShare d) ∗ owns (c : Thread nD τ) scM0_3 fullShare (WW m c (min (n - 1) 27))) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => OO m c t.val
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = OO m c t.val := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 2400000 in
/-- The body at any point: the conditions say which case it is, and the case's run gives what the point leaves. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ, PhiS_castSucc m c t]
  have hN : t.val < 29 := lt_of_lt_of_eq t.isLt (show cfg0.N = 29 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  by_cases h0 : t.val = 0
  · have hc0 : cond0_0 (grid0.coords t) := (hcond0_0 t).mpr (by omega)
    have hc1 : ¬cond0_1 (grid0.coords t) := fun h => by have := (hcond0_1 t).mp h; omega
    have hc2 : ¬cond0_2 (grid0.coords t) := fun h => by have := (hcond0_2 t).mp h; omega
    have ht : t = pt 0 := Fin.ext (by show t.val = min 0 28; omega)
    rw [Dat.leavesExact_idle (dats m 0 c) 4 t (idleAt0_4_A t hc0 hc1 hc2) (noFlush0_4_A t hc0 hc1 hc2), PhiS_zero m c _ _ h0, PhiA0_eq]
    have hT : TAB (F := F) (iblk m c 1 t) = TT m c := by rw [ht]; rfl
    have hS : k0_pay67 (F := F) (iblk m c 0 t) = SS m c := by rw [ht]; rfl
    have hW : WF (F := F) (iblk m c 3 t) (iblk m c 2 t) (plane (F := F) (TT m c) 0) (plane (F := F) (TT m c) 1) = WW m c (min t.val 27) := by
      rw [h0, ht]; rfl
    iintro ⟨⟨⟨HS0, HS1, HS2, HS3⟩, Hg⟩, Ho, ⟨%d0, H0⟩, ⟨%d1, H1⟩, ⟨%d2, H2⟩, ⟨%d3, H3⟩, ⟨%d4, H4⟩⟩
    iapply (kernelRun0_A c (grid0.coords t) _ _ _ _ _ _ _ _ _ _ _ _ _ _ _ _ _ _ hc0 hc1 hc2 (iblk m c 0 t) (iblk m c 1 t) (iblk m c 2 t) (iblk m c 3 t) _ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    isplitl [HS2]; · iexact HS2
    isplitl [HS3]; · iexact HS3
    rw [hT, hS, hW]
    iintro ⟨H0, H1, H2, H3, H4, HS0, HS1, HS2, HS3⟩
    isplitl [HS0 HS1 HS2 HS3 Hg]
    · isplitl [HS0 HS1 HS2 HS3]
      · isplitl [HS0]
        · iexact HS0
        isplitl [HS1]
        · iexact HS1
        isplitl [HS2]
        · iexact HS2
        iexact HS3
      iexact Hg
    isplitl [Ho]; · iexact Ho
    isplitl [H0]; · iexact H0
    isplitl [H1]; · iexact H1
    isplitl [H2]; · iexact H2
    isplitl [H3]; · iexact H3
    iexists _; iexact H4
  · have hc0 : ¬cond0_0 (grid0.coords t) := fun h => by have := (hcond0_0 t).mp h; omega
    rw [PhiS_pos m c _ _ h0, show min (t.val - 1) 27 = t.val - 1 from by omega]
    have hO : k0_pay3 (F := F) (WW m c (t.val - 1)) (SS m c) = OO m c t.val := rfl
    by_cases h1 : t.val ≤ 27
    · have hc1 : cond0_1 (grid0.coords t) := (hcond0_1 t).mpr (by omega)
      have hc2 : ¬cond0_2 (grid0.coords t) := fun h => by have := (hcond0_2 t).mp h; omega
      have hW : WF (F := F) (iblk m c 3 t) (iblk m c 2 t) (plane (F := F) (TT m c) 0) (plane (F := F) (TT m c) 1) = WW m c (min t.val 27) := by
        rw [show min t.val 27 = t.val from by omega]; unfold WW; rw [pt_val]
      rw [show (dats m 0 c).leavesExact 4 t = owns (c : Thread nD τ) (ms0_4 t) fullShare ((dats m 0 c).after 4 t) from by
        unfold Dat.leavesExact; rw [liveAt0_4_B t hc0 hc1 hc2], after0_4]
      iintro ⟨⟨⟨HS0, HS1, HS2, HS3⟩, Hg⟩, Ho, ⟨%d0, H0⟩, ⟨%d1, H1⟩, ⟨%d2, H2⟩, ⟨%d3, H3⟩, ⟨%d4, H4⟩⟩
      iapply (kernelRun0_B c (grid0.coords t) _ _ _ _ _ _ _ _ _ _ _ _ _ _ _ _ _ _ hc0 hc1 hc2 (iblk m c 0 t) (iblk m c 1 t) (iblk m c 2 t) (iblk m c 3 t) (TT m c) (SS m c) (WW m c (t.val - 1)) _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      isplitl [HS3]; · iexact HS3
      rw [hO, hW]
      iintro ⟨H0, H1, H2, H3, H4, HS0, HS1, HS2, HS3⟩
      isplitl [HS0 HS1 HS2 HS3 Hg]
      · isplitl [HS0 HS1 HS2 HS3]
        · isplitl [HS0]
          · iexact HS0
          isplitl [HS1]
          · iexact HS1
          isplitl [HS2]
          · iexact HS2
          iexact HS3
        iexact Hg
      isplitl [Ho]; · iexact Ho
      isplitl [H0]; · iexact H0
      isplitl [H1]; · iexact H1
      isplitl [H2]; · iexact H2
      isplitl [H3]; · iexact H3
      iexact H4
    · have hc1 : ¬cond0_1 (grid0.coords t) := fun h => by have := (hcond0_1 t).mp h; omega
      have hc2 : cond0_2 (grid0.coords t) := (hcond0_2 t).mpr (by omega)
      rw [show (dats m 0 c).leavesExact 4 t = owns (c : Thread nD τ) (ms0_4 t) fullShare ((dats m 0 c).after 4 t) from by
        unfold Dat.leavesExact; rw [liveAt0_4_C t hc0 hc1 hc2], after0_4, show min t.val 27 = t.val - 1 from by omega]
      iintro ⟨⟨⟨HS0, HS1, HS2, HS3⟩, Hg⟩, Ho, ⟨%d0, H0⟩, ⟨%d1, H1⟩, ⟨%d2, H2⟩, ⟨%d3, H3⟩, ⟨%d4, H4⟩⟩
      iapply (kernelRun0_C c (grid0.coords t) _ _ _ _ _ _ _ _ _ _ _ _ _ _ _ _ _ _ hc0 hc1 hc2 (iblk m c 0 t) (iblk m c 1 t) (iblk m c 2 t) (iblk m c 3 t) (TT m c) (SS m c) (WW m c (t.val - 1)) _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      isplitl [HS3]; · iexact HS3
      rw [hO]
      iintro ⟨H0, H1, H2, H3, H4, HS0, HS1, HS2, HS3⟩
      isplitl [HS0 HS1 HS2 HS3 Hg]
      · isplitl [HS0 HS1 HS2 HS3]
        · isplitl [HS0]
          · iexact HS0
          isplitl [HS1]
          · iexact HS1
          isplitl [HS2]
          · iexact HS2
          iexact HS3
        iexact Hg
      isplitl [Ho]; · iexact Ho
      isplitl [H0]; · iexact H0
      isplitl [H1]; · iexact H1
      isplitl [H2]; · iexact H2
      isplitl [H3]; · iexact H3
      iexact H4

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]
    · iexists _; iexact HS0
    isplitl [HS1]
    · iexists _; iexact HS1
    isplitl [HS2]
    · iexact HS2
    iexists _; iexact HS3
  iexact Hg

/-- The same after the last point. -/
theorem hout (c : Dev nD) : (dats m 0 c).Φ (Fin.last cfg0.N) ⊢ Pipeline.ΦA spec0 c :=
  Phi_out m c _ (by rw [Fin.val_last]; have : cfg0.N = 29 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame: the run ends with every argument unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Proof.KernelIdeal

end
-- ==== Proof.KIValue.lean ====
/-
  Hand-written, untrusted. What the kernel's result array holds after the run, over the ideal values: at row `t` and column `n` the
  sum over the 4096 weight rows of the activation times the weight that the kernel's tile `n / 512` decoded.
-/
module

public import proofs.«01_k».proof.Proof.KIBody
public import Idealize.ShloMosaic.Lib.Pipeline.Value
public import Idealize.ShloMosaic.Lib.Pipeline.ValueKit.Geometry
public import Idealize.ShloMosaic.Lib.Claim
public import Idealize.ShloMosaic.PureOps.Ideal.Laws

@[expose] public section

noncomputable section

namespace Cert.Proof.KernelIdeal

open Idealize.ShloMosaic Idealize.SL.Sem Cert.KernelIdeal
open Cert.KernelIdeal.Gen Idealize.ShloMosaic.TcCoe
open Idealize.ShloMosaic.Pipeline (Dat Cfg Window)

/-- Two rows to a word and back: the activations' packed words read as bf16 rows are the activations. -/
theorem unpack_rows {α : Type} (x : S256x4096.Idx → α) (y : S128x2x4096.Idx → α)
    (hy : ∀ (r : Fin 128) (p : Fin 2) (k : Fin 4096), y (ix3 r p k) = x (ix2 ⟨2 * r.val + p.val, by omega⟩ k))
    (t : Fin 256) (k : Fin 4096) :
    interleaveRows S256x4096
      (shapeCast S128x4096 (rowsOfParity 0 S128x1x4096 y bitcasts_S128x2x4096_w16_S128x1x4096_w32) shapeCasts_S128x1x4096_S128x4096)
      (shapeCast S128x4096 (rowsOfParity 1 S128x1x4096 y bitcasts_S128x2x4096_w16_S128x1x4096_w32) shapeCasts_S128x1x4096_S128x4096)
      bitcasts_S256x4096_w16_S128x4096_w32 (ix2 t k) = x (ix2 t k) := by
  have ht := t.isLt
  rw [interleaveRows_read (s := S256x4096) (t := S128x4096) (k := ix2 ⟨t.val / 2, by omega⟩ k)]
  swap
  · intro b
    match b with
    | ⟨0, _⟩ => exact ⟨fun _ => rfl, fun h => absurd rfl h⟩
    | ⟨1, _⟩ => exact ⟨fun h => absurd (show 1 + 2 = 2 from h) (by decide), fun _ => rfl⟩
  have hrow : (S256x4096).row (ix2 t k) = t.val := rfl
  have hread : ∀ p : Fin 2, shapeCast S128x4096 (rowsOfParity p S128x1x4096 y bitcasts_S128x2x4096_w16_S128x1x4096_w32)
      shapeCasts_S128x1x4096_S128x4096 (ix2 ⟨t.val / 2, by omega⟩ k) = y (ix3 ⟨t.val / 2, by omega⟩ p k) := by
    intro p
    rw [shapeCast_apply _ _ _ (ix3 ⟨t.val / 2, by omega⟩ (0 : Fin 1) k)
      (by rw [Shape.rowMajor_val_three, Shape.rowMajor_val_two]; simp)]
    refine rowsOfParity_read (s := S128x2x4096) (t := S128x1x4096) p y _ _ _ ?_
    intro a
    match a with
    | ⟨0, _⟩ => exact ⟨fun h => absurd (show 0 + 2 = 3 from h) (by decide), fun _ => rfl⟩
    | ⟨1, _⟩ => exact ⟨fun _ => by simp, fun h => absurd rfl h⟩
    | ⟨2, _⟩ => exact ⟨fun h => absurd (show 2 + 2 = 3 from h) (by decide), fun _ => rfl⟩
  rw [hrow, hread, hread, hy, hy]
  split
  · exact congrArg x (congrArg (fun z => ix2 z k) (Fin.ext (by simp only [Fin.val_zero]; omega)))
  · exact congrArg x (congrArg (fun z => ix2 z k) (Fin.ext (by simp only [Fin.val_one]; omega)))

/-- The weights' packed words read as bf16 rows: row `k` is half `k mod 2` of word row `k / 2`. -/
theorem unpack_weights {α : Type} (w : S2048x2x512.Idx → α) (k : Fin 4096) (n : Fin 512) :
    interleaveRows S4096x512
      (shapeCast S2048x512 (rowsOfParity 0 S2048x1x512 w bitcasts_S2048x2x512_w16_S2048x1x512_w32) shapeCasts_S2048x1x512_S2048x512)
      (shapeCast S2048x512 (rowsOfParity 1 S2048x1x512 w bitcasts_S2048x2x512_w16_S2048x1x512_w32) shapeCasts_S2048x1x512_S2048x512)
      bitcasts_S4096x512_w16_S2048x512_w32 (ix2 k n)
      = w (ix3 ⟨k.val / 2, by omega⟩ ⟨k.val % 2, by omega⟩ n) := by
  have hk := k.isLt
  rw [interleaveRows_read (s := S4096x512) (t := S2048x512) (k := ix2 ⟨k.val / 2, by omega⟩ n)]
  swap
  · intro b
    match b with
    | ⟨0, _⟩ => exact ⟨fun _ => rfl, fun h => absurd rfl h⟩
    | ⟨1, _⟩ => exact ⟨fun h => absurd (show 1 + 2 = 2 from h) (by decide), fun _ => rfl⟩
  have hrow : (S4096x512).row (ix2 k n) = k.val := rfl
  have hread : ∀ p : Fin 2, shapeCast S2048x512 (rowsOfParity p S2048x1x512 w bitcasts_S2048x2x512_w16_S2048x1x512_w32)
      shapeCasts_S2048x1x512_S2048x512 (ix2 ⟨k.val / 2, by omega⟩ n) = w (ix3 ⟨k.val / 2, by omega⟩ p n) := by
    intro p
    rw [shapeCast_apply _ _ _ (ix3 ⟨k.val / 2, by omega⟩ (0 : Fin 1) n)
      (by rw [Shape.rowMajor_val_three, Shape.rowMajor_val_two]; simp)]
    refine rowsOfParity_read (s := S2048x2x512) (t := S2048x1x512) p w _ _ _ ?_
    intro a
    match a with
    | ⟨0, _⟩ => exact ⟨fun h => absurd (show 0 + 2 = 3 from h) (by decide), fun _ => rfl⟩
    | ⟨1, _⟩ => exact ⟨fun _ => by simp, fun h => absurd rfl h⟩
    | ⟨2, _⟩ => exact ⟨fun h => absurd (show 2 + 2 = 3 from h) (by decide), fun _ => rfl⟩
  rw [hrow, hread, hread]
  split
  · exact congrArg w (congrArg (fun z => ix3 _ z n) (Fin.ext (by simp only [Fin.val_zero]; omega)))
  · exact congrArg w (congrArg (fun z => ix3 _ z n) (Fin.ext (by simp only [Fin.val_one]; omega)))

/-- The packed activations. -/
theorem pay67_apply {F : FTy → Type} [FloatOps F] (x : Vec F S256x4096 .bf16) (r : Fin 128) (p : Fin 2) (k : Fin 4096) :
    k0_pay67 x (ix3 r p k) = x (ix2 ⟨2 * r.val + p.val, by omega⟩ k) := by
  show interleaveRows S128x2x4096 (shapeCast S128x1x4096 (rowsOfParity 0 S128x4096 (shapeCast S256x4096 x shapeCasts_S256x4096_S256x4096) bitcasts_S256x4096_w16_S128x4096_w32) shapeCasts_S128x4096_S128x1x4096)
    (shapeCast S128x1x4096 (rowsOfParity 1 S128x4096 (shapeCast S256x4096 x shapeCasts_S256x4096_S256x4096) bitcasts_S256x4096_w16_S128x4096_w32) shapeCasts_S128x4096_S128x1x4096)
    bitcasts_S128x2x4096_w16_S128x1x4096_w32 (ix3 r p k) = _
  rw [shapeCast_self]
  have hp := p.isLt
  rw [interleaveRows_read (s := S128x2x4096) (t := S128x1x4096) (k := ix3 r (0 : Fin 1) k)]
  swap
  · intro b
    match b with
    | ⟨0, _⟩ => exact ⟨fun h => absurd (show 0 + 2 = 3 from h) (by decide), fun _ => rfl⟩
    | ⟨1, _⟩ => exact ⟨fun _ => by show 0 = p.val / 2; omega, fun h => absurd rfl h⟩
    | ⟨2, _⟩ => exact ⟨fun h => absurd (show 2 + 2 = 3 from h) (by decide), fun _ => rfl⟩
  have hrow : (S128x2x4096).row (ix3 r p k) = p.val := rfl
  have hread : ∀ q : Fin 2, shapeCast S128x1x4096 (rowsOfParity q S128x4096 x bitcasts_S256x4096_w16_S128x4096_w32)
      shapeCasts_S128x4096_S128x1x4096 (ix3 r (0 : Fin 1) k) = x (ix2 ⟨2 * r.val + q.val, by omega⟩ k) := by
    intro q
    rw [shapeCast_apply _ _ _ (ix2 r k) (by rw [Shape.rowMajor_val_three, Shape.rowMajor_val_two]; simp)]
    refine rowsOfParity_read (s := S256x4096) (t := S128x4096) q x _ _ _ ?_
    intro a
    match a with
    | ⟨0, _⟩ => exact ⟨fun _ => rfl, fun h => absurd rfl h⟩
    | ⟨1, _⟩ => exact ⟨fun h => absurd (show 1 + 2 = 2 from h) (by decide), fun _ => rfl⟩
  rw [hrow, hread, hread]
  split
  · exact congrArg x (congrArg (fun z => ix2 z k) (Fin.ext (by simp only [Fin.val_zero]; omega)))
  · exact congrArg x (congrArg (fun z => ix2 z k) (Fin.ext (by simp only [Fin.val_one]; omega)))

/-- The tile's product over the ideal values. -/
theorem pay3_apply (w : Vec Ideal S2048x2x512 .bf16) (x : Vec Ideal S256x4096 .bf16) (t : Fin 256) (n : Fin 512) :
    k0_pay3 (F := Ideal) w (k0_pay67 x) (ix2 t n)
      = ∑ k : Fin 4096, x (ix2 t k) * w (ix3 ⟨k.val / 2, by omega⟩ ⟨k.val % 2, by omega⟩ n) := by
  unfold k0_pay3
  show matmul (F := Ideal) dot_S256x4096_S4096x512_S256x512_1_0_0_1_n_n none _ _ _ (ix2 t n) = _
  have hm : ∀ (l : FVec Ideal S256x4096 .bf16) (r : FVec Ideal S4096x512 .bf16),
      matmul (F := Ideal) dot_S256x4096_S4096x512_S256x512_1_0_0_1_n_n none l r (constant S256x512 .f32 0x00000000#32) (ix2 t n)
        = ∑ k : Fin 4096, l (ix2 t k) * r (ix2 k n) := by
    intro l r
    simp only [pointwise]
    rw [zero_add]
  refine (hm _ _).trans ?_
  refine Finset.sum_congr rfl fun k _ => ?_
  rw [unpack_rows (fun i => x i) _ (fun r p k => pay67_apply (F := Ideal) x r p k) t k, unpack_weights]

variable {F : FTy → Type} [FloatOps F]
variable (m : (ℓ : Loc nD τ sig) → Buf (Elt F) ℓ) (ρ : Dev nD → PrngReg)

/-- The kernel's activations, its transposed grid and its words, as the region finds them. -/
theorem V_main_v4 (c : Dev nD) : V m c main_v4 = shapeCast S256x4096 (m ((c : Thread nD τ).loc main_arg0)) shapeCasts_S1x256x4096_S256x4096 := by
  unfold_abbrev_sides
  after_results
  rfl

theorem V_main_v5 (c : Dev nD) : V m c main_v5 = transpose S8x256 [1, 0] (m ((c : Thread nD τ).loc main_arg3)) transposes_S256x8_S8x256_1_0 := by
  unfold_abbrev_sides
  after_results

theorem V_main_v3 (c : Dev nD) : V m c main_v3 = shapeCast S128x224x128 (transpose S128x112x2x128 [0, 1, 3, 2]
    (shapeCast S128x112x128x2 (m ((c : Thread nD τ).loc main_arg1)) shapeCasts_S128x14336x2_S128x112x128x2)
    transposes_S128x112x128x2_S128x112x2x128_0_1_3_2) shapeCasts_S128x112x2x128_S128x224x128 := by
  unfold_abbrev_sides
  after_results
  rfl

/-- The words' layout: column `n`'s word `w` of sub-block `s` lies in row `2 (n / 128) + w`, lane `n mod 128`. -/
theorem words_apply (q : IVec S128x14336x2 32) (s : Fin 128) (r : Fin 224) (a : Fin 128) :
    shapeCast S128x224x128 (transpose S128x112x2x128 [0, 1, 3, 2]
      (shapeCast S128x112x128x2 q shapeCasts_S128x14336x2_S128x112x128x2)
      transposes_S128x112x128x2_S128x112x2x128_0_1_3_2) shapeCasts_S128x112x2x128_S128x224x128 (ix3 s r a)
      = q (ix3 s ⟨r.val / 2 * 128 + a.val, by omega⟩ ⟨r.val % 2, by omega⟩) := by
  rw [shapeCast_apply _ _ _ (ix4 s (⟨r.val / 2, by omega⟩ : Fin 112) (⟨r.val % 2, by omega⟩ : Fin 2) a)
    (by rw [Shape.rowMajor_val_three, Shape.rowMajor_val_four]; simp; omega)]
  have e : transpose S128x112x2x128 [0, 1, 3, 2]
      (shapeCast S128x112x128x2 q shapeCasts_S128x14336x2_S128x112x128x2)
      transposes_S128x112x128x2_S128x112x2x128_0_1_3_2 (ix4 s (⟨r.val / 2, by omega⟩ : Fin 112) (⟨r.val % 2, by omega⟩ : Fin 2) a)
      = shapeCast S128x112x128x2 q shapeCasts_S128x14336x2_S128x112x128x2
        (ix4 s (⟨r.val / 2, by omega⟩ : Fin 112) a (⟨r.val % 2, by omega⟩ : Fin 2)) := by
    simp only [pointwise]
  rw [e, shapeCast_apply _ _ _ (ix3 s ⟨r.val / 2 * 128 + a.val, by omega⟩ ⟨r.val % 2, by omega⟩)
    (by rw [Shape.rowMajor_val_three, Shape.rowMajor_val_four]; simp; omega)]

/-- The kernel's weight at row `k`, column `n`, from the arguments. -/
def KW (q : IVec S128x14336x2 32) (d : IVec S16x14336 16) (g : IVec S256x8 8) (k : Fin 4096) (n : Fin 14336) : F .bf16 :=
  wElt (F := F) (plane (TAB (F := F) (transpose S8x256 [1, 0] g transposes_S256x8_S8x256_1_0)) 0)
    (plane (TAB (F := F) (transpose S8x256 [1, 0] g transposes_S256x8_S8x256_1_0)) 1)
    (d (ix2 ⟨k.val / 256, by omega⟩ n)) (q (ix3 ⟨k.val / 32, by omega⟩ n 0)) (q (ix3 ⟨k.val / 32, by omega⟩ n 1))
    ⟨4 * (k.val / 32 % 2) + k.val % 32 / 8, by omega⟩ (k.val % 32 / 8) (k.val % 8)

theorem index0 : ∀ t : Fin cfg0.N, win0_0.index t = ![0, 0] := by decide +kernel
theorem index1 : ∀ t : Fin cfg0.N, win0_1.index t = ![0, 0] := by decide +kernel
theorem index2 : ∀ t : Fin cfg0.N, win0_2.index t = ![0, min t.val 27, 0] := by decide +kernel
theorem index3 : ∀ t : Fin cfg0.N, win0_3.index t = ![0, min t.val 27] := by decide +kernel
theorem index4 : ∀ t : Fin cfg0.N, win0_4.index t = ![0, t.val - 1] := by decide +kernel
theorem flush_pos : ∀ t : Fin cfg0.N, (cfg0.win 4).flush t = true → t.val ≠ 0 := by decide +kernel

theorem iblk0_apply (c : Dev nD) (t : Fin cfg0.N) (a : Fin 256) (k : Fin 4096) :
    iblk m c 0 t (ix2 a k) = m ((c : Thread nD τ).loc main_arg0) (ix3 0 a k) := by
  have e : iblk m c 0 t (ix2 a k) = V m c main_v4 (ix2 a k) := by
    blk_simp [iblk]
    refine congrArg (V m c main_v4) (funext fun b => Fin.ext ?_)
    match b with
    | ⟨0, _⟩ => blk_simp [index0]
    | ⟨1, _⟩ => blk_simp [index0]
  rw [e, V_main_v4]
  exact shapeCast_apply _ _ _ (ix3 0 a k) (by rw [Shape.rowMajor_val_three, Shape.rowMajor_val_two]; simp)

theorem iblk1_eq (c : Dev nD) (t : Fin cfg0.N) :
    iblk m c 1 t = transpose S8x256 [1, 0] (m ((c : Thread nD τ).loc main_arg3)) transposes_S256x8_S8x256_1_0 := by
  rw [← V_main_v5]
  funext y
  blk_simp [iblk]
  refine congrArg (V m c main_v5) (funext fun b => Fin.ext ?_)
  match b with
  | ⟨0, _⟩ => blk_simp [index1]
  | ⟨1, _⟩ => blk_simp [index1]

theorem iblk2_apply (c : Dev nD) (t : Fin cfg0.N) (s : Fin 128) (r : Fin 8) (a : Fin 128) (n : Fin 14336) (p : Fin 2)
    (hn : n.val = min t.val 27 * 512 + r.val / 2 * 128 + a.val) (hp : p.val = r.val % 2) :
    iblk m c 2 t (ix3 s r a) = m ((c : Thread nD τ).loc main_arg1) (ix3 s n p) := by
  have e : iblk m c 2 t (ix3 s r a) = V m c main_v3 (ix3 s ⟨min t.val 27 * 8 + r.val, by omega⟩ a) := by
    blk_simp [iblk]
    refine congrArg (V m c main_v3) (funext fun b => Fin.ext ?_)
    match b with
    | ⟨0, _⟩ => blk_simp [index2]
    | ⟨1, _⟩ => blk_simp [index2]
    | ⟨2, _⟩ => blk_simp [index2]
  rw [e, V_main_v3, words_apply]
  refine congrArg (m ((c : Thread nD τ).loc main_arg1)) ?_
  have e1 : (⟨(min t.val 27 * 8 + r.val) / 2 * 128 + a.val, by omega⟩ : Fin 14336) = n := Fin.ext (by show (min t.val 27 * 8 + r.val) / 2 * 128 + a.val = n.val; omega)
  have e2 : (⟨(min t.val 27 * 8 + r.val) % 2, by omega⟩ : Fin 2) = p := Fin.ext (by show (min t.val 27 * 8 + r.val) % 2 = p.val; omega)
  exact congrArg₂ (fun u v => ix3 s u v) e1 e2

theorem iblk3_apply (c : Dev nD) (t : Fin cfg0.N) (b : Fin 16) (a : Fin 512) (n : Fin 14336)
    (hn : n.val = min t.val 27 * 512 + a.val) :
    iblk m c 3 t (ix2 b a) = m ((c : Thread nD τ).loc main_arg2) (ix2 b n) := by
  rw [← V_main_arg2 m c]
  blk_simp [iblk]
  refine congrArg (V m c main_arg2) (funext fun b => Fin.ext ?_)
  match b with
  | ⟨0, _⟩ => blk_simp [index3]
  | ⟨1, _⟩ => blk_simp [index3]; exact hn.symm

theorem wElt_congr {mt mt' st st' : S8x128.Idx → BitVec 32} {h h' : BitVec 16} {wa wa' wb wb' : BitVec 32} {r r' : Fin 8} {l l' j j' : ℕ}
    (h1 : mt = mt') (h2 : st = st') (h3 : h = h') (h4 : wa = wa') (h5 : wb = wb') (h6 : r = r') (h7 : l = l') (h8 : j = j') :
    wElt (F := F) mt st h wa wb r l j = wElt mt' st' h' wa' wb' r' l' j' := by
  subst h1 h2 h3 h4 h5 h6 h7 h8; rfl

/-- A tile's weight is the weight of the arguments. -/
theorem WW_apply (c : Dev nD) (i : ℕ) (hi : i < 28) (k : Fin 4096) (n : Fin 512) (N : Fin 14336) (hN : N.val = i * 512 + n.val) :
    WW m c i (ix3 ⟨k.val / 2, by omega⟩ ⟨k.val % 2, by omega⟩ n)
      = KW (F := F) (m ((c : Thread nD τ).loc main_arg1)) (m ((c : Thread nD τ).loc main_arg2)) (m ((c : Thread nD τ).loc main_arg3)) k N := by
  have hpt : (pt i).val = i := by show min i 28 = i; omega
  show wElt (F := F) (plane (TT m c) 0) (plane (TT m c) 1) (iblk m c 3 (pt i) (ix2 ⟨k.val / 2 / 128, by omega⟩ n))
    (iblk m c 2 (pt i) (ix3 ⟨k.val / 2 / 16, by omega⟩ ⟨2 * (n.val / 128), by omega⟩ ⟨n.val % 128, by omega⟩))
    (iblk m c 2 (pt i) (ix3 ⟨k.val / 2 / 16, by omega⟩ ⟨2 * (n.val / 128) + 1, by omega⟩ ⟨n.val % 128, by omega⟩))
    ⟨4 * (k.val / 2 / 16 % 2) + k.val / 2 % 16 / 4, by omega⟩ (k.val / 2 % 16 / 4) ((2 * (k.val / 2) + k.val % 2) % 8) = _
  have e1 : (⟨k.val / 2 / 128, by omega⟩ : Fin 16) = ⟨k.val / 256, by omega⟩ := Fin.ext (by show k.val / 2 / 128 = k.val / 256; omega)
  have e2 : (⟨k.val / 2 / 16, by omega⟩ : Fin 128) = ⟨k.val / 32, by omega⟩ := Fin.ext (by show k.val / 2 / 16 = k.val / 32; omega)
  refine wElt_congr (congrArg (fun z => plane (TAB z) 0) (iblk1_eq m c (pt 0))) (congrArg (fun z => plane (TAB z) 1) (iblk1_eq m c (pt 0)))
    ?_ ?_ ?_ (Fin.ext ?_) ?_ ?_
  · refine (iblk3_apply m c (pt i) _ n N (by rw [hpt]; omega)).trans ?_
    exact congrArg (fun z => m ((c : Thread nD τ).loc main_arg2) (ix2 z N)) e1
  · refine (iblk2_apply m c (pt i) _ _ _ N 0 (by rw [hpt]; show N.val = min i 27 * 512 + 2 * (n.val / 128) / 2 * 128 + n.val % 128; omega)
      (by show 0 = 2 * (n.val / 128) % 2; omega)).trans ?_
    exact congrArg (fun z => m ((c : Thread nD τ).loc main_arg1) (ix3 z N 0)) e2
  · refine (iblk2_apply m c (pt i) _ _ _ N 1 (by rw [hpt]; show N.val = min i 27 * 512 + (2 * (n.val / 128) + 1) / 2 * 128 + n.val % 128; omega)
      (by show 1 = (2 * (n.val / 128) + 1) % 2; omega)).trans ?_
    exact congrArg (fun z => m ((c : Thread nD τ).loc main_arg1) (ix3 z N 1)) e2
  · show 4 * (k.val / 2 / 16 % 2) + k.val / 2 % 16 / 4 = 4 * (k.val / 32 % 2) + k.val % 32 / 8
    omega
  · omega
  · omega

/-- The kernel's result from the arguments. -/
def KOut (x : FVec Ideal S1x256x4096 .bf16) (q : IVec S128x14336x2 32) (d : IVec S16x14336 16) (g : IVec S256x8 8) :
    FVec Ideal S256x14336 .bf16 :=
  fun z => ∑ k : Fin 4096, x (ix3 0 (z 0) k) * KW (F := Ideal) q d g k (z 1)

theorem final_value (m : (ℓ : Loc nD τ sig) → Buf (Elt Ideal) ℓ) (c : Dev nD) :
    (dats (F := Ideal) m 0 c).arrAt 4 cfg0.N
      = KOut (m ((c : Thread nD τ).loc main_arg0)) (m ((c : Thread nD τ).loc main_arg1))
          (m ((c : Thread nD τ).loc main_arg2)) (m ((c : Thread nD τ).loc main_arg3)) := by
  refine (dats m 0 c).arrAt_eq_of_covers 4 _ (by decide +kernel) fun t hf y => ?_
  have ht := flush_pos t hf
  have hlt : t.val < 29 := t.isLt
  have hy0 : (y 0).val < 256 := (y 0).isLt
  have hy1 : (y 1).val < 512 := (y 1).isLt
  blk_simp
  rw [after0_4]
  have he : (((cfg0.win 4).blk t).view.emb y : S256x14336.Idx) = ix2 (y 0) ⟨(t.val - 1) * 512 + (y 1).val, by omega⟩ := by
    refine funext fun b => Fin.ext ?_
    match b with
    | ⟨0, _⟩ => blk_simp [index4]; rfl
    | ⟨1, _⟩ => blk_simp [index4]; rfl
  refine Eq.trans ?_ (congrArg (KOut _ _ _ _) he).symm
  have hy : (y : S256x512.Idx) = ix2 (y 0) (y 1) := ValueIdx.eq_ix2 y
  show OO m c t.val y = ∑ k : Fin 4096, _ * KW (F := Ideal) _ _ _ k ⟨(t.val - 1) * 512 + (y 1).val, _⟩
  refine (congrArg (OO m c t.val) hy).trans ?_
  refine (pay3_apply (WW m c (t.val - 1)) (iblk m c 0 (pt 0)) (y 0) (y 1)).trans ?_
  refine Finset.sum_congr rfl fun k _ => ?_
  rw [WW_apply m c (t.val - 1) (by omega) k (y 1) ⟨(t.val - 1) * 512 + (y 1).val, by omega⟩ rfl]
  exact congrArg (· * _) (iblk0_apply m c (pt 0) (y 0) k)

/-- The run over the ideal values: the result is `KOut` of the arguments, and the arguments end unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
    r.2.mem ((c.tc : Thread nD τ).loc main_v6)
      = KOut (m ((c : Thread nD τ).loc main_arg0)) (m ((c : Thread nD τ).loc main_arg1))
          (m ((c : Thread nD τ).loc main_arg2)) (m ((c : Thread nD τ).loc main_arg3))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) := by
  refine (θ_run defs _ _).mono (fun r h c => ⟨?_, h.2 c⟩) (θ_run_and (run_main (F := Ideal) m ρ) (unchanged m ρ))
  exact ((h.1 c).1 4).trans (final_value m c)

end Cert.Proof.KernelIdeal

end
-- ==== Proof.Final.lean ====
/- The result of the ideal kernel is the result of the reference, at arguments in the format. -/
module

public import proofs.«01_k».proof.Proof.Weight
public import proofs.«01_k».proof.Proof.KIValue
public import proofs.«01_k».proof.Proof.Gen.Pre_in_format
public import Idealize.ShloMosaic.Lib.ReduceAll

@[expose] public section

noncomputable section

namespace Cert.Proof.KernelIdeal

open Cert.KernelIdeal
open Idealize.ShloMosaic
open Cert.Proof.ReferenceIdeal (wtR gridRow refOut refOut_apply)

/-- Row `32 s + 8 l + j` of the weights, as the block `s`, the group `l` of the block and the element `j` of the group. -/
def rowEquiv : Fin 4 × Fin 8 × Fin 128 ≃ Fin 4096 where
  toFun p := ⟨32 * p.2.2.val + 8 * p.1.val + p.2.1.val, by omega⟩
  invFun k := (⟨k.val % 32 / 8, by omega⟩, ⟨k.val % 8, by omega⟩, ⟨k.val / 32, by omega⟩)
  left_inv p := by
    obtain ⟨l, j, s⟩ := p
    refine Prod.ext (Fin.ext ?_) (Prod.ext (Fin.ext ?_) (Fin.ext ?_))
    · show (32 * s.val + 8 * l.val + j.val) % 32 / 8 = l.val; omega
    · show (32 * s.val + 8 * l.val + j.val) % 8 = j.val; omega
    · show (32 * s.val + 8 * l.val + j.val) / 32 = s.val; omega
  right_inv k := Fin.ext (by
    show 32 * (k.val / 32) + 8 * (k.val % 32 / 8) + k.val % 8 = k.val
    omega)

/-- A sum over the rows, by group, element and block. -/
theorem sum_rows (f : Fin 4096 → EReal) :
    ∑ k : Fin 4096, f k = ∑ l : Fin 4, ∑ j : Fin 8, ∑ s : Fin 128, f ⟨32 * s.val + 8 * l.val + j.val, by omega⟩ := by
  rw [← Equiv.sum_comp rowEquiv f, Fintype.sum_prod_type]
  refine Finset.sum_congr rfl fun l _ => ?_
  rw [Fintype.sum_prod_type]
  rfl

/-- The kernel's weight at row `32 s + 8 l + j`, as the reference's. -/
theorem KW_row (q : IVec S128x14336x2 32) (d : IVec S16x14336 16) (g : IVec S256x8 8)
    (hg : ∀ i, g i = 8#8 ∨ g i = 25#8 ∨ g i = 43#8) (hd : ∀ i, (d i).toNat / 1024 % 32 < 31) (n : Fin 14336)
    (l : Fin 4) (j : Fin 8) (s : Fin 128) :
    KW (F := Ideal) q d g ⟨32 * s.val + 8 * l.val + j.val, by omega⟩ n
      = wtR (d (ix2 ⟨s.val / 8, by omega⟩ n)) (q (ix3 s n 1)) (BitVec.ofNat 32 (7 * l.val))
          (g (ix2 (gridRow (q (ix3 s n 0)) (BitVec.ofNat 32 (8 * l.val))) j)) j.val := by
  have hs : (⟨(32 * s.val + 8 * l.val + j.val) / 32, by omega⟩ : Fin 128) = s :=
    Fin.ext (by show (32 * s.val + 8 * l.val + j.val) / 32 = s.val; omega)
  refine Eq.trans ?_ (weight_eq g hg (d (ix2 ⟨s.val / 8, by omega⟩ n)) (hd _) (q (ix3 s n 0)) (q (ix3 s n 1))
    ⟨4 * (s.val % 2) + l.val, by omega⟩ l.val l.isLt j)
  unfold KW
  refine wElt_congr (F := Ideal) rfl rfl ?_ ?_ ?_ ?_ ?_ ?_
  · exact congrArg (fun i => d (ix2 i n)) (Fin.ext (by show (32 * s.val + 8 * l.val + j.val) / 256 = s.val / 8; omega))
  · exact congrArg (fun i => q (ix3 i n 0)) hs
  · exact congrArg (fun i => q (ix3 i n 1)) hs
  · refine Fin.ext ?_
    show 4 * ((32 * s.val + 8 * l.val + j.val) / 32 % 2) + (32 * s.val + 8 * l.val + j.val) % 32 / 8 = 4 * (s.val % 2) + l.val
    omega
  · show (32 * s.val + 8 * l.val + j.val) % 32 / 8 = l.val; omega
  · show (32 * s.val + 8 * l.val + j.val) % 8 = j.val; omega

/-- The two results are one function of the arguments. -/
theorem refOut_eq (x : FVec Ideal S1x256x4096 .bf16) (q : IVec S128x14336x2 32) (d : IVec S16x14336 16) (g : IVec S256x8 8)
    (hg : ∀ i, g i = 8#8 ∨ g i = 25#8 ∨ g i = 43#8) (hd : ∀ i, (d i).toNat / 1024 % 32 < 31) :
    refOut (F := Ideal) x q d g = KOut x q d g := by
  funext z
  rw [ValueIdx.eq_ix2 z]
  refine (refOut_apply x q d g (z 0) (z 1)).trans ?_
  refine Eq.symm ((sum_rows _).trans ?_)
  refine Finset.sum_congr rfl fun l _ => Finset.sum_congr rfl fun j _ => Finset.sum_congr rfl fun s _ => ?_
  exact congrArg (x _ * ·) (KW_row q d g hg hd (z 1) l j s)

/-- A grid byte read as a word. -/
theorem byte_eq (v : BitVec 8) (n : ℕ) (hn : n < 256) (h : v.setWidth 32 = BitVec.ofNat 32 n) : v = BitVec.ofNat 8 n := by
  have := congrArg BitVec.toNat h
  rw [BitVec.toNat_setWidth, BitVec.toNat_ofNat] at this
  refine BitVec.eq_of_toNat_eq ?_
  rw [BitVec.toNat_ofNat]
  have := v.isLt
  omega

instance : Subsingleton Cert.Pre_in_format.S_.Idx := ⟨fun a b => funext fun i => i.elim0⟩

/-- What the precondition says of the grid and of the scales. -/
theorem in_format (x : FVec Ideal S1x256x4096 .bf16) (q : IVec S128x14336x2 32) (d : IVec S16x14336 16) (g : IVec S256x8 8)
    (h : Cert.Pre_in_format.fn (F := Ideal) x q d g = fun _ => 1#1) :
    (∀ i, g i = 8#8 ∨ g i = 25#8 ∨ g i = 43#8) ∧ ∀ i, (d i).toNat / 1024 % 32 < 31 := by
  have h0 := congrFun h (fun i => i.elim0)
  obtain ⟨hA, hB⟩ := IntOp.andi_eq_one.1 h0
  constructor
  · intro i
    have e := Host.reduce_andi_all _ _ _ _ _ hA i
    rcases IntOp.ori_eq_one.1 e with e | e
    · rcases IntOp.ori_eq_one.1 e with e | e
      · exact Or.inl (byte_eq _ 8 (by decide) (IntOp.cmpi_eq.1 e))
      · exact Or.inr (Or.inl (byte_eq _ 25 (by decide) (IntOp.cmpi_eq.1 e)))
    · exact Or.inr (Or.inr (byte_eq _ 43 (by decide) (IntOp.cmpi_eq.1 e)))
  · intro i
    exact finite_nat (d i) (IntOp.cmpi_ne.1 (Host.reduce_andi_all _ _ _ _ _ hB i))

end Cert.Proof.KernelIdeal

end
-- ==== Proof.lean ====
/- The frames of the kernel, of its ideal program and of the reference, that the ideal program is the kernel's, and that it
   computes the reference's result. -/
module

public import proofs.«01_k».proof.Defs
public import proofs.«01_k».proof.Proof.KBody
public import proofs.«01_k».proof.Proof.Final
public import proofs.«01_k».proof.Proof.RefRun
public import proofs.«01_k».proof.Proof.Gen.Pre_in_format
public import proofs.«01_k».proof.Proof.Gen.ReferenceIdeal.Frame
public import Idealize.ShloMosaic.Lib.Bf16Pair
public import Idealize.ShloMosaic.Lib.Bf16PairInverse
public import Idealize.ShloMosaic.Adequacy
public import Idealize.ShloMosaic.Init

@[expose] public section

noncomputable section

namespace Cert.Proof

open Idealize.ShloMosaic Idealize.SL.Sem

/-- Each rewrite of the ideal program's word pairs is the library's. -/
theorem preserves : Cert.preserves_Kernel_KernelIdeal :=
  ⟨IdealRules.bf16_pair.bufferStatement _ _, IdealRules.bf16_pair.bufferStatement _ _, IdealRules.bf16_pair.bufferStatement _ _,
    IdealRules.bf16_pair.statement _ _, IdealRules.bf16_pair.statement _ _, IdealRules.bf16_pair.packStatement _,
    IdealRules.bf16_pair.statement _ _, IdealRules.bf16_pair.statement _ _, IdealRules.bf16_pair.statement _ _,
    IdealRules.bf16_pair.statement _ _, IdealRules.bf16_pair.statement _ _, IdealRules.bf16_pair.statement _ _,
    IdealRules.bf16_pair.statement _ _⟩

/-- The ideal kernel's result is the ideal reference's. -/
theorem algebraic : Cert.algebraic_KernelIdeal_ReferenceIdeal_pre_in_format := by
  intro m g m' g' hpre hargs
  refine ⟨fun c => Cert.Proof.KernelIdeal.KOut (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.Proof.KernelIdeal.run m g,
    (θ_run (Cert.ReferenceIdeal.defs (F := Ideal)) _ _).mono (fun r h c => ?_) (Cert.Proof.ReferenceIdeal.run (F := Ideal) m' g')⟩
  obtain ⟨hv, h⟩ := h c
  obtain ⟨h0, h1, h2, h3⟩ := hargs c
  obtain ⟨hg, hd⟩ := Cert.Proof.KernelIdeal.in_format _ _ _ _ (hpre c)
  refine ⟨hv.trans ?_, h⟩
  rw [h0, h1, h2, h3]
  exact Cert.Proof.KernelIdeal.refOut_eq _ _ _ _ hg hd

theorem claim : Cert.Claim :=
  ⟨Cert.Kernel.Gen.facts, Cert.KernelIdeal.Gen.facts, Cert.ReferenceIdeal.Gen.facts, Cert.Pre_in_format.Gen.facts,
    fun m ρ _ => Cert.Proof.Kernel.frame m ρ, fun m ρ _ => Cert.Proof.KernelIdeal.frame m ρ,
    fun m ρ _ => Cert.Proof.KernelIdeal.frame m ρ, fun m ρ _ => Cert.ReferenceIdeal.Gen.frame m ρ,
    fun m ρ _ => Cert.ReferenceIdeal.Gen.frame m ρ, preserves, algebraic⟩

end Cert.Proof

end
